-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries [hPre_finite_queries : Cert.Pre_finite_queries.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries [hPre_finite_queries : Cert.Pre_finite_queries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_queries [hKernelIdeal : Cert.KernelIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_queries [hReferenceIdeal : Cert.ReferenceIdeal.Facts] [hPre_finite_queries : Cert.Pre_finite_queries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "masked" .f32 0xFF000000#32 ⊥
  ∧ IdealRules.named_const.Statement Cert.KernelIdeal.κ "score_scale" .f32 0x3E8293EE#32 (((Real.sqrt 32)⁻¹ * (Real.log 2)⁻¹ : ℝ) : EReal)

def algebraic_KernelIdeal_ReferenceIdeal_pre_finite_queries [hKernelIdeal : Cert.KernelIdeal.Facts] [hReferenceIdeal : Cert.ReferenceIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_queries : Cert.Pre_finite_queries.Facts),
    quiescent_Kernel (hKernel := hKernel)
    ∧ quiescent_KernelIdeal (hKernelIdeal := hKernelIdeal)
    ∧ quiescent_KernelIdeal_pre_finite_queries (hKernelIdeal := hKernelIdeal) (hPre_finite_queries := hPre_finite_queries)
    ∧ quiescent_ReferenceIdeal (hReferenceIdeal := hReferenceIdeal)
    ∧ quiescent_ReferenceIdeal_pre_finite_queries (hReferenceIdeal := hReferenceIdeal) (hPre_finite_queries := hPre_finite_queries)
    ∧ preserves_Kernel_KernelIdeal
    ∧ algebraic_KernelIdeal_ReferenceIdeal_pre_finite_queries (hKernelIdeal := hKernelIdeal) (hReferenceIdeal := hReferenceIdeal) (hPre_finite_queries := hPre_finite_queries)
-- ==== Pre_finite_queries.lean ====
abbrev S16x300x8x32 : Shape := ⟨4, ![16, 300, 8, 32]⟩
abbrev S16x8192x8x32 : Shape := ⟨4, ![16, 8192, 8, 32]⟩
abbrev S16x8 : Shape := ⟨2, ![16, 8]⟩
abbrev S16x300x256 : Shape := ⟨3, ![16, 300, 256]⟩
abbrev S_ : Shape := ⟨0, ![]⟩

class Facts : Prop where
  bcast_S_S16x300x8x32 : S_.BroadcastsInDim S16x300x8x32 (![] : Fin 0 → Fin S16x300x8x32.rank)
  reducesTo_S16x300x8x32_S_d0_1_2_3 : S16x300x8x32.ReducesTo [0, 1, 2, 3] S_
  h_S_ : 0 < S_.numel
  bcast_S_S16x8 : S_.BroadcastsInDim S16x8 (![] : Fin 0 → Fin S16x8.rank)
  reducesTo_S16x8_S_d0_1 : S16x8.ReducesTo [0, 1] S_

variable [Facts]

def fn {F : FTy → Type} [FloatOps F] (main_arg0 : FVec F S16x300x8x32 .bf16) (main_arg1 : FVec F S16x8192x8x32 .fp8e4m3) (main_arg2 : FVec F S16x8 .f32) (main_arg3 : FVec F S16x8192x8x32 .fp8e4m3) (main_arg4 : FVec F S16x8 .f32) (main_arg5 : IVec S16x300x256 32) : IVec S_ 1 :=
  let main_v0 : FVec F S16x300x8x32 .bf16 := Host.absf main_arg0
  let main_cst : FVec F S_ .bf16 := constant S_ .bf16 0x7F80#16
  let main_v1 : FVec F S16x300x8x32 .bf16 := broadcastInDim S16x300x8x32 ![] bcast_S_S16x300x8x32 main_cst
  let main_v2 : IVec S16x300x8x32 1 := cmpf .olt main_v0 main_v1
  let main_c : IVec S_ 1 := constantI S_ 1 1#1
  let main_v3 : IVec S_ 1 := (fun x v => Host.reduce IntOp.andi x v reducesTo_S16x300x8x32_S_d0_1_2_3 h_S_) main_v2 main_c
  let main_cst_0 : FVec F S_ .f32 := constant S_ .f32 0x00000000#32
  let main_v4 : FVec F S16x8 .f32 := broadcastInDim S16x8 ![] bcast_S_S16x8 main_cst_0
  let main_v5 : IVec S16x8 1 := cmpf .oge main_arg2 main_v4
  let main_cst_1 : FVec F S_ .f32 := constant S_ .f32 0x7F800000#32
  let main_v6 : FVec F S16x8 .f32 := broadcastInDim S16x8 ![] bcast_S_S16x8 main_cst_1
  let main_v7 : IVec S16x8 1 := cmpf .olt main_arg2 main_v6
  let main_v8 : IVec S16x8 1 := andi main_v5 main_v7
  let main_c_2 : IVec S_ 1 := constantI S_ 1 1#1
  let main_v9 : IVec S_ 1 := (fun x v => Host.reduce IntOp.andi x v reducesTo_S16x8_S_d0_1 h_S_) main_v8 main_c_2
  let main_v10 : IVec S_ 1 := andi main_v3 main_v9
  main_v10
-- ==== Kernel.lean ====
abbrev S16x300x8x32 : Shape := ⟨4, ![16, 300, 8, 32]⟩
abbrev S16x8192x8x32 : Shape := ⟨4, ![16, 8192, 8, 32]⟩
abbrev S16x8 : Shape := ⟨2, ![16, 8]⟩
abbrev S16x300x256 : Shape := ⟨3, ![16, 300, 256]⟩
abbrev S16x8x32x300 : Shape := ⟨4, ![16, 8, 32, 300]⟩
abbrev S16x256x300 : Shape := ⟨3, ![16, 256, 300]⟩
abbrev S16x8x32x8192 : Shape := ⟨4, ![16, 8, 32, 8192]⟩
abbrev S16x256x8192 : Shape := ⟨3, ![16, 256, 8192]⟩
abbrev S300x16x256 : Shape := ⟨3, ![300, 16, 256]⟩
abbrev S1x32x300 : Shape := ⟨3, ![1, 32, 300]⟩
abbrev S1x32x8192 : Shape := ⟨3, ![1, 32, 8192]⟩
abbrev S300x8x128 : Shape := ⟨3, ![300, 8, 128]⟩
abbrev S1x300x256 : Shape := ⟨3, ![1, 300, 256]⟩
abbrev S2x320x128 : Shape := ⟨3, ![2, 320, 128]⟩
abbrev S10x8x8x128 : Shape := ⟨4, ![10, 8, 8, 128]⟩
abbrev S320x8192 : Shape := ⟨2, ![320, 8192]⟩
abbrev S304x256 : Shape := ⟨2, ![304, 256]⟩
abbrev S304x8192 : Shape := ⟨2, ![304, 8192]⟩
abbrev S304x128 : Shape := ⟨2, ![304, 128]⟩
abbrev S8x304x32 : Shape := ⟨3, ![8, 304, 32]⟩
abbrev S300x1x128 : Shape := ⟨3, ![300, 1, 128]⟩
abbrev S300x128 : Shape := ⟨2, ![300, 128]⟩
abbrev S300 : Shape := ⟨1, ![300]⟩
abbrev S300x1 : Shape := ⟨2, ![300, 1]⟩
abbrev S1x300x128 : Shape := ⟨3, ![1, 300, 128]⟩
abbrev S20x128 : Shape := ⟨2, ![20, 128]⟩
abbrev S1x20x128 : Shape := ⟨3, ![1, 20, 128]⟩
abbrev S8x128 : Shape := ⟨2, ![8, 128]⟩
abbrev S1x8x128 : Shape := ⟨3, ![1, 8, 128]⟩
abbrev S8x128x1 : Shape := ⟨3, ![8, 128, 1]⟩
abbrev S1x1x8x128 : Shape := ⟨4, ![1, 1, 8, 128]⟩
abbrev S32x128 : Shape := ⟨2, ![32, 128]⟩
abbrev S96x128 : Shape := ⟨2, ![96, 128]⟩
abbrev S112x128 : Shape := ⟨2, ![112, 128]⟩
abbrev S32x300 : Shape := ⟨2, ![32, 300]⟩
abbrev S1x1 : Shape := ⟨2, ![1, 1]⟩
abbrev S128x300 : Shape := ⟨2, ![128, 300]⟩
abbrev S128x4 : Shape := ⟨2, ![128, 4]⟩
abbrev S128x304 : Shape := ⟨2, ![128, 304]⟩
abbrev S32x1024 : Shape := ⟨2, ![32, 1024]⟩
abbrev S1x32x1024 : Shape := ⟨3, ![1, 32, 1024]⟩
abbrev S128x1024 : Shape := ⟨2, ![128, 1024]⟩
abbrev S256x1024 : Shape := ⟨2, ![256, 1024]⟩
abbrev S96x256 : Shape := ⟨2, ![96, 256]⟩
abbrev S96x1024 : Shape := ⟨2, ![96, 1024]⟩
abbrev S96 : Shape := ⟨1, ![96]⟩
abbrev S96x1 : Shape := ⟨2, ![96, 1]⟩
abbrev S112x256 : Shape := ⟨2, ![112, 256]⟩
abbrev S112x1024 : Shape := ⟨2, ![112, 1024]⟩
abbrev S112 : Shape := ⟨1, ![112]⟩
abbrev S112x1 : Shape := ⟨2, ![112, 1]⟩
abbrev S1x304x128 : Shape := ⟨3, ![1, 304, 128]⟩
abbrev S1 : Shape := ⟨1, ![1]⟩
abbrev S1x1x1 : Shape := ⟨3, ![1, 1, 1]⟩
abbrev S32x8192 : Shape := ⟨2, ![32, 8192]⟩
abbrev S320x32 : Shape := ⟨2, ![320, 32]⟩
abbrev S304x32 : Shape := ⟨2, ![304, 32]⟩
abbrev S1x304x32 : Shape := ⟨3, ![1, 304, 32]⟩
abbrev S300x256 : Shape := ⟨2, ![300, 256]⟩

abbrev nBuf : Space → Nat
  | .hbm => 14
  | .vmem => 21
  | .smem => 2
  | _ => 0

abbrev bufTy : (tb : Table) → Fin (tcTables nBuf tb) → BufTy
  | .hbm, ⟨0, _⟩ => ⟨S16x300x8x32, .bf16⟩
  | .hbm, ⟨1, _⟩ => ⟨S16x8192x8x32, .fp8e4m3⟩
  | .hbm, ⟨2, _⟩ => ⟨S16x8, .f32⟩
  | .hbm, ⟨3, _⟩ => ⟨S16x8192x8x32, .fp8e4m3⟩
  | .hbm, ⟨4, _⟩ => ⟨S16x8, .f32⟩
  | .hbm, ⟨5, _⟩ => ⟨S16x300x256, .i32⟩
  | .hbm, ⟨6, _⟩ => ⟨S16x8x32x300, .bf16⟩
  | .hbm, ⟨7, _⟩ => ⟨S16x256x300, .bf16⟩
  | .hbm, ⟨8, _⟩ => ⟨S16x8x32x8192, .fp8e4m3⟩
  | .hbm, ⟨9, _⟩ => ⟨S16x256x8192, .fp8e4m3⟩
  | .hbm, ⟨10, _⟩ => ⟨S16x8x32x8192, .fp8e4m3⟩
  | .hbm, ⟨11, _⟩ => ⟨S16x256x8192, .fp8e4m3⟩
  | .hbm, ⟨12, _⟩ => ⟨S300x16x256, .i32⟩
  | .hbm, ⟨13, _⟩ => ⟨S16x300x256, .bf16⟩
  | .local _ .vmem, ⟨0, _⟩ => ⟨S1x32x300, .bf16⟩
  | .local _ .vmem, ⟨1, _⟩ => ⟨S1x32x300, .bf16⟩
  | .local _ .vmem, ⟨2, _⟩ => ⟨S1x32x8192, .fp8e4m3⟩
  | .local _ .vmem, ⟨3, _⟩ => ⟨S1x32x8192, .fp8e4m3⟩
  | .local _ .vmem, ⟨4, _⟩ => ⟨S1x32x8192, .fp8e4m3⟩
  | .local _ .vmem, ⟨5, _⟩ => ⟨S1x32x8192, .fp8e4m3⟩
  | .local _ .vmem, ⟨6, _⟩ => ⟨S300x8x128, .i32⟩
  | .local _ .vmem, ⟨7, _⟩ => ⟨S300x8x128, .i32⟩
  | .local _ .vmem, ⟨8, _⟩ => ⟨S300x8x128, .i32⟩
  | .local _ .vmem, ⟨9, _⟩ => ⟨S300x8x128, .i32⟩
  | .local _ .vmem, ⟨10, _⟩ => ⟨S1x300x256, .bf16⟩
  | .local _ .vmem, ⟨11, _⟩ => ⟨S1x300x256, .bf16⟩
  | .local _ .vmem, ⟨12, _⟩ => ⟨S2x320x128, .i32⟩
  | .local _ .vmem, ⟨13, _⟩ => ⟨S10x8x8x128, .i32⟩
  | .local _ .vmem, ⟨14, _⟩ => ⟨S320x8192, .fp8e4m3⟩
  | .local _ .vmem, ⟨15, _⟩ => ⟨S304x256, .bf16⟩
  | .local _ .vmem, ⟨16, _⟩ => ⟨S304x8192, .f32⟩
  | .local _ .vmem, ⟨17, _⟩ => ⟨S320x8192, .fp8e4m3⟩
  | .local _ .vmem, ⟨18, _⟩ => ⟨S304x128, .f32⟩
  | .local _ .vmem, ⟨19, _⟩ => ⟨S304x128, .f32⟩
  | .local _ .vmem, ⟨20, _⟩ => ⟨S8x304x32, .f32⟩
  | .local _ .smem, ⟨0, _⟩ => ⟨S16x8, .f32⟩
  | .local _ .smem, ⟨1, _⟩ => ⟨S16x8, .f32⟩
  | _, _ => ⟨S16x300x8x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let c0_102 : Index := 0#32
  let arg0 : BitVec 32 := BitVec.ofNat 32 (i 0).val
  let c8_i32_96 : BitVec 32 := 8#32
  let c0_i32_97 : BitVec 32 := 0#32
  let v217 : BitVec 1 := Scalar.cmpi .eq c8_i32_96 c0_i32_97
  let c1_i32_98 : BitVec 32 := 1#32
  let v218 : BitVec 32 := Scalar.select v217 c1_i32_98 c8_i32_96
  let v219 : BitVec 32 := Scalar.remsi arg0 v218
  let c0_i32_100 : BitVec 32 := 0#32
  let v221 : BitVec 1 := Scalar.cmpi .slt v219 c0_i32_100
  let c0_i32_101 : BitVec 32 := 0#32
  let v222 : BitVec 1 := Scalar.cmpi .slt v218 c0_i32_101
  let v223 : BitVec 1 := Scalar.xori v221 v222
  let c0_i32_99 : BitVec 32 := 0#32
  let v220 : BitVec 1 := Scalar.cmpi .ne v219 c0_i32_99
  let v224 : BitVec 1 := Scalar.andi v223 v220
  let v225 : BitVec 32 := Scalar.addi v219 v218
  let v226 : BitVec 32 := Scalar.select v224 v225 v219
  let v227 : Index := Scalar.indexCast v226
  let c0_103 : Index := 0#32
  ![0, v227.toNat, 0]
@[reducible] def k0_t1_loop : Scf.Loop 32 :=
  let c0_i32_128 : BitVec 32 := 0#32
  let c80_i32 : BitVec 32 := 80#32
  let v277 : BitVec 32 := Scalar.addi c0_i32_128 c80_i32
  let c1_i32_129 : BitVec 32 := 1#32
  ⟨c0_i32_128, v277, c1_i32_129⟩
def k0_off2 (k0_t1 : Fin k0_t1_loop.trips) (c0_i32_138 : BitVec 32) : Fin 3 → Nat :=
  let c0_i32_128 : BitVec 32 := 0#32
  let c1_i32_129 : BitVec 32 := 1#32
  let arg19 : BitVec 32 := Scf.iv c0_i32_128 c1_i32_129 k0_t1
  let c8_i32_136 : BitVec 32 := 8#32
  let v280 : BitVec 32 := Scalar.remsi arg19 c8_i32_136
  let c4_i32 : BitVec 32 := 4#32
  let v282 : BitVec 32 := Scalar.divsi v280 c4_i32
  let v285 : Index := Scalar.indexCast v282
  let c32_i32 : BitVec 32 := 32#32
  let c8_i32_135 : BitVec 32 := 8#32
  let v279 : BitVec 32 := Scalar.divsi arg19 c8_i32_135
  let v283 : BitVec 32 := Scalar.muli c32_i32 v279
  let v284 : BitVec 32 := Scalar.addi v283 c0_i32_138
  let v286 : Index := Scalar.indexCast v284
  let c0_139 : Index := 0#32
  ![v285.toNat, v286.toNat, 0]
def k0_off3 (k0_t1 : Fin k0_t1_loop.trips) : Fin 4 → Nat :=
  let c0_i32_128 : BitVec 32 := 0#32
  let c1_i32_129 : BitVec 32 := 1#32
  let arg19 : BitVec 32 := Scf.iv c0_i32_128 c1_i32_129 k0_t1
  let c8_i32_135 : BitVec 32 := 8#32
  let v279 : BitVec 32 := Scalar.divsi arg19 c8_i32_135
  let v390 : Index := Scalar.indexCast v279
  let c8_i32_136 : BitVec 32 := 8#32
  let v280 : BitVec 32 := Scalar.remsi arg19 c8_i32_136
  let v391 : Index := Scalar.indexCast v280
  let c0_175 : Index := 0#32
  let c0_176 : Index := 0#32
  ![v390.toNat, v391.toNat, 0, 0]
@[reducible] def k0_t2_loop : Scf.Loop 32 :=
  let c0_i32_131 : BitVec 32 := 0#32
  let c80_i32_132 : BitVec 32 := 80#32
  let v278 : BitVec 32 := Scalar.addi c0_i32_131 c80_i32_132
  let c1_i32_133 : BitVec 32 := 1#32
  ⟨c0_i32_131, v278, c1_i32_133⟩
def k0_off4 (k0_t2 : Fin k0_t2_loop.trips) : Fin 4 → Nat :=
  let c0_i32_131 : BitVec 32 := 0#32
  let c1_i32_133 : BitVec 32 := 1#32
  let arg19 : BitVec 32 := Scf.iv c0_i32_131 c1_i32_133 k0_t2
  let c8_i32_135 : BitVec 32 := 8#32
  let v279 : BitVec 32 := Scalar.divsi arg19 c8_i32_135
  let v281 : Index := Scalar.indexCast v279
  let c8_i32_136 : BitVec 32 := 8#32
  let v280 : BitVec 32 := Scalar.remsi arg19 c8_i32_136
  let v282 : Index := Scalar.indexCast v280
  let c0_137 : Index := 0#32
  let c0_138 : Index := 0#32
  ![v281.toNat, v282.toNat, 0, 0]
def k0_mult1 (k0_t2 : Fin k0_t2_loop.trips) : BitVec 32 :=
  let c32_i32 : BitVec 32 := 32#32
  let c0_i32_131 : BitVec 32 := 0#32
  let c1_i32_133 : BitVec 32 := 1#32
  let arg19 : BitVec 32 := Scf.iv c0_i32_131 c1_i32_133 k0_t2
  let c8_i32_135 : BitVec 32 := 8#32
  let v279 : BitVec 32 := Scalar.divsi arg19 c8_i32_135
  let v301 : BitVec 32 := Scalar.muli c32_i32 v279
  v301
def k0_mult2 (k0_t2 : Fin k0_t2_loop.trips) : BitVec 32 :=
  let c1024_i32 : BitVec 32 := 1024#32
  let c0_i32_131 : BitVec 32 := 0#32
  let c1_i32_133 : BitVec 32 := 1#32
  let arg19 : BitVec 32 := Scf.iv c0_i32_131 c1_i32_133 k0_t2
  let c8_i32_136 : BitVec 32 := 8#32
  let v280 : BitVec 32 := Scalar.remsi arg19 c8_i32_136
  let v303 : BitVec 32 := Scalar.muli c1024_i32 v280
  let c0_i32_142 : BitVec 32 := 0#32
  let v304 : BitVec 32 := Scalar.addi v303 c0_i32_142
  v304
def k0_off5 (k0_t2 : Fin k0_t2_loop.trips) (c0_i32_142 : BitVec 32) : Fin 2 → Nat :=
  let c32_i32 : BitVec 32 := 32#32
  let c0_i32_131 : BitVec 32 := 0#32
  let c1_i32_133 : BitVec 32 := 1#32
  let arg19 : BitVec 32 := Scf.iv c0_i32_131 c1_i32_133 k0_t2
  let c8_i32_135 : BitVec 32 := 8#32
  let v279 : BitVec 32 := Scalar.divsi arg19 c8_i32_135
  let v301 : BitVec 32 := Scalar.muli c32_i32 v279
  let v302 : BitVec 32 := v301
  let v306 : Index := Scalar.indexCast v302
  let c1024_i32 : BitVec 32 := 1024#32
  let c8_i32_136 : BitVec 32 := 8#32
  let v280 : BitVec 32 := Scalar.remsi arg19 c8_i32_136
  let v303 : BitVec 32 := Scalar.muli c1024_i32 v280
  let v304 : BitVec 32 := Scalar.addi v303 c0_i32_142
  let v305 : BitVec 32 := v304
  let v307 : Index := Scalar.indexCast v305
  ![v306.toNat, v307.toNat]
def k0_mult3 (k0_t2 : Fin k0_t2_loop.trips) : BitVec 32 :=
  let c32_i32_147 : BitVec 32 := 32#32
  let c0_i32_131 : BitVec 32 := 0#32
  let c1_i32_133 : BitVec 32 := 1#32
  let arg19 : BitVec 32 := Scf.iv c0_i32_131 c1_i32_133 k0_t2
  let c8_i32_135 : BitVec 32 := 8#32
  let v279 : BitVec 32 := Scalar.divsi arg19 c8_i32_135
  let v327 : BitVec 32 := Scalar.muli c32_i32_147 v279
  v327
def k0_mult4 (k0_t2 : Fin k0_t2_loop.trips) : BitVec 32 :=
  let c1024_i32_148 : BitVec 32 := 1024#32
  let c0_i32_131 : BitVec 32 := 0#32
  let c1_i32_133 : BitVec 32 := 1#32
  let arg19 : BitVec 32 := Scf.iv c0_i32_131 c1_i32_133 k0_t2
  let c8_i32_136 : BitVec 32 := 8#32
  let v280 : BitVec 32 := Scalar.remsi arg19 c8_i32_136
  let v329 : BitVec 32 := Scalar.muli c1024_i32_148 v280
  let c128_i32_149 : BitVec 32 := 128#32
  let v330 : BitVec 32 := Scalar.addi v329 c128_i32_149
  v330
def k0_mult5 (k0_t2 : Fin k0_t2_loop.trips) : BitVec 32 :=
  let c32_i32_155 : BitVec 32 := 32#32
  let c0_i32_131 : BitVec 32 := 0#32
  let c1_i32_133 : BitVec 32 := 1#32
  let arg19 : BitVec 32 := Scf.iv c0_i32_131 c1_i32_133 k0_t2
  let c8_i32_135 : BitVec 32 := 8#32
  let v279 : BitVec 32 := Scalar.divsi arg19 c8_i32_135
  let v353 : BitVec 32 := Scalar.muli c32_i32_155 v279
  v353
def k0_mult6 (k0_t2 : Fin k0_t2_loop.trips) : BitVec 32 :=
  let c1024_i32_156 : BitVec 32 := 1024#32
  let c0_i32_131 : BitVec 32 := 0#32
  let c1_i32_133 : BitVec 32 := 1#32
  let arg19 : BitVec 32 := Scf.iv c0_i32_131 c1_i32_133 k0_t2
  let c8_i32_136 : BitVec 32 := 8#32
  let v280 : BitVec 32 := Scalar.remsi arg19 c8_i32_136
  let v355 : BitVec 32 := Scalar.muli c1024_i32_156 v280
  let c256_i32 : BitVec 32 := 256#32
  let v356 : BitVec 32 := Scalar.addi v355 c256_i32
  v356
def k0_mult7 (k0_t2 : Fin k0_t2_loop.trips) : BitVec 32 :=
  let c32_i32_161 : BitVec 32 := 32#32
  let c0_i32_131 : BitVec 32 := 0#32
  let c1_i32_133 : BitVec 32 := 1#32
  let arg19 : BitVec 32 := Scf.iv c0_i32_131 c1_i32_133 k0_t2
  let c8_i32_135 : BitVec 32 := 8#32
  let v279 : BitVec 32 := Scalar.divsi arg19 c8_i32_135
  let v379 : BitVec 32 := Scalar.muli c32_i32_161 v279
  v379
def k0_mult8 (k0_t2 : Fin k0_t2_loop.trips) : BitVec 32 :=
  let c1024_i32_162 : BitVec 32 := 1024#32
  let c0_i32_131 : BitVec 32 := 0#32
  let c1_i32_133 : BitVec 32 := 1#32
  let arg19 : BitVec 32 := Scf.iv c0_i32_131 c1_i32_133 k0_t2
  let c8_i32_136 : BitVec 32 := 8#32
  let v280 : BitVec 32 := Scalar.remsi arg19 c8_i32_136
  let v381 : BitVec 32 := Scalar.muli c1024_i32_162 v280
  let c384_i32 : BitVec 32 := 384#32
  let v382 : BitVec 32 := Scalar.addi v381 c384_i32
  v382
def k0_mult9 (k0_t2 : Fin k0_t2_loop.trips) : BitVec 32 :=
  let c32_i32_168 : BitVec 32 := 32#32
  let c0_i32_131 : BitVec 32 := 0#32
  let c1_i32_133 : BitVec 32 := 1#32
  let arg19 : BitVec 32 := Scf.iv c0_i32_131 c1_i32_133 k0_t2
  let c8_i32_135 : BitVec 32 := 8#32
  let v279 : BitVec 32 := Scalar.divsi arg19 c8_i32_135
  let v405 : BitVec 32 := Scalar.muli c32_i32_168 v279
  v405
def k0_mult10 (k0_t2 : Fin k0_t2_loop.trips) : BitVec 32 :=
  let c1024_i32_169 : BitVec 32 := 1024#32
  let c0_i32_131 : BitVec 32 := 0#32
  let c1_i32_133 : BitVec 32 := 1#32
  let arg19 : BitVec 32 := Scf.iv c0_i32_131 c1_i32_133 k0_t2
  let c8_i32_136 : BitVec 32 := 8#32
  let v280 : BitVec 32 := Scalar.remsi arg19 c8_i32_136
  let v407 : BitVec 32 := Scalar.muli c1024_i32_169 v280
  let c512_i32 : BitVec 32 := 512#32
  let v408 : BitVec 32 := Scalar.addi v407 c512_i32
  v408
def k0_mult11 (k0_t2 : Fin k0_t2_loop.trips) : BitVec 32 :=
  let c32_i32_175 : BitVec 32 := 32#32
  let c0_i32_131 : BitVec 32 := 0#32
  let c1_i32_133 : BitVec 32 := 1#32
  let arg19 : BitVec 32 := Scf.iv c0_i32_131 c1_i32_133 k0_t2
  let c8_i32_135 : BitVec 32 := 8#32
  let v279 : BitVec 32 := Scalar.divsi arg19 c8_i32_135
  let v431 : BitVec 32 := Scalar.muli c32_i32_175 v279
  v431
def k0_mult12 (k0_t2 : Fin k0_t2_loop.trips) : BitVec 32 :=
  let c1024_i32_176 : BitVec 32 := 1024#32
  let c0_i32_131 : BitVec 32 := 0#32
  let c1_i32_133 : BitVec 32 := 1#32
  let arg19 : BitVec 32 := Scf.iv c0_i32_131 c1_i32_133 k0_t2
  let c8_i32_136 : BitVec 32 := 8#32
  let v280 : BitVec 32 := Scalar.remsi arg19 c8_i32_136
  let v433 : BitVec 32 := Scalar.muli c1024_i32_176 v280
  let c640_i32 : BitVec 32 := 640#32
  let v434 : BitVec 32 := Scalar.addi v433 c640_i32
  v434
def k0_mult13 (k0_t2 : Fin k0_t2_loop.trips) : BitVec 32 :=
  let c32_i32_181 : BitVec 32 := 32#32
  let c0_i32_131 : BitVec 32 := 0#32
  let c1_i32_133 : BitVec 32 := 1#32
  let arg19 : BitVec 32 := Scf.iv c0_i32_131 c1_i32_133 k0_t2
  let c8_i32_135 : BitVec 32 := 8#32
  let v279 : BitVec 32 := Scalar.divsi arg19 c8_i32_135
  let v457 : BitVec 32 := Scalar.muli c32_i32_181 v279
  v457
def k0_mult14 (k0_t2 : Fin k0_t2_loop.trips) : BitVec 32 :=
  let c1024_i32_182 : BitVec 32 := 1024#32
  let c0_i32_131 : BitVec 32 := 0#32
  let c1_i32_133 : BitVec 32 := 1#32
  let arg19 : BitVec 32 := Scf.iv c0_i32_131 c1_i32_133 k0_t2
  let c8_i32_136 : BitVec 32 := 8#32
  let v280 : BitVec 32 := Scalar.remsi arg19 c8_i32_136
  let v459 : BitVec 32 := Scalar.muli c1024_i32_182 v280
  let c768_i32 : BitVec 32 := 768#32
  let v460 : BitVec 32 := Scalar.addi v459 c768_i32
  v460
def k0_mult15 (k0_t2 : Fin k0_t2_loop.trips) : BitVec 32 :=
  let c32_i32_187 : BitVec 32 := 32#32
  let c0_i32_131 : BitVec 32 := 0#32
  let c1_i32_133 : BitVec 32 := 1#32
  let arg19 : BitVec 32 := Scf.iv c0_i32_131 c1_i32_133 k0_t2
  let c8_i32_135 : BitVec 32 := 8#32
  let v279 : BitVec 32 := Scalar.divsi arg19 c8_i32_135
  let v483 : BitVec 32 := Scalar.muli c32_i32_187 v279
  v483
def k0_mult16 (k0_t2 : Fin k0_t2_loop.trips) : BitVec 32 :=
  let c1024_i32_188 : BitVec 32 := 1024#32
  let c0_i32_131 : BitVec 32 := 0#32
  let c1_i32_133 : BitVec 32 := 1#32
  let arg19 : BitVec 32 := Scf.iv c0_i32_131 c1_i32_133 k0_t2
  let c8_i32_136 : BitVec 32 := 8#32
  let v280 : BitVec 32 := Scalar.remsi arg19 c8_i32_136
  let v485 : BitVec 32 := Scalar.muli c1024_i32_188 v280
  let c896_i32 : BitVec 32 := 896#32
  let v486 : BitVec 32 := Scalar.addi v485 c896_i32
  v486
def k0_off6 (i : grid0.Coords) : Fin 2 → Nat :=
  let arg0 : BitVec 32 := BitVec.ofNat 32 (i 0).val
  let v11 : Index := Scalar.indexCast arg0
  let arg1 : BitVec 32 := BitVec.ofNat 32 (i 1).val
  let v12 : Index := Scalar.indexCast arg1
  ![v11.toNat, v12.toNat]
@[reducible] def k0_t3_loop : Scf.Loop 32 :=
  let c0_i32_15 : BitVec 32 := 0#32
  let c8_i32 : BitVec 32 := 8#32
  let v42 : BitVec 32 := Scalar.addi c0_i32_15 c8_i32
  let c1_i32 : BitVec 32 := 1#32
  ⟨c0_i32_15, v42, c1_i32⟩
def k0_mult17 (k0_t3 : Fin k0_t3_loop.trips) : BitVec 32 :=
  let c0_i32_15 : BitVec 32 := 0#32
  let c1_i32 : BitVec 32 := 1#32
  let arg19 : BitVec 32 := Scf.iv c0_i32_15 c1_i32 k0_t3
  let c1024_i32 : BitVec 32 := 1024#32
  let v217 : BitVec 32 := Scalar.muli arg19 c1024_i32
  v217
def k0_off7 (k0_t3 : Fin k0_t3_loop.trips) : Fin 3 → Nat :=
  let c0_96 : Index := 0#32
  let c0_97 : Index := 0#32
  let c0_i32_15 : BitVec 32 := 0#32
  let c1_i32 : BitVec 32 := 1#32
  let arg19 : BitVec 32 := Scf.iv c0_i32_15 c1_i32 k0_t3
  let c1024_i32 : BitVec 32 := 1024#32
  let v217 : BitVec 32 := Scalar.muli arg19 c1024_i32
  let v218 : BitVec 32 := v217
  let v219 : Index := Scalar.indexCast v218
  ![0, 0, v219.toNat]
def k0_off8 (k0_t3 : Fin k0_t3_loop.trips) : Fin 2 → Nat :=
  let c0_98 : Index := 0#32
  let c0_i32_15 : BitVec 32 := 0#32
  let c1_i32 : BitVec 32 := 1#32
  let arg19 : BitVec 32 := Scf.iv c0_i32_15 c1_i32 k0_t3
  let c1024_i32 : BitVec 32 := 1024#32
  let v217 : BitVec 32 := Scalar.muli arg19 c1024_i32
  let v218 : BitVec 32 := v217
  let v222 : Index := Scalar.indexCast v218
  ![0, v222.toNat]
def k0_off9 (k0_t3 : Fin k0_t3_loop.trips) : Fin 2 → Nat :=
  let c0_102 : Index := 0#32
  let c0_i32_15 : BitVec 32 := 0#32
  let c1_i32 : BitVec 32 := 1#32
  let arg19 : BitVec 32 := Scf.iv c0_i32_15 c1_i32 k0_t3
  let c1024_i32 : BitVec 32 := 1024#32
  let v217 : BitVec 32 := Scalar.muli arg19 c1024_i32
  let v218 : BitVec 32 := v217
  let v228 : Index := Scalar.indexCast v218
  ![0, v228.toNat]
@[reducible] def k0_t4_loop : Scf.Loop 32 :=
  let c0_i32_25 : BitVec 32 := 0#32
  let c8_i32_26 : BitVec 32 := 8#32
  let v60 : BitVec 32 := Scalar.addi c0_i32_25 c8_i32_26
  let c1_i32_27 : BitVec 32 := 1#32
  ⟨c0_i32_25, v60, c1_i32_27⟩
def k0_mult18 (k0_t4 : Fin k0_t4_loop.trips) : BitVec 32 :=
  let c0_i32_25 : BitVec 32 := 0#32
  let c1_i32_27 : BitVec 32 := 1#32
  let arg19 : BitVec 32 := Scf.iv c0_i32_25 c1_i32_27 k0_t4
  let c1024_i32 : BitVec 32 := 1024#32
  let v217 : BitVec 32 := Scalar.muli arg19 c1024_i32
  v217
def k0_off10 (k0_t4 : Fin k0_t4_loop.trips) : Fin 3 → Nat :=
  let c0_96 : Index := 0#32
  let c0_97 : Index := 0#32
  let c0_i32_25 : BitVec 32 := 0#32
  let c1_i32_27 : BitVec 32 := 1#32
  let arg19 : BitVec 32 := Scf.iv c0_i32_25 c1_i32_27 k0_t4
  let c1024_i32 : BitVec 32 := 1024#32
  let v217 : BitVec 32 := Scalar.muli arg19 c1024_i32
  let v218 : BitVec 32 := v217
  let v219 : Index := Scalar.indexCast v218
  ![0, 0, v219.toNat]
def k0_off11 (k0_t4 : Fin k0_t4_loop.trips) : Fin 2 → Nat :=
  let c96_98 : Index := 96#32
  let c0_i32_25 : BitVec 32 := 0#32
  let c1_i32_27 : BitVec 32 := 1#32
  let arg19 : BitVec 32 := Scf.iv c0_i32_25 c1_i32_27 k0_t4
  let c1024_i32 : BitVec 32 := 1024#32
  let v217 : BitVec 32 := Scalar.muli arg19 c1024_i32
  let v218 : BitVec 32 := v217
  let v222 : Index := Scalar.indexCast v218
  ![96, v222.toNat]
def k0_off12 (k0_t4 : Fin k0_t4_loop.trips) : Fin 2 → Nat :=
  let c96_102 : Index := 96#32
  let c0_i32_25 : BitVec 32 := 0#32
  let c1_i32_27 : BitVec 32 := 1#32
  let arg19 : BitVec 32 := Scf.iv c0_i32_25 c1_i32_27 k0_t4
  let c1024_i32 : BitVec 32 := 1024#32
  let v217 : BitVec 32 := Scalar.muli arg19 c1024_i32
  let v218 : BitVec 32 := v217
  let v228 : Index := Scalar.indexCast v218
  ![96, v228.toNat]
@[reducible] def k0_t5_loop : Scf.Loop 32 :=
  let c0_i32_36 : BitVec 32 := 0#32
  let c8_i32_37 : BitVec 32 := 8#32
  let v78 : BitVec 32 := Scalar.addi c0_i32_36 c8_i32_37
  let c1_i32_38 : BitVec 32 := 1#32
  ⟨c0_i32_36, v78, c1_i32_38⟩
def k0_mult19 (k0_t5 : Fin k0_t5_loop.trips) : BitVec 32 :=
  let c0_i32_36 : BitVec 32 := 0#32
  let c1_i32_38 : BitVec 32 := 1#32
  let arg19 : BitVec 32 := Scf.iv c0_i32_36 c1_i32_38 k0_t5
  let c1024_i32 : BitVec 32 := 1024#32
  let v217 : BitVec 32 := Scalar.muli arg19 c1024_i32
  v217
def k0_off13 (k0_t5 : Fin k0_t5_loop.trips) : Fin 3 → Nat :=
  let c0_96 : Index := 0#32
  let c0_97 : Index := 0#32
  let c0_i32_36 : BitVec 32 := 0#32
  let c1_i32_38 : BitVec 32 := 1#32
  let arg19 : BitVec 32 := Scf.iv c0_i32_36 c1_i32_38 k0_t5
  let c1024_i32 : BitVec 32 := 1024#32
  let v217 : BitVec 32 := Scalar.muli arg19 c1024_i32
  let v218 : BitVec 32 := v217
  let v219 : Index := Scalar.indexCast v218
  ![0, 0, v219.toNat]
def k0_off14 (k0_t5 : Fin k0_t5_loop.trips) : Fin 2 → Nat :=
  let c192_98 : Index := 192#32
  let c0_i32_36 : BitVec 32 := 0#32
  let c1_i32_38 : BitVec 32 := 1#32
  let arg19 : BitVec 32 := Scf.iv c0_i32_36 c1_i32_38 k0_t5
  let c1024_i32 : BitVec 32 := 1024#32
  let v217 : BitVec 32 := Scalar.muli arg19 c1024_i32
  let v218 : BitVec 32 := v217
  let v222 : Index := Scalar.indexCast v218
  ![192, v222.toNat]
def k0_off15 (k0_t5 : Fin k0_t5_loop.trips) : Fin 2 → Nat :=
  let c192_102 : Index := 192#32
  let c0_i32_36 : BitVec 32 := 0#32
  let c1_i32_38 : BitVec 32 := 1#32
  let arg19 : BitVec 32 := Scf.iv c0_i32_36 c1_i32_38 k0_t5
  let c1024_i32 : BitVec 32 := 1024#32
  let v217 : BitVec 32 := Scalar.muli arg19 c1024_i32
  let v218 : BitVec 32 := v217
  let v228 : Index := Scalar.indexCast v218
  ![192, v228.toNat]
@[reducible] def k0_t6_loop : Scf.Loop 32 :=
  let c0_i32_105 : BitVec 32 := 0#32
  let c8_i32_106 : BitVec 32 := 8#32
  let v231 : BitVec 32 := Scalar.addi c0_i32_105 c8_i32_106
  let c1_i32_107 : BitVec 32 := 1#32
  ⟨c0_i32_105, v231, c1_i32_107⟩
def k0_mult20 (k0_t6 : Fin k0_t6_loop.trips) : BitVec 32 :=
  let c0_i32_105 : BitVec 32 := 0#32
  let c1_i32_107 : BitVec 32 := 1#32
  let arg19 : BitVec 32 := Scf.iv c0_i32_105 c1_i32_107 k0_t6
  let c1024_i32 : BitVec 32 := 1024#32
  let v283 : BitVec 32 := Scalar.muli arg19 c1024_i32
  v283
def k0_off16 (k0_t6 : Fin k0_t6_loop.trips) : Fin 3 → Nat :=
  let c0_139 : Index := 0#32
  let c0_140 : Index := 0#32
  let c0_i32_105 : BitVec 32 := 0#32
  let c1_i32_107 : BitVec 32 := 1#32
  let arg19 : BitVec 32 := Scf.iv c0_i32_105 c1_i32_107 k0_t6
  let c1024_i32 : BitVec 32 := 1024#32
  let v283 : BitVec 32 := Scalar.muli arg19 c1024_i32
  let v284 : BitVec 32 := v283
  let v285 : Index := Scalar.indexCast v284
  ![0, 0, v285.toNat]
def k0_off17 (k0_t6 : Fin k0_t6_loop.trips) : Fin 2 → Nat :=
  let c0_141 : Index := 0#32
  let c0_i32_105 : BitVec 32 := 0#32
  let c1_i32_107 : BitVec 32 := 1#32
  let arg19 : BitVec 32 := Scf.iv c0_i32_105 c1_i32_107 k0_t6
  let c1024_i32 : BitVec 32 := 1024#32
  let v283 : BitVec 32 := Scalar.muli arg19 c1024_i32
  let v284 : BitVec 32 := v283
  let v288 : Index := Scalar.indexCast v284
  ![0, v288.toNat]
def k0_off18 (k0_t6 : Fin k0_t6_loop.trips) : Fin 2 → Nat :=
  let c0_145 : Index := 0#32
  let c0_i32_105 : BitVec 32 := 0#32
  let c1_i32_107 : BitVec 32 := 1#32
  let arg19 : BitVec 32 := Scf.iv c0_i32_105 c1_i32_107 k0_t6
  let c1024_i32 : BitVec 32 := 1024#32
  let v283 : BitVec 32 := Scalar.muli arg19 c1024_i32
  let v284 : BitVec 32 := v283
  let v294 : Index := Scalar.indexCast v284
  ![0, v294.toNat]
@[reducible] def k0_t7_loop : Scf.Loop 32 :=
  let c0_i32_117 : BitVec 32 := 0#32
  let c8_i32_118 : BitVec 32 := 8#32
  let v249 : BitVec 32 := Scalar.addi c0_i32_117 c8_i32_118
  let c1_i32_119 : BitVec 32 := 1#32
  ⟨c0_i32_117, v249, c1_i32_119⟩
def k0_mult21 (k0_t7 : Fin k0_t7_loop.trips) : BitVec 32 :=
  let c0_i32_117 : BitVec 32 := 0#32
  let c1_i32_119 : BitVec 32 := 1#32
  let arg19 : BitVec 32 := Scf.iv c0_i32_117 c1_i32_119 k0_t7
  let c1024_i32 : BitVec 32 := 1024#32
  let v283 : BitVec 32 := Scalar.muli arg19 c1024_i32
  v283
def k0_off19 (k0_t7 : Fin k0_t7_loop.trips) : Fin 3 → Nat :=
  let c0_139 : Index := 0#32
  let c0_140 : Index := 0#32
  let c0_i32_117 : BitVec 32 := 0#32
  let c1_i32_119 : BitVec 32 := 1#32
  let arg19 : BitVec 32 := Scf.iv c0_i32_117 c1_i32_119 k0_t7
  let c1024_i32 : BitVec 32 := 1024#32
  let v283 : BitVec 32 := Scalar.muli arg19 c1024_i32
  let v284 : BitVec 32 := v283
  let v285 : Index := Scalar.indexCast v284
  ![0, 0, v285.toNat]
def k0_off20 (k0_t7 : Fin k0_t7_loop.trips) : Fin 2 → Nat :=
  let c96_141 : Index := 96#32
  let c0_i32_117 : BitVec 32 := 0#32
  let c1_i32_119 : BitVec 32 := 1#32
  let arg19 : BitVec 32 := Scf.iv c0_i32_117 c1_i32_119 k0_t7
  let c1024_i32 : BitVec 32 := 1024#32
  let v283 : BitVec 32 := Scalar.muli arg19 c1024_i32
  let v284 : BitVec 32 := v283
  let v288 : Index := Scalar.indexCast v284
  ![96, v288.toNat]
def k0_off21 (k0_t7 : Fin k0_t7_loop.trips) : Fin 2 → Nat :=
  let c96_145 : Index := 96#32
  let c0_i32_117 : BitVec 32 := 0#32
  let c1_i32_119 : BitVec 32 := 1#32
  let arg19 : BitVec 32 := Scf.iv c0_i32_117 c1_i32_119 k0_t7
  let c1024_i32 : BitVec 32 := 1024#32
  let v283 : BitVec 32 := Scalar.muli arg19 c1024_i32
  let v284 : BitVec 32 := v283
  let v294 : Index := Scalar.indexCast v284
  ![96, v294.toNat]
@[reducible] def k0_t8_loop : Scf.Loop 32 :=
  let c0_i32_129 : BitVec 32 := 0#32
  let c8_i32_130 : BitVec 32 := 8#32
  let v267 : BitVec 32 := Scalar.addi c0_i32_129 c8_i32_130
  let c1_i32_131 : BitVec 32 := 1#32
  ⟨c0_i32_129, v267, c1_i32_131⟩
def k0_mult22 (k0_t8 : Fin k0_t8_loop.trips) : BitVec 32 :=
  let c0_i32_129 : BitVec 32 := 0#32
  let c1_i32_131 : BitVec 32 := 1#32
  let arg19 : BitVec 32 := Scf.iv c0_i32_129 c1_i32_131 k0_t8
  let c1024_i32 : BitVec 32 := 1024#32
  let v283 : BitVec 32 := Scalar.muli arg19 c1024_i32
  v283
def k0_off22 (k0_t8 : Fin k0_t8_loop.trips) : Fin 3 → Nat :=
  let c0_139 : Index := 0#32
  let c0_140 : Index := 0#32
  let c0_i32_129 : BitVec 32 := 0#32
  let c1_i32_131 : BitVec 32 := 1#32
  let arg19 : BitVec 32 := Scf.iv c0_i32_129 c1_i32_131 k0_t8
  let c1024_i32 : BitVec 32 := 1024#32
  let v283 : BitVec 32 := Scalar.muli arg19 c1024_i32
  let v284 : BitVec 32 := v283
  let v285 : Index := Scalar.indexCast v284
  ![0, 0, v285.toNat]
def k0_off23 (k0_t8 : Fin k0_t8_loop.trips) : Fin 2 → Nat :=
  let c192_141 : Index := 192#32
  let c0_i32_129 : BitVec 32 := 0#32
  let c1_i32_131 : BitVec 32 := 1#32
  let arg19 : BitVec 32 := Scf.iv c0_i32_129 c1_i32_131 k0_t8
  let c1024_i32 : BitVec 32 := 1024#32
  let v283 : BitVec 32 := Scalar.muli arg19 c1024_i32
  let v284 : BitVec 32 := v283
  let v288 : Index := Scalar.indexCast v284
  ![192, v288.toNat]
def k0_off24 (k0_t8 : Fin k0_t8_loop.trips) : Fin 2 → Nat :=
  let c192_145 : Index := 192#32
  let c0_i32_129 : BitVec 32 := 0#32
  let c1_i32_131 : BitVec 32 := 1#32
  let arg19 : BitVec 32 := Scf.iv c0_i32_129 c1_i32_131 k0_t8
  let c1024_i32 : BitVec 32 := 1024#32
  let v283 : BitVec 32 := Scalar.muli arg19 c1024_i32
  let v284 : BitVec 32 := v283
  let v294 : Index := Scalar.indexCast v284
  ![192, v294.toNat]
@[reducible] def k0_t9_loop : Scf.Loop 32 :=
  let c0_i32_76 : BitVec 32 := 0#32
  let c64_i32 : BitVec 32 := 64#32
  let v193 : BitVec 32 := Scalar.addi c0_i32_76 c64_i32
  let c1_i32_77 : BitVec 32 := 1#32
  ⟨c0_i32_76, v193, c1_i32_77⟩
def k0_mult23 (k0_t9 : Fin k0_t9_loop.trips) : BitVec 32 :=
  let c0_i32_76 : BitVec 32 := 0#32
  let c1_i32_77 : BitVec 32 := 1#32
  let arg19 : BitVec 32 := Scf.iv c0_i32_76 c1_i32_77 k0_t9
  let c128_i32 : BitVec 32 := 128#32
  let v217 : BitVec 32 := Scalar.muli arg19 c128_i32
  v217
def k0_off25 (k0_t9 : Fin k0_t9_loop.trips) : Fin 2 → Nat :=
  let c0_96 : Index := 0#32
  let c0_i32_76 : BitVec 32 := 0#32
  let c1_i32_77 : BitVec 32 := 1#32
  let arg19 : BitVec 32 := Scf.iv c0_i32_76 c1_i32_77 k0_t9
  let c128_i32 : BitVec 32 := 128#32
  let v217 : BitVec 32 := Scalar.muli arg19 c128_i32
  let v218 : BitVec 32 := v217
  let v219 : Index := Scalar.indexCast v218
  ![0, v219.toNat]
def k0_off26 (k0_t9 : Fin k0_t9_loop.trips) : Fin 2 → Nat :=
  let c0_97 : Index := 0#32
  let c0_i32_76 : BitVec 32 := 0#32
  let c1_i32_77 : BitVec 32 := 1#32
  let arg19 : BitVec 32 := Scf.iv c0_i32_76 c1_i32_77 k0_t9
  let c128_i32 : BitVec 32 := 128#32
  let v217 : BitVec 32 := Scalar.muli arg19 c128_i32
  let v218 : BitVec 32 := v217
  let v223 : Index := Scalar.indexCast v218
  ![0, v223.toNat]
@[reducible] def k0_t10_loop : Scf.Loop 32 :=
  let c0_i32_79 : BitVec 32 := 0#32
  let c64_i32_80 : BitVec 32 := 64#32
  let v195 : BitVec 32 := Scalar.addi c0_i32_79 c64_i32_80
  let c1_i32_81 : BitVec 32 := 1#32
  ⟨c0_i32_79, v195, c1_i32_81⟩
def k0_mult24 (k0_t10 : Fin k0_t10_loop.trips) : BitVec 32 :=
  let c0_i32_79 : BitVec 32 := 0#32
  let c1_i32_81 : BitVec 32 := 1#32
  let arg19 : BitVec 32 := Scf.iv c0_i32_79 c1_i32_81 k0_t10
  let c128_i32 : BitVec 32 := 128#32
  let v217 : BitVec 32 := Scalar.muli arg19 c128_i32
  v217
def k0_off27 (k0_t10 : Fin k0_t10_loop.trips) : Fin 2 → Nat :=
  let c96_96 : Index := 96#32
  let c0_i32_79 : BitVec 32 := 0#32
  let c1_i32_81 : BitVec 32 := 1#32
  let arg19 : BitVec 32 := Scf.iv c0_i32_79 c1_i32_81 k0_t10
  let c128_i32 : BitVec 32 := 128#32
  let v217 : BitVec 32 := Scalar.muli arg19 c128_i32
  let v218 : BitVec 32 := v217
  let v219 : Index := Scalar.indexCast v218
  ![96, v219.toNat]
def k0_off28 (k0_t10 : Fin k0_t10_loop.trips) : Fin 2 → Nat :=
  let c96_97 : Index := 96#32
  let c0_i32_79 : BitVec 32 := 0#32
  let c1_i32_81 : BitVec 32 := 1#32
  let arg19 : BitVec 32 := Scf.iv c0_i32_79 c1_i32_81 k0_t10
  let c128_i32 : BitVec 32 := 128#32
  let v217 : BitVec 32 := Scalar.muli arg19 c128_i32
  let v218 : BitVec 32 := v217
  let v223 : Index := Scalar.indexCast v218
  ![96, v223.toNat]
@[reducible] def k0_t11_loop : Scf.Loop 32 :=
  let c0_i32_83 : BitVec 32 := 0#32
  let c64_i32_84 : BitVec 32 := 64#32
  let v197 : BitVec 32 := Scalar.addi c0_i32_83 c64_i32_84
  let c1_i32_85 : BitVec 32 := 1#32
  ⟨c0_i32_83, v197, c1_i32_85⟩
def k0_mult25 (k0_t11 : Fin k0_t11_loop.trips) : BitVec 32 :=
  let c0_i32_83 : BitVec 32 := 0#32
  let c1_i32_85 : BitVec 32 := 1#32
  let arg19 : BitVec 32 := Scf.iv c0_i32_83 c1_i32_85 k0_t11
  let c128_i32 : BitVec 32 := 128#32
  let v217 : BitVec 32 := Scalar.muli arg19 c128_i32
  v217
def k0_off29 (k0_t11 : Fin k0_t11_loop.trips) : Fin 2 → Nat :=
  let c192_96 : Index := 192#32
  let c0_i32_83 : BitVec 32 := 0#32
  let c1_i32_85 : BitVec 32 := 1#32
  let arg19 : BitVec 32 := Scf.iv c0_i32_83 c1_i32_85 k0_t11
  let c128_i32 : BitVec 32 := 128#32
  let v217 : BitVec 32 := Scalar.muli arg19 c128_i32
  let v218 : BitVec 32 := v217
  let v219 : Index := Scalar.indexCast v218
  ![192, v219.toNat]
def k0_off30 (k0_t11 : Fin k0_t11_loop.trips) : Fin 2 → Nat :=
  let c192_97 : Index := 192#32
  let c0_i32_83 : BitVec 32 := 0#32
  let c1_i32_85 : BitVec 32 := 1#32
  let arg19 : BitVec 32 := Scf.iv c0_i32_83 c1_i32_85 k0_t11
  let c128_i32 : BitVec 32 := 128#32
  let v217 : BitVec 32 := Scalar.muli arg19 c128_i32
  let v218 : BitVec 32 := v217
  let v223 : Index := Scalar.indexCast v218
  ![192, v223.toNat]
def k0_off31 (i : grid0.Coords) : Fin 2 → Nat :=
  let arg0 : BitVec 32 := BitVec.ofNat 32 (i 0).val
  let v204 : Index := Scalar.indexCast arg0
  let arg1 : BitVec 32 := BitVec.ofNat 32 (i 1).val
  let v205 : Index := Scalar.indexCast arg1
  ![v204.toNat, v205.toNat]
def k0_off32 (i : grid0.Coords) : Fin 3 → Nat :=
  let arg1 : BitVec 32 := BitVec.ofNat 32 (i 1).val
  let v210 : Index := Scalar.indexCast arg1
  let c0_93 : Index := 0#32
  let c0_94 : Index := 0#32
  ![v210.toNat, 0, 0]
def k0_cond4 (i : grid0.Coords) : BitVec 1 :=
  let arg1 : BitVec 32 := BitVec.ofNat 32 (i 1).val
  let c7_i32 : BitVec 32 := 7#32
  let v214 : BitVec 1 := Scalar.cmpi .eq arg1 c7_i32
  let v215 : BitVec 32 := Scalar.extui v214
  let c0_i32_95 : BitVec 32 := 0#32
  let v216 : BitVec 1 := Scalar.cmpi .ne v215 c0_i32_95
  v216

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![c0_i32_4.toNat, v16.toNat, c1_i32_5.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x300 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S300x8x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S300x8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x300x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "masked" => some ⊥
  | "score_scale" => some (((Real.sqrt 32)⁻¹ * (Real.log 2)⁻¹ : ℝ) : EReal)
  | _ => none
-- ==== ReferenceIdeal.lean ====
abbrev S16x300x8x32 : Shape := ⟨4, ![16, 300, 8, 32]⟩
abbrev S16x8192x8x32 : Shape := ⟨4, ![16, 8192, 8, 32]⟩
abbrev S16x8 : Shape := ⟨2, ![16, 8]⟩
abbrev S16x300x256 : Shape := ⟨3, ![16, 300, 256]⟩
abbrev S_ : Shape := ⟨0, ![]⟩
abbrev S16x300 : Shape := ⟨2, ![16, 300]⟩
abbrev S32 : Shape := ⟨1, ![32]⟩
abbrev S16x300x256x1 : Shape := ⟨4, ![16, 300, 256, 1]⟩
abbrev S1x1x1x32 : Shape := ⟨4, ![1, 1, 1, 32]⟩
abbrev S16x300x256x32 : Shape := ⟨4, ![16, 300, 256, 32]⟩
abbrev S16x300x8192 : Shape := ⟨3, ![16, 300, 8192]⟩
abbrev S16x300x1 : Shape := ⟨3, ![16, 300, 1]⟩
abbrev S16x8x300x8192 : Shape := ⟨4, ![16, 8, 300, 8192]⟩
abbrev S16x8x1x1 : Shape := ⟨4, ![16, 8, 1, 1]⟩
abbrev S16x1x300x8192 : Shape := ⟨4, ![16, 1, 300, 8192]⟩
abbrev S16x8x300 : Shape := ⟨3, ![16, 8, 300]⟩
abbrev S16x8x300x1 : Shape := ⟨4, ![16, 8, 300, 1]⟩
abbrev S16x8x32x300 : Shape := ⟨4, ![16, 8, 32, 300]⟩
abbrev S16x300x8 : Shape := ⟨3, ![16, 300, 8]⟩
abbrev S16x1x8 : Shape := ⟨3, ![16, 1, 8]⟩
abbrev S16x300x8x1 : Shape := ⟨4, ![16, 300, 8, 1]⟩

abbrev nBuf : Space → Nat
  | .hbm => 110
  | .vmem => 4
  | .smem => 0
  | _ => 0

abbrev bufTy : (tb : Table) → Fin (tcTables nBuf tb) → BufTy
  | .hbm, ⟨0, _⟩ => ⟨S16x300x8x32, .bf16⟩
  | .hbm, ⟨1, _⟩ => ⟨S16x8192x8x32, .fp8e4m3⟩
  | .hbm, ⟨2, _⟩ => ⟨S16x8, .f32⟩
  | .hbm, ⟨3, _⟩ => ⟨S16x8192x8x32, .fp8e4m3⟩
  | .hbm, ⟨4, _⟩ => ⟨S16x8, .f32⟩
  | .hbm, ⟨5, _⟩ => ⟨S16x300x256, .i32⟩
  | .hbm, ⟨6, _⟩ => ⟨S16x8192x8x32, .bf16⟩
  | .hbm, ⟨7, _⟩ => ⟨S16x8192x8x32, .f32⟩
  | .hbm, ⟨8, _⟩ => ⟨S16x300x256, .i32⟩
  | .hbm, ⟨9, _⟩ => ⟨S_, .i32⟩
  | .hbm, ⟨10, _⟩ => ⟨S16x300x256, .i32⟩
  | .hbm, ⟨11, _⟩ => ⟨S16x300x256, .i1⟩
  | .hbm, ⟨12, _⟩ => ⟨S_, .i1⟩
  | .hbm, ⟨13, _⟩ => ⟨S16x300, .i1⟩
  | .hbm, ⟨14, _⟩ => ⟨S32, .i32⟩
  | .hbm, ⟨15, _⟩ => ⟨S16x300x256x1, .i32⟩
  | .hbm, ⟨16, _⟩ => ⟨S1x1x1x32, .i32⟩
  | .hbm, ⟨17, _⟩ => ⟨S16x300x256x32, .i32⟩
  | .hbm, ⟨18, _⟩ => ⟨S16x300x256x32, .i32⟩
  | .hbm, ⟨19, _⟩ => ⟨S16x300x256x32, .i32⟩
  | .hbm, ⟨20, _⟩ => ⟨S_, .i32⟩
  | .hbm, ⟨21, _⟩ => ⟨S16x300x256x32, .i32⟩
  | .hbm, ⟨22, _⟩ => ⟨S16x300x256x32, .i32⟩
  | .hbm, ⟨23, _⟩ => ⟨S16x300x8192, .i32⟩
  | .hbm, ⟨24, _⟩ => ⟨S_, .i32⟩
  | .hbm, ⟨25, _⟩ => ⟨S16x300x8192, .i32⟩
  | .hbm, ⟨26, _⟩ => ⟨S16x300x8192, .i1⟩
  | .hbm, ⟨27, _⟩ => ⟨S16x300x1, .i1⟩
  | .hbm, ⟨28, _⟩ => ⟨S16x300x8192, .i1⟩
  | .hbm, ⟨29, _⟩ => ⟨S16x300x8192, .i1⟩
  | .hbm, ⟨30, _⟩ => ⟨S16x8x300x8192, .f32⟩
  | .hbm, ⟨31, _⟩ => ⟨S16x8x1x1, .f32⟩
  | .hbm, ⟨32, _⟩ => ⟨S16x8x300x8192, .f32⟩
  | .hbm, ⟨33, _⟩ => ⟨S16x8x300x8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S16x8x300x8192, .f32⟩
  | .hbm, ⟨39, _⟩ => ⟨S16x8x300x8192, .f32⟩
  | .hbm, ⟨40, _⟩ => ⟨S16x1x300x8192, .i1⟩
  | .hbm, ⟨41, _⟩ => ⟨S_, .f32⟩
  | .hbm, ⟨42, _⟩ => ⟨S_, .f32⟩
  | .hbm, ⟨43, _⟩ => ⟨S16x8x300x8192, .i1⟩
  | .hbm, ⟨44, _⟩ => ⟨S16x8x300x8192, .f32⟩
  | .hbm, ⟨45, _⟩ => ⟨S16x8x300x8192, .f32⟩
  | .hbm, ⟨46, _⟩ => ⟨S_, .f32⟩
  | .hbm, ⟨47, _⟩ => ⟨S16x8x300, .f32⟩
  | .hbm, ⟨48, _⟩ => ⟨S_, .f32⟩
  | .hbm, ⟨49, _⟩ => ⟨S16x8x300, .f32⟩
  | .hbm, ⟨50, _⟩ => ⟨S16x8x300, .f32⟩
  | .hbm, ⟨51, _⟩ => ⟨S16x8x300x1, .f32⟩
  | .hbm, ⟨52, _⟩ => ⟨S16x8x300x8192, .f32⟩
  | .hbm, ⟨53, _⟩ => ⟨S16x8x300x8192, .f32⟩
  | .hbm, ⟨54, _⟩ => ⟨S16x8x300x8192, .f32⟩
  | .hbm, ⟨55, _⟩ => ⟨S_, .f32⟩
  | .hbm, ⟨56, _⟩ => ⟨S16x8x300, .f32⟩
  | .hbm, ⟨57, _⟩ => ⟨S16x8x300x1, .f32⟩
  | .hbm, ⟨58, _⟩ => ⟨S16x8x300x8192, .f32⟩
  | .hbm, ⟨59, _⟩ => ⟨S16x8x300x8192, .f32⟩
  | .hbm, ⟨60, _⟩ => ⟨S_, .f32⟩
  | .hbm, ⟨61, _⟩ => ⟨S16x8x300, .f32⟩
  | .hbm, ⟨62, _⟩ => ⟨S_, .f32⟩
  | .hbm, ⟨63, _⟩ => ⟨S16x8x300, .f32⟩
  | .hbm, ⟨64, _⟩ => ⟨S16x8x300, .f32⟩
  | .hbm, ⟨65, _⟩ => ⟨S16x8x300, .f32⟩
  | .hbm, ⟨66, _⟩ => ⟨S_, .f32⟩
  | .hbm, ⟨67, _⟩ => ⟨S_, .f32⟩
  | .hbm, ⟨68, _⟩ => ⟨S16x8x300, .f32⟩
  | .hbm, ⟨69, _⟩ => ⟨S16x8x300, .f32⟩
  | .hbm, ⟨70, _⟩ => ⟨S16x8x300, .f32⟩
  | .hbm, ⟨71, _⟩ => ⟨S_, .f32⟩
  | .hbm, ⟨72, _⟩ => ⟨S16x8x300, .f32⟩
  | .hbm, ⟨73, _⟩ => ⟨S16x8x300, .f32⟩
  | .hbm, ⟨74, _⟩ => ⟨S_, .f32⟩
  | .hbm, ⟨75, _⟩ => ⟨S16x8x300, .f32⟩
  | .hbm, ⟨76, _⟩ => ⟨S16x8x300, .i1⟩
  | .hbm, ⟨77, _⟩ => ⟨S_, .f32⟩
  | .hbm, ⟨78, _⟩ => ⟨S_, .f32⟩
  | .hbm, ⟨79, _⟩ => ⟨S16x8x300, .f32⟩
  | .hbm, ⟨80, _⟩ => ⟨S16x8x300, .f32⟩
  | .hbm, ⟨81, _⟩ => ⟨S_, .f32⟩
  | .hbm, ⟨82, _⟩ => ⟨S16x8x300, .f32⟩
  | .hbm, ⟨83, _⟩ => ⟨S16x8x300, .f32⟩
  | .hbm, ⟨84, _⟩ => ⟨S16x8x300, .f32⟩
  | .hbm, ⟨85, _⟩ => ⟨S_, .f32⟩
  | .hbm, ⟨86, _⟩ => ⟨S16x8x300, .f32⟩
  | .hbm, ⟨87, _⟩ => ⟨S16x8x300, .f32⟩
  | .hbm, ⟨88, _⟩ => ⟨S16x8x300x1, .f32⟩
  | .hbm, ⟨89, _⟩ => ⟨S16x8x300x8192, .f32⟩
  | .hbm, ⟨90, _⟩ => ⟨S16x8x300x8192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S16x8x300x8192, .f32⟩
  | .hbm, ⟨95, _⟩ => ⟨S16x8x300x8192, .f32⟩
  | .hbm, ⟨96, _⟩ => ⟨S_, .f32⟩
  | .hbm, ⟨97, _⟩ => ⟨S16x8x300x8192, .f32⟩
  | .hbm, ⟨98, _⟩ => ⟨S16x8x300x8192, .f32⟩
  | .hbm, ⟨99, _⟩ => ⟨S16x8x32x300, .f32⟩
  | .hbm, ⟨100, _⟩ => ⟨S16x300x8x32, .f32⟩
  | .hbm, ⟨101, _⟩ => ⟨S16x300x8, .f32⟩
  | .hbm, ⟨102, _⟩ => ⟨S16x1x8, .f32⟩
  | .hbm, ⟨103, _⟩ => ⟨S16x300x8, .f32⟩
  | .hbm, ⟨104, _⟩ => ⟨S16x300x8, .f32⟩
  | .hbm, ⟨105, _⟩ => ⟨S16x300x8x1, .f32⟩
  | .hbm, ⟨106, _⟩ => ⟨S16x300x8x32, .f32⟩
  | .hbm, ⟨107, _⟩ => ⟨S16x300x8x32, .f32⟩
  | .hbm, ⟨108, _⟩ => ⟨S16x300x256, .f32⟩
  | .hbm, ⟨109, _⟩ => ⟨S16x300x256, .bf16⟩
  | .local _ .vmem, ⟨0, _⟩ => ⟨S16x8192x8x32, .fp8e4m3⟩
  | .local _ .vmem, ⟨1, _⟩ => ⟨S16x8192x8x32, .fp8e4m3⟩
  | .local _ .vmem, ⟨2, _⟩ => ⟨S16x8192x8x32, .bf16⟩
  | .local _ .vmem, ⟨3, _⟩ => ⟨S16x8192x8x32, .f32⟩
  | _, _ => ⟨S16x300x8x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_cst_12 : Ref sig .tc := ⟨.hbm, 74, rfl⟩
abbrev main_v50 : Ref sig .tc := ⟨.hbm, 75, rfl⟩
abbrev main_v51 : Ref sig .tc := ⟨.hbm, 76, rfl⟩
abbrev main_cst_13 : Ref sig .tc := ⟨.hbm, 77, rfl⟩
abbrev main_call1_v0 : Ref sig .tc := ⟨.hbm, 78, rfl⟩
abbrev main_call1_v1 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_16 : Ref sig .tc := ⟨.hbm, 91, rfl⟩
abbrev main_cst_17 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x8192x8x32 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x8192x8x32 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8192x8x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8192x8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.Body.lean ====
/-
  The frame of `Kernel`. The body is run once by `sl_exec`, through the generated invariants of its eleven counted loops, at
  whatever the buffers hold; every input window is left as found, and nothing is said of what the output and the scratch end
  up holding. The launch follows from the relational proof data below.
-/
module

public import proofs.«01_k».proof.Proof.Gen.Kernel.Frame
public import proofs.«01_k».proof.Proof.Gen.Kernel.Loops
public import Idealize.ShloMosaic.Lib.Pipeline.Frame
public import Idealize.ShloMosaic.Lib.Tactic

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A conditional under a triple, case by case. -/
theorem ite_cases {c : Dev nD} {C : Prop} {dec : Decidable C} {β : Type} {a b : Prog (TpuEff nD τ sig (Elt F) Λ₀ .tc) β}
    {P : sProp 𝕄} {K : β → sProp 𝕄}
    (h1 : C → Entails' P (wp frame (wpE (defs₀ (F := F)) Variants.none (c : Thread nD τ) none) Set.univ a K))
    (h2 : ¬C → Entails' P (wp frame (wpE (defs₀ (F := F)) Variants.none (c : Thread nD τ) none) Set.univ b K)) :
    Entails' P <| wp frame (wpE (defs₀ (F := F)) Variants.none (c : Thread nD τ) none) Set.univ (if C then a else b) K := by
  by_cases h : C
  · rw [if_pos h]; exact h1 h
  · rw [if_neg h]; exact h2 h

/-- The body's triple, for any continuation: from its inputs at any contents and the output and the scratch at some contents,
    the body runs to its return and hands back the inputs as they were, the output and the scratch at some contents. -/
theorem kernelRun (c : Dev nD) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole)
    (x2 : S16x8.Idx → Elt F .f32) (x3 : S16x8.Idx → Elt F .f32) (x4 : S1x32x300.Idx → Elt F .bf16) (x5 : S1x32x8192.Idx → Elt F .fp8e4m3) (x6 : S1x32x8192.Idx → Elt F .fp8e4m3) (x7 : S300x8x128.Idx → Elt F .i32) (x8 : S300x8x128.Idx → Elt F .i32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) Set.univ
          (cc0_masked_xattn_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_masked_xattn_fp8_eq_skeleton]; unfold cc0_masked_xattn_fp8_skel
  unfold owns
  iintro ⟨⟨%farg2, %harg2', Harg2⟩, ⟨%farg3, %harg3', Harg3⟩, ⟨%farg4, %harg4', Harg4⟩, ⟨%farg5, %harg5', Harg5⟩, ⟨%farg6, %harg6', Harg6⟩, ⟨%farg7, %harg7', Harg7⟩, ⟨%farg8, %harg8', Harg8⟩, ⟨%darg9, %farg9, -, Harg9⟩, ⟨%darg10, %farg10, -, Harg10⟩, ⟨%darg11, %farg11, -, Harg11⟩, ⟨%darg12, %farg12, -, Harg12⟩, ⟨%darg13, %farg13, -, Harg13⟩, ⟨%darg14, %farg14, -, Harg14⟩, ⟨%darg15, %farg15, -, Harg15⟩, ⟨%darg16, %farg16, -, Harg16⟩, ⟨%darg17, %farg17, -, Harg17⟩, ⟨%darg18, %farg18, -, Harg18⟩, Hk⟩
  by_cases h1 : k0_cond1 i = 1#1
  all_goals
    sl_exec
    refine ite_cases (fun h3 => ?_) (fun h3 => ?_)
    all_goals
      sl_exec
      sl_step
      iapply Hk
      isplitl [Harg2]
      · iexists _; isplitr; swap; · iexact Harg2
        ipureintro; exact harg2'
      isplitl [Harg3]
      · iexists _; isplitr; swap; · iexact Harg3
        ipureintro; exact harg3'
      isplitl [Harg4]
      · iexists _; isplitr; swap; · iexact Harg4
        ipureintro; exact harg4'
      isplitl [Harg5]
      · iexists _; isplitr; swap; · iexact Harg5
        ipureintro; exact harg5'
      isplitl [Harg6]
      · iexists _; isplitr; swap; · iexact Harg6
        ipureintro; exact harg6'
      isplitl [Harg7]
      · iexists _; isplitr; swap; · iexact Harg7
        ipureintro; exact harg7'
      isplitl [Harg8]
      · iexists _; isplitr; swap; · iexact Harg8
        ipureintro; exact harg8'
      isplitl [Harg9]
      · iexists _, _; isplitr; swap; · iexact Harg9
        ipureintro; rfl
      isplitl [Harg10]
      · iexists _, _; isplitr; swap; · iexact Harg10
        ipureintro; rfl
      isplitl [Harg11]
      · iexists _, _; isplitr; swap; · iexact Harg11
        ipureintro; rfl
      isplitl [Harg12]
      · iexists _, _; isplitr; swap; · iexact Harg12
        ipureintro; rfl
      isplitl [Harg13]
      · iexists _, _; isplitr; swap; · iexact Harg13
        ipureintro; rfl
      isplitl [Harg14]
      · iexists _, _; isplitr; swap; · iexact Harg14
        ipureintro; rfl
      isplitl [Harg15]
      · iexists _, _; isplitr; swap; · iexact Harg15
        ipureintro; rfl
      isplitl [Harg16]
      · iexists _, _; isplitr; swap; · iexact Harg16
        ipureintro; rfl
      isplitl [Harg17]
      · iexists _, _; isplitr; swap; · iexact Harg17
        ipureintro; rfl
      iexists _, _; isplitr; swap; · iexact Harg18
      ipureintro; rfl

/-! ## The proof data and the launch -/

/-- The relational proof data: each window's array at its contents at the region's entry; the body leaves every input's
    buffer as it found it, and nothing is said of the output's; the scratch is held at some contents throughout. -/
def rdat (c : Dev nD) : RDat τ (Elt F) Unit ℕ (UR sig nD τ) ℕ cfg0 c where
  A w := V m c (Pipeline.arrRef spec0 w)
  after w t Y X := (cfg0.win w).isOut = true ∨ X = Y
  Φ _ := Pipeline.ΦA spec0 c
  q w := Pipeline.shareOf spec0 w
  owed _ := 0

theorem A_eq (c : Dev nD) (w : Fin cfg0.W) : (rdat m c).A w = V m c (Pipeline.arrRef spec0 w) := by dsimp only [rdat]

theorem defs₀_row (t : Fin cfg0.N) : defs₀ (F := F) .tc cfg0.body (cfg0.bodyArgs t (cfg0.slots t)) = bodyAt0 t := by
  unfold defs₀; rw [Defs.onTc_tc]

/-- The body at a grid point: the invariant opened, `kernelRun`, the invariant closed. -/
theorem sound_body (c : Dev nD) (t : Fin cfg0.N) (Y0 : S16x8.Idx → Elt F .f32) (Y1 : S16x8.Idx → Elt F .f32) (Y2 : S1x32x300.Idx → Elt F .bf16) (Y3 : S1x32x8192.Idx → Elt F .fp8e4m3) (Y4 : S1x32x8192.Idx → Elt F .fp8e4m3) (Y5 : S300x8x128.Idx → Elt F .i32) (Y6 : S300x8x128.Idx → Elt F .i32) (Y7 : S1x300x256.Idx → Elt F .bf16) :
    iprop((rdat m c).Φ t.castSucc ∗ (rdat m c).owesAt () t.castSucc ∗ owns (c : Thread nD τ) (win0_0.stage (cfg0.slots t 0)) fullShare Y0 ∗ owns (c : Thread nD τ) (win0_1.stage (cfg0.slots t 1)) fullShare Y1 ∗ owns (c : Thread nD τ) (win0_2.stage (cfg0.slots t 2)) fullShare Y2 ∗ owns (c : Thread nD τ) (win0_3.stage (cfg0.slots t 3)) fullShare Y3 ∗ owns (c : Thread nD τ) (win0_4.stage (cfg0.slots t 4)) fullShare Y4 ∗ owns (c : Thread nD τ) (win0_5.stage (cfg0.slots t 5)) fullShare Y5 ∗ owns (c : Thread nD τ) (win0_6.stage (cfg0.slots t 6)) fullShare Y6 ∗ owns (c : Thread nD τ) (win0_7.stage (cfg0.slots t 7)) fullShare Y7)
      ⊢ wp frame (wpE (defs₀ (F := F)) Variants.none c none) Set.univ (bodyAt0 t) (fun _ =>
        iprop((rdat m c).Φ t.succ ∗ (rdat m c).owesAt () t.succ ∗ (∃ X, ⌜(rdat m c).after 0 t Y0 X⌝ ∗ owns (c : Thread nD τ) (win0_0.stage (cfg0.slots t 0)) fullShare X) ∗ (∃ X, ⌜(rdat m c).after 1 t Y1 X⌝ ∗ owns (c : Thread nD τ) (win0_1.stage (cfg0.slots t 1)) fullShare X) ∗ (∃ X, ⌜(rdat m c).after 2 t Y2 X⌝ ∗ owns (c : Thread nD τ) (win0_2.stage (cfg0.slots t 2)) fullShare X) ∗ (∃ X, ⌜(rdat m c).after 3 t Y3 X⌝ ∗ owns (c : Thread nD τ) (win0_3.stage (cfg0.slots t 3)) fullShare X) ∗ (∃ X, ⌜(rdat m c).after 4 t Y4 X⌝ ∗ owns (c : Thread nD τ) (win0_4.stage (cfg0.slots t 4)) fullShare X) ∗ (∃ X, ⌜(rdat m c).after 5 t Y5 X⌝ ∗ owns (c : Thread nD τ) (win0_5.stage (cfg0.slots t 5)) fullShare X) ∗ (∃ X, ⌜(rdat m c).after 6 t Y6 X⌝ ∗ owns (c : Thread nD τ) (win0_6.stage (cfg0.slots t 6)) fullShare X) ∗ (∃ X, ⌜(rdat m c).after 7 t Y7 X⌝ ∗ owns (c : Thread nD τ) (win0_7.stage (cfg0.slots t 7)) fullShare X))) := by
  unfold bodyAt0
  rw [show (rdat m c).owesAt () t.succ = (rdat m c).owesAt () t.castSucc from rfl,
    show (rdat m c).Φ t.succ = Pipeline.ΦA spec0 c from rfl,
    show (rdat m c).Φ t.castSucc = Pipeline.ΦA spec0 c from rfl]
  unfold Pipeline.ΦA
  rw [scopedRest0_eq]
  simp only [owns_whole]
  iintro ⟨⟨⟨S0, S1, S2, S3, S4, S5, S6, S7, S8⟩, Hg⟩, HO, H0, H1, H2, H3, H4, H5, H6, H7⟩
  iapply (kernelRun c (grid0.coords t) _ _ _ _ _ _ _ _ _ _ _ _ _ _ _ _ _ _ _ _ _ _ _ _ _ _ _ _ _ _ _ _ _ _ Y0 Y1 Y2 Y3 Y4 Y5 Y6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · simp only [owns_whole]; iexact S0
  isplitl [S1]; · simp only [owns_whole]; iexact S1
  isplitl [S2]; · simp only [owns_whole]; iexact S2
  isplitl [S3]; · simp only [owns_whole]; iexact S3
  isplitl [S4]; · simp only [owns_whole]; iexact S4
  isplitl [S5]; · simp only [owns_whole]; iexact S5
  isplitl [S6]; · simp only [owns_whole]; iexact S6
  isplitl [S7]; · simp only [owns_whole]; iexact S7
  isplitl [S8]; · simp only [owns_whole]; iexact S8
  simp only [owns_whole]
  iintro ⟨H0, H1, H2, H3, H4, H5, H6, ⟨%X7, H7⟩, S0, S1, S2, S3, S4, S5, S6, S7, S8⟩
  isplitl [S0 S1 S2 S3 S4 S5 S6 S7 S8 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [HO]; · iexact HO
  isplitl [H0]
  · iexists Y0; isplitr; swap; · iexact H0
    ipureintro; exact Or.inr rfl
  isplitl [H1]
  · iexists Y1; isplitr; swap; · iexact H1
    ipureintro; exact Or.inr rfl
  isplitl [H2]
  · iexists Y2; isplitr; swap; · iexact H2
    ipureintro; exact Or.inr rfl
  isplitl [H3]
  · iexists Y3; isplitr; swap; · iexact H3
    ipureintro; exact Or.inr rfl
  isplitl [H4]
  · iexists Y4; isplitr; swap; · iexact H4
    ipureintro; exact Or.inr rfl
  isplitl [H5]
  · iexists Y5; isplitr; swap; · iexact H5
    ipureintro; exact Or.inr rfl
  isplitl [H6]
  · iexists Y6; isplitr; swap; · iexact H6
    ipureintro; exact Or.inr rfl
  iexists X7; isplitr; swap; · iexact H7
  ipureintro; exact Or.inl rfl

/-- The library's body obligation, at every grid point. -/
theorem body_obligation (c : Dev nD) :
    (rdat (F := F) m c).BodyObligation (defs₀ (F := F)) Variants.none () Set.univ := fun t Y _ => by
  rw [bigSep_W0, bigSep_W0, defs₀_row]
  exact sound_body m c t (Y 0) (Y 1) (Y 2) (Y 3) (Y 4) (Y 5) (Y 6) (Y 7)

set_option backward.isDefEq.respectTransparency.types false in
/-- From any memory with zero counters every weakly fair execution of @main terminates; every input array and every other
    unscoped buffer ends as at the region's entry, and every semaphore counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (body_obligation m) (fun _ _ _ => rfl) (fun _ _ => rfl) (V m) (hmain m Variants.none) (A_eq m)
    (fun _ => .rfl) (fun _ => .rfl)

variable {m ρ}

/-- After the run each of @main's six arguments holds what it held at launch. -/
theorem final_args {r : PUnit × MemSt nD τ sig (Elt F)}
    (h : Pipeline.RDat.FramePost (cfgs 0) (rdat m) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   (h.arr_in c 0 rfl).trans (V_main_arg2 m c),
   ((h c).2 main_arg3 (Pipeline.mem_restRefs_of main_arg3 (by decide) (by decide))).trans (V_main_arg3 m c),
   (h.arr_in c 1 rfl).trans (V_main_arg4 m c),
   ((h c).2 main_arg5 (Pipeline.mem_restRefs_of main_arg5 (by decide) (by decide))).trans (V_main_arg5 m c)⟩

end Cert.Kernel.Hand

end
-- ==== Proof.KernelIdeal.Body.lean ====
/-
  The frame of `KernelIdeal`. The body is run once by `sl_exec`, through the generated invariants of its eleven counted loops, at
  whatever the buffers hold; every input window is left as found, and nothing is said of what the output and the scratch end
  up holding. The launch follows from the relational proof data below.
-/
module

public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! The parts of the body that name no constant take no `Named`: their skeleton equations restated without it. -/

theorem _root_.Cert.KernelIdeal.k0_part7_eq_skeleton {F : FTy → Type} [FloatOps F] : k0_part7 (F := F) = k0_part7_skel (F := F) := rfl
theorem _root_.Cert.KernelIdeal.k0_part8_eq_skeleton {F : FTy → Type} [FloatOps F] : k0_part8 (F := F) = k0_part8_skel (F := F) := rfl
theorem _root_.Cert.KernelIdeal.k0_part10_eq_skeleton {F : FTy → Type} [FloatOps F] : k0_part10 (F := F) = k0_part10_skel (F := F) := rfl
theorem _root_.Cert.KernelIdeal.k0_part11_eq_skeleton {F : FTy → Type} [FloatOps F] : k0_part11 (F := F) = k0_part11_skel (F := F) := rfl
theorem _root_.Cert.KernelIdeal.k0_part12_eq_skeleton {F : FTy → Type} [FloatOps F] : k0_part12 (F := F) = k0_part12_skel (F := F) := rfl
theorem _root_.Cert.KernelIdeal.k0_part13_eq_skeleton {F : FTy → Type} [FloatOps F] : k0_part13 (F := F) = k0_part13_skel (F := F) := rfl

/-- A conditional under a triple, case by case. -/
theorem ite_cases {c : Dev nD} {C : Prop} {dec : Decidable C} {β : Type} {a b : Prog (TpuEff nD τ sig (Elt F) Λ₀ .tc) β}
    {P : sProp 𝕄} {K : β → sProp 𝕄}
    (h1 : C → Entails' P (wp frame (wpE (defs₀ (F := F)) Variants.none (c : Thread nD τ) none) Set.univ a K))
    (h2 : ¬C → Entails' P (wp frame (wpE (defs₀ (F := F)) Variants.none (c : Thread nD τ) none) Set.univ b K)) :
    Entails' P <| wp frame (wpE (defs₀ (F := F)) Variants.none (c : Thread nD τ) none) Set.univ (if C then a else b) K := by
  by_cases h : C
  · rw [if_pos h]; exact h1 h
  · rw [if_neg h]; exact h2 h

/-- The body's triple, for any continuation: from its inputs at any contents and the output and the scratch at some contents,
    the body runs to its return and hands back the inputs as they were, the output and the scratch at some contents. -/
theorem kernelRun (c : Dev nD) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole)
    (x2 : S16x8.Idx → Elt F .f32) (x3 : S16x8.Idx → Elt F .f32) (x4 : S1x32x300.Idx → Elt F .bf16) (x5 : S1x32x8192.Idx → Elt F .fp8e4m3) (x6 : S1x32x8192.Idx → Elt F .fp8e4m3) (x7 : S300x8x128.Idx → Elt F .i32) (x8 : S300x8x128.Idx → Elt F .i32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) Set.univ
          (cc0_masked_xattn_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_masked_xattn_fp8_eq_skeleton]; unfold cc0_masked_xattn_fp8_skel
  unfold owns
  iintro ⟨⟨%farg2, %harg2', Harg2⟩, ⟨%farg3, %harg3', Harg3⟩, ⟨%farg4, %harg4', Harg4⟩, ⟨%farg5, %harg5', Harg5⟩, ⟨%farg6, %harg6', Harg6⟩, ⟨%farg7, %harg7', Harg7⟩, ⟨%farg8, %harg8', Harg8⟩, ⟨%darg9, %farg9, -, Harg9⟩, ⟨%darg10, %farg10, -, Harg10⟩, ⟨%darg11, %farg11, -, Harg11⟩, ⟨%darg12, %farg12, -, Harg12⟩, ⟨%darg13, %farg13, -, Harg13⟩, ⟨%darg14, %farg14, -, Harg14⟩, ⟨%darg15, %farg15, -, Harg15⟩, ⟨%darg16, %farg16, -, Harg16⟩, ⟨%darg17, %farg17, -, Harg17⟩, ⟨%darg18, %farg18, -, Harg18⟩, Hk⟩
  by_cases h1 : k0_cond1 i = 1#1
  all_goals
    sl_exec
    refine ite_cases (fun h3 => ?_) (fun h3 => ?_)
    all_goals
      sl_exec
      sl_step
      iapply Hk
      isplitl [Harg2]
      · iexists _; isplitr; swap; · iexact Harg2
        ipureintro; exact harg2'
      isplitl [Harg3]
      · iexists _; isplitr; swap; · iexact Harg3
        ipureintro; exact harg3'
      isplitl [Harg4]
      · iexists _; isplitr; swap; · iexact Harg4
        ipureintro; exact harg4'
      isplitl [Harg5]
      · iexists _; isplitr; swap; · iexact Harg5
        ipureintro; exact harg5'
      isplitl [Harg6]
      · iexists _; isplitr; swap; · iexact Harg6
        ipureintro; exact harg6'
      isplitl [Harg7]
      · iexists _; isplitr; swap; · iexact Harg7
        ipureintro; exact harg7'
      isplitl [Harg8]
      · iexists _; isplitr; swap; · iexact Harg8
        ipureintro; exact harg8'
      isplitl [Harg9]
      · iexists _, _; isplitr; swap; · iexact Harg9
        ipureintro; rfl
      isplitl [Harg10]
      · iexists _, _; isplitr; swap; · iexact Harg10
        ipureintro; rfl
      isplitl [Harg11]
      · iexists _, _; isplitr; swap; · iexact Harg11
        ipureintro; rfl
      isplitl [Harg12]
      · iexists _, _; isplitr; swap; · iexact Harg12
        ipureintro; rfl
      isplitl [Harg13]
      · iexists _, _; isplitr; swap; · iexact Harg13
        ipureintro; rfl
      isplitl [Harg14]
      · iexists _, _; isplitr; swap; · iexact Harg14
        ipureintro; rfl
      isplitl [Harg15]
      · iexists _, _; isplitr; swap; · iexact Harg15
        ipureintro; rfl
      isplitl [Harg16]
      · iexists _, _; isplitr; swap; · iexact Harg16
        ipureintro; rfl
      isplitl [Harg17]
      · iexists _, _; isplitr; swap; · iexact Harg17
        ipureintro; rfl
      iexists _, _; isplitr; swap; · iexact Harg18
      ipureintro; rfl

/-! ## The proof data and the launch -/

/-- The relational proof data: each window's array at its contents at the region's entry; the body leaves every input's
    buffer as it found it, and nothing is said of the output's; the scratch is held at some contents throughout. -/
def rdat (c : Dev nD) : RDat τ (Elt F) Unit ℕ (UR sig nD τ) ℕ cfg0 c where
  A w := V m c (Pipeline.arrRef spec0 w)
  after w t Y X := (cfg0.win w).isOut = true ∨ X = Y
  Φ _ := Pipeline.ΦA spec0 c
  q w := Pipeline.shareOf spec0 w
  owed _ := 0

theorem A_eq (c : Dev nD) (w : Fin cfg0.W) : (rdat m c).A w = V m c (Pipeline.arrRef spec0 w) := by dsimp only [rdat]

theorem defs₀_row (t : Fin cfg0.N) : defs₀ (F := F) .tc cfg0.body (cfg0.bodyArgs t (cfg0.slots t)) = bodyAt0 t := by
  unfold defs₀; rw [Defs.onTc_tc]

/-- The body at a grid point: the invariant opened, `kernelRun`, the invariant closed. -/
theorem sound_body (c : Dev nD) (t : Fin cfg0.N) (Y0 : S16x8.Idx → Elt F .f32) (Y1 : S16x8.Idx → Elt F .f32) (Y2 : S1x32x300.Idx → Elt F .bf16) (Y3 : S1x32x8192.Idx → Elt F .fp8e4m3) (Y4 : S1x32x8192.Idx → Elt F .fp8e4m3) (Y5 : S300x8x128.Idx → Elt F .i32) (Y6 : S300x8x128.Idx → Elt F .i32) (Y7 : S1x300x256.Idx → Elt F .bf16) :
    iprop((rdat m c).Φ t.castSucc ∗ (rdat m c).owesAt () t.castSucc ∗ owns (c : Thread nD τ) (win0_0.stage (cfg0.slots t 0)) fullShare Y0 ∗ owns (c : Thread nD τ) (win0_1.stage (cfg0.slots t 1)) fullShare Y1 ∗ owns (c : Thread nD τ) (win0_2.stage (cfg0.slots t 2)) fullShare Y2 ∗ owns (c : Thread nD τ) (win0_3.stage (cfg0.slots t 3)) fullShare Y3 ∗ owns (c : Thread nD τ) (win0_4.stage (cfg0.slots t 4)) fullShare Y4 ∗ owns (c : Thread nD τ) (win0_5.stage (cfg0.slots t 5)) fullShare Y5 ∗ owns (c : Thread nD τ) (win0_6.stage (cfg0.slots t 6)) fullShare Y6 ∗ owns (c : Thread nD τ) (win0_7.stage (cfg0.slots t 7)) fullShare Y7)
      ⊢ wp frame (wpE (defs₀ (F := F)) Variants.none c none) Set.univ (bodyAt0 t) (fun _ =>
        iprop((rdat m c).Φ t.succ ∗ (rdat m c).owesAt () t.succ ∗ (∃ X, ⌜(rdat m c).after 0 t Y0 X⌝ ∗ owns (c : Thread nD τ) (win0_0.stage (cfg0.slots t 0)) fullShare X) ∗ (∃ X, ⌜(rdat m c).after 1 t Y1 X⌝ ∗ owns (c : Thread nD τ) (win0_1.stage (cfg0.slots t 1)) fullShare X) ∗ (∃ X, ⌜(rdat m c).after 2 t Y2 X⌝ ∗ owns (c : Thread nD τ) (win0_2.stage (cfg0.slots t 2)) fullShare X) ∗ (∃ X, ⌜(rdat m c).after 3 t Y3 X⌝ ∗ owns (c : Thread nD τ) (win0_3.stage (cfg0.slots t 3)) fullShare X) ∗ (∃ X, ⌜(rdat m c).after 4 t Y4 X⌝ ∗ owns (c : Thread nD τ) (win0_4.stage (cfg0.slots t 4)) fullShare X) ∗ (∃ X, ⌜(rdat m c).after 5 t Y5 X⌝ ∗ owns (c : Thread nD τ) (win0_5.stage (cfg0.slots t 5)) fullShare X) ∗ (∃ X, ⌜(rdat m c).after 6 t Y6 X⌝ ∗ owns (c : Thread nD τ) (win0_6.stage (cfg0.slots t 6)) fullShare X) ∗ (∃ X, ⌜(rdat m c).after 7 t Y7 X⌝ ∗ owns (c : Thread nD τ) (win0_7.stage (cfg0.slots t 7)) fullShare X))) := by
  unfold bodyAt0
  rw [show (rdat m c).owesAt () t.succ = (rdat m c).owesAt () t.castSucc from rfl,
    show (rdat m c).Φ t.succ = Pipeline.ΦA spec0 c from rfl,
    show (rdat m c).Φ t.castSucc = Pipeline.ΦA spec0 c from rfl]
  unfold Pipeline.ΦA
  rw [scopedRest0_eq]
  simp only [owns_whole]
  iintro ⟨⟨⟨S0, S1, S2, S3, S4, S5, S6, S7, S8⟩, Hg⟩, HO, H0, H1, H2, H3, H4, H5, H6, H7⟩
  iapply (kernelRun c (grid0.coords t) _ _ _ _ _ _ _ _ _ _ _ _ _ _ _ _ _ _ _ _ _ _ _ _ _ _ _ _ _ _ _ _ _ _ Y0 Y1 Y2 Y3 Y4 Y5 Y6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · simp only [owns_whole]; iexact S0
  isplitl [S1]; · simp only [owns_whole]; iexact S1
  isplitl [S2]; · simp only [owns_whole]; iexact S2
  isplitl [S3]; · simp only [owns_whole]; iexact S3
  isplitl [S4]; · simp only [owns_whole]; iexact S4
  isplitl [S5]; · simp only [owns_whole]; iexact S5
  isplitl [S6]; · simp only [owns_whole]; iexact S6
  isplitl [S7]; · simp only [owns_whole]; iexact S7
  isplitl [S8]; · simp only [owns_whole]; iexact S8
  simp only [owns_whole]
  iintro ⟨H0, H1, H2, H3, H4, H5, H6, ⟨%X7, H7⟩, S0, S1, S2, S3, S4, S5, S6, S7, S8⟩
  isplitl [S0 S1 S2 S3 S4 S5 S6 S7 S8 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [HO]; · iexact HO
  isplitl [H0]
  · iexists Y0; isplitr; swap; · iexact H0
    ipureintro; exact Or.inr rfl
  isplitl [H1]
  · iexists Y1; isplitr; swap; · iexact H1
    ipureintro; exact Or.inr rfl
  isplitl [H2]
  · iexists Y2; isplitr; swap; · iexact H2
    ipureintro; exact Or.inr rfl
  isplitl [H3]
  · iexists Y3; isplitr; swap; · iexact H3
    ipureintro; exact Or.inr rfl
  isplitl [H4]
  · iexists Y4; isplitr; swap; · iexact H4
    ipureintro; exact Or.inr rfl
  isplitl [H5]
  · iexists Y5; isplitr; swap; · iexact H5
    ipureintro; exact Or.inr rfl
  isplitl [H6]
  · iexists Y6; isplitr; swap; · iexact H6
    ipureintro; exact Or.inr rfl
  iexists X7; isplitr; swap; · iexact H7
  ipureintro; exact Or.inl rfl

/-- The library's body obligation, at every grid point. -/
theorem body_obligation (c : Dev nD) :
    (rdat (F := F) m c).BodyObligation (defs₀ (F := F)) Variants.none () Set.univ := fun t Y _ => by
  rw [bigSep_W0, bigSep_W0, defs₀_row]
  exact sound_body m c t (Y 0) (Y 1) (Y 2) (Y 3) (Y 4) (Y 5) (Y 6) (Y 7)

set_option backward.isDefEq.respectTransparency.types false in
/-- From any memory with zero counters every weakly fair execution of @main terminates; every input array and every other
    unscoped buffer ends as at the region's entry, and every semaphore counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (body_obligation m) (fun _ _ _ => rfl) (fun _ _ => rfl) (V m) (hmain m Variants.none) (A_eq m)
    (fun _ => .rfl) (fun _ => .rfl)

variable {m ρ}

/-- After the run each of @main's six arguments holds what it held at launch. -/
theorem final_args {r : PUnit × MemSt nD τ sig (Elt F)}
    (h : Pipeline.RDat.FramePost (cfgs 0) (rdat m) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   (h.arr_in c 0 rfl).trans (V_main_arg2 m c),
   ((h c).2 main_arg3 (Pipeline.mem_restRefs_of main_arg3 (by decide) (by decide))).trans (V_main_arg3 m c),
   (h.arr_in c 1 rfl).trans (V_main_arg4 m c),
   ((h c).2 main_arg5 (Pipeline.mem_restRefs_of main_arg5 (by decide) (by decide))).trans (V_main_arg5 m c)⟩

end Cert.KernelIdeal.Hand

end
-- ==== Proof.KernelIdeal.Fill.lean ====
/-
  What a counted loop of tile stores leaves, at an index, and what its two running reductions (a maximum and a sum over the
  lanes of eight slices per trip) hold at the end. Plain facts, used for each of the kernel's loops.
-/
module

public import proofs.«01_k».proof.Proof.Gen.KernelIdeal.Loops
public import Idealize.ShloMosaic.Lib.Pipeline.ValueKit
public import Idealize.ShloMosaic.Lib.WritesUnit

@[expose] public section

set_option maxRecDepth 16384

noncomputable section

namespace Cert.KernelIdeal.Val

open Cert.KernelIdeal Cert.KernelIdeal.Gen
open Idealize.ShloMosaic Idealize.ShloMosaic.TcCoe

/-- A loop that stores, at trip `k`, a tile of `rows` rows from row `r0` and `W` columns from column `W * k`, each holding `G`:
    after `n` trips the band of rows holds `G` left of column `W * n` and every other element holds what it held. -/
theorem band_written {sig : RefSig} {κ : Kind} {sp : Space} {e : EltTy} {Val : EltTy → Type} {d0 d1 rows W r0 : ℕ}
    (v : View sig κ sp (⟨2, ![d0, d1]⟩ : Shape) e) (f : v.ty.Contents Val)
    (G : (⟨2, ![d0, d1]⟩ : Shape).Idx → Val e) (L : ℕ → List (View.Piece Val (⟨2, ![d0, d1]⟩ : Shape) e))
    (N : ℕ) (h0 : L 0 = [])
    (hL : ∀ k < N, ∃ (off : Fin 2 → ℕ) (inb : ∀ a, off a + (![rows, W] : Fin 2 → ℕ) a ≤ (⟨2, ![d0, d1]⟩ : Shape).size a)
      (w : (Rect.unit (s := ⟨2, ![d0, d1]⟩) off ![rows, W] inb).shape.Idx → Val e),
      off = ![r0, W * k] ∧ L (k + 1) = (⟨Rect.unit (s := ⟨2, ![d0, d1]⟩) off ![rows, W] inb, w⟩ : View.Piece Val (⟨2, ![d0, d1]⟩ : Shape) e) :: L k
      ∧ ∀ x y, (∀ a, (y a).val = (![r0, W * k] : Fin 2 → ℕ) a + (x a).val) → w x = G y) :
    ∀ n ≤ N, ∀ y : (⟨2, ![d0, d1]⟩ : Shape).Idx, v.read Val (v.writes Val f (L n)) y
      = if r0 ≤ (y 0).val ∧ (y 0).val < r0 + rows ∧ (y 1).val < W * n then G y else v.read Val f y := by
  intro n
  induction n with
  | zero =>
    intro _ y
    rw [h0, if_neg (by simp)]; rfl
  | succ n ih =>
    intro hn y
    obtain ⟨off, inb, w, hoff, hstep, hw⟩ := hL n (by omega)
    rw [hstep]
    have e : W * (n + 1) = W * n + W := by ring
    by_cases h : ∀ a, (![r0, W * n] : Fin 2 → ℕ) a ≤ (y a).val ∧ (y a).val < (![r0, W * n] : Fin 2 → ℕ) a + (![rows, W] : Fin 2 → ℕ) a
    · have h0 := h 0
      have h1 := h 1
      simp only [Matrix.cons_val_zero, Matrix.cons_val_one] at h0 h1
      rw [if_pos ⟨h0.1, h0.2, by omega⟩, View.read_writes_cons_unit v f inb w (L n) y hoff, dif_pos h]
      refine hw _ y fun a => ?_
      rw [Rect.unitLocal_val]
      have := h a
      omega
    · rw [View.read_writes_cons_unit v f inb w (L n) y hoff, dif_neg h, ih (by omega) y]
      rw [Fin.forall_fin_two] at h
      simp only [Matrix.cons_val_zero, Matrix.cons_val_one] at h
      by_cases h' : r0 ≤ (y 0).val ∧ (y 0).val < r0 + rows ∧ (y 1).val < W * n
      · rw [if_pos h', if_pos ⟨h'.1, h'.2.1, by omega⟩]
      · rw [if_neg h', if_neg (fun hh => h' ⟨hh.1, hh.2.1, by
          by_contra hc
          exact h ⟨⟨hh.1, hh.2.1⟩, by omega, by omega⟩⟩)]

/-- Eight slices of 128 lanes added to a lane's running sum at each of eight trips: the sum of the lane's 64 entries. -/
theorem lane_sum (s : ℕ → EReal) (Y : ℕ → EReal) (l : ℕ) (h0 : s 0 = 0)
    (hs : ∀ k < 8, s (k + 1) = s k + Y (1024 * k + l) + Y (1024 * k + (128 + l)) + Y (1024 * k + (256 + l)) + Y (1024 * k + (384 + l))
      + Y (1024 * k + (512 + l)) + Y (1024 * k + (640 + l)) + Y (1024 * k + (768 + l)) + Y (1024 * k + (896 + l))) :
    s 8 = ∑ i : Fin 64, Y (128 * i.val + l) := by
  have key : ∀ k ≤ 8, s k = ∑ i ∈ Finset.range (8 * k), Y (128 * i + l) := by
    intro k
    induction k with
    | zero => intro _; simp [h0]
    | succ k ih =>
      intro hk
      rw [hs k (by omega), ih (by omega), show 8 * (k + 1) = 8 * k + 1 + 1 + 1 + 1 + 1 + 1 + 1 + 1 by ring]
      simp only [Finset.sum_range_succ]
      congr 1; congr 1; congr 1; congr 1; congr 1; congr 1; congr 1; congr 1
      all_goals (congr 1; ring)
  rw [key 8 le_rfl, Finset.sum_range]

/-- The same for a running maximum that starts at −∞. -/
theorem lane_max (s : ℕ → EReal) (Y : ℕ → EReal) (l : ℕ) (h0 : s 0 = ⊥)
    (hs : ∀ k < 8, s (k + 1) = max (max (max (max (max (max (max (max (s k) (Y (1024 * k + l))) (Y (1024 * k + (128 + l)))) (Y (1024 * k + (256 + l))))
      (Y (1024 * k + (384 + l)))) (Y (1024 * k + (512 + l)))) (Y (1024 * k + (640 + l)))) (Y (1024 * k + (768 + l)))) (Y (1024 * k + (896 + l)))) :
    s 8 = Finset.univ.sup fun i : Fin 64 => Y (128 * i.val + l) := by
  have key : ∀ k ≤ 8, s k = (Finset.range (8 * k)).sup fun i => Y (128 * i + l) := by
    intro k
    induction k with
    | zero => intro _; simp [h0]
    | succ k ih =>
      intro hk
      rw [hs k (by omega), ih (by omega), show 8 * (k + 1) = 8 * k + 1 + 1 + 1 + 1 + 1 + 1 + 1 + 1 by ring]
      simp only [Finset.range_add_one, Finset.sup_insert]
      iterate 8
        rw [max_comm]
        refine congrArg₂ max (congrArg Y (by ring)) ?_
      rfl
  rw [key 8 le_rfl]
  apply le_antisymm
  · refine Finset.sup_le fun i hi => ?_
    exact Finset.le_sup (f := fun i : Fin 64 => Y (128 * i.val + l)) (Finset.mem_univ (⟨i, by simpa using hi⟩ : Fin 64))
  · refine Finset.sup_le fun i _ => ?_
    exact Finset.le_sup (f := fun i : ℕ => Y (128 * i + l)) (by simp)

/-- A sum over 8192 columns, lane by lane. -/
theorem sum_lanes (Y : ℕ → EReal) : ∑ l : Fin 128, ∑ i : Fin 64, Y (128 * i.val + l.val) = ∑ p : Fin 8192, Y p.val := by
  rw [Finset.sum_comm, ← Fintype.sum_prod_type']
  refine Fintype.sum_equiv (finProdFinEquiv (m := 64) (n := 128)) _ (fun p : Fin (64 * 128) => Y p.val) fun x => ?_
  simp [finProdFinEquiv, add_comm]

/-- A maximum over 8192 columns, lane by lane. -/
theorem sup_lanes (Y : ℕ → EReal) : (Finset.univ.sup fun l : Fin 128 => Finset.univ.sup fun i : Fin 64 => Y (128 * i.val + l.val))
    = Finset.univ.sup fun p : Fin 8192 => Y p.val := by
  apply le_antisymm
  · refine Finset.sup_le fun l _ => Finset.sup_le fun i _ => ?_
    exact Finset.le_sup (f := fun p : Fin 8192 => Y p.val) (Finset.mem_univ (⟨128 * i.val + l.val, by omega⟩ : Fin 8192))
  · refine Finset.sup_le fun p _ => ?_
    refine le_trans ?_ (Finset.le_sup (Finset.mem_univ (⟨p.val % 128, by omega⟩ : Fin 128)))
    refine le_trans (le_of_eq ?_) (Finset.le_sup (Finset.mem_univ (⟨p.val / 128, by omega⟩ : Fin 64)))
    exact congrArg Y (by show p.val = 128 * (p.val / 128) + p.val % 128; omega)

/-- A fold of `max` from −∞ is the supremum. -/
theorem fold_max_eq_sup {ι : Type} (s : Finset ι) (f : ι → EReal) : Finset.fold max ⊥ f s = s.sup f := rfl

end Cert.KernelIdeal.Val

end
-- ==== Proof.KernelIdeal.Pass.lean ====
/-
  The score passes. A pass over the keys computes, for one band of rows and 1024 columns at a time, the scores (a product of the
  left table with the keys, a row of ones and the mask rows), stores their powers of two and keeps the lanes' running maxima and
  sums. Stated over the extended reals, for the six loops that run it.
-/
module

public import proofs.«01_k».proof.Proof.KernelIdeal.Fill

@[expose] public section

set_option maxRecDepth 16384

noncomputable section

namespace Cert.KernelIdeal.Val

open Cert.KernelIdeal Cert.KernelIdeal.Gen
open Idealize.ShloMosaic Idealize.ShloMosaic.TcCoe

/-- The right factor's column `p`: the keys three times, a one, zeros, and the band's mask rows. -/
def rhsAt (K : S1x32x8192.Idx → EReal) (M : S320x8192.Idx → EReal) (r0 : ℕ) (j : Fin 256) (p : Fin 8192) : EReal :=
  if h : j.val < 32 then K (ix3 0 ⟨j.val, h⟩ p)
  else if h : j.val - 32 < 32 then K (ix3 0 ⟨j.val - 32, h⟩ p)
  else if h : j.val - 32 - 32 < 32 then K (ix3 0 ⟨j.val - 32 - 32, h⟩ p)
  else if j.val - 32 - 32 - 32 < 32 then (if j.val - 32 - 32 - 32 = 0 then 1 else 0)
  else if h : r0 + (j.val - 32 - 32 - 32 - 32) < 320 then M (ix2 ⟨r0 + (j.val - 32 - 32 - 32 - 32), h⟩ p) else 0

/-- The first row of the band a row lies in. -/
def bandOf (r : ℕ) : ℕ := if r < 96 then 0 else if r < 192 then 96 else 192

/-- The score of a row at a column. -/
def score (K : S1x32x8192.Idx → EReal) (M : S320x8192.Idx → EReal) (L : S304x256.Idx → EReal) (r : Fin 304) (p : Fin 8192) : EReal :=
  ∑ j : Fin 256, L (ix2 r j) * rhsAt K M (bandOf r.val) j p

/-- The score with a natural number for the row and the column, zero outside. -/
def scoreN (K : S1x32x8192.Idx → EReal) (M : S320x8192.Idx → EReal) (L : S304x256.Idx → EReal) (r p : ℕ) : EReal :=
  if h : r < 304 ∧ p < 8192 then score K M L ⟨r, h.1⟩ ⟨p, h.2⟩ else 0

theorem scoreN_val (K M L) (r : Fin 304) (p : Fin 8192) : scoreN K M L r.val p.val = score K M L r p := by
  unfold scoreN; rw [dif_pos ⟨r.isLt, p.isLt⟩]

/-- A load through a unit rectangle reads the element the offsets say. -/
theorem readAt_at {sig : RefSig} {κ : Kind} {sp : Space} {e : EltTy} {Val : EltTy → Type} {s : Shape} (v : View sig κ sp s e)
    (f : v.ty.Contents Val) {off off' size : Fin s.rank → ℕ} (inb : ∀ a, off a + size a ≤ s.size a) (h : off = off')
    (x : (Rect.unit (s := s) off size inb).shape.Idx) (y : s.Idx) (hy : ∀ a, (y a).val = off' a + (x a).val) :
    v.readAt Val (Rect.unit (s := s) off size inb).toLoadRect f x = v.read Val f y := by
  subst h
  rw [View.readAt_apply]
  refine congrArg (v.read Val f) ?_
  funext a
  apply Fin.ext
  rw [hy a]
  show off a + 1 * (x a).val = _
  omega

/-- The row of ones in the first of its 32 rows. -/
theorem ones_at (r : Fin 32) (p : Fin 1024) : k0_pay51 (F := Ideal) (ix2 r p) = if r.val = 0 then 1 else 0 := by
  pointwise [k0_pay51]
  have : ∀ r : Fin 32, IntOp.cmpi CmpIPredicate.eq (BitVec.ofNat 32 r.val) 0#32 = if r.val = 0 then 1#1 else 0#1 := by decide
  rw [this r]
  split_ifs <;> rfl

/-- The contraction over the 256 rows of the right factor, as the passes write it, is the score. -/
theorem tile_sum {rows : ℕ} (K : S1x32x8192.Idx → EReal) (M : S320x8192.Idx → EReal) (L : S304x256.Idx → EReal) (r0 k : ℕ) (hr0 : r0 ≤ 192) (hk : k < 8)
    (x : Fin rows) (z : Fin 1024) (hr : r0 + x.val < 304) (hband : bandOf (r0 + x.val) = r0)
    (a : S32x1024.Idx → EReal) (b : S1x32x1024.Idx → EReal) (c : S128x1024.Idx → EReal) (d : (⟨2, ![rows, 256]⟩ : Shape).Idx → EReal)
    (ha : a = k0_pay51 (F := Ideal))
    (hb : ∀ j p, b (ix3 0 j p) = K (ix3 0 j ⟨1024 * k + p.val, by omega⟩))
    (hc : ∀ j p, c (ix2 j p) = M (ix2 ⟨r0 + j.val, by omega⟩ ⟨1024 * k + p.val, by omega⟩))
    (hd : ∀ j, d (ix2 x j) = L (ix2 ⟨r0 + x.val, hr⟩ j)) :
    (∑ j : Fin 256, d (ix2 x j) * if h : j.val < 32 then b (ix3 0 ⟨j.val, h⟩ z)
        else if h : j.val - 32 < 32 then b (ix3 0 ⟨j.val - 32, h⟩ z)
        else if h : j.val - 32 - 32 < 32 then b (ix3 0 ⟨j.val - 32 - 32, h⟩ z)
        else if h : j.val - 32 - 32 - 32 < 32 then a (ix2 ⟨j.val - 32 - 32 - 32, h⟩ z)
        else c (ix2 ⟨j.val - 32 - 32 - 32 - 32, by omega⟩ z))
      = scoreN K M L (r0 + x.val) (1024 * k + z.val) := by
  unfold scoreN score rhsAt
  rw [dif_pos ⟨hr, by omega⟩]
  refine Finset.sum_congr rfl fun j _ => ?_
  rw [hd j]
  refine congrArg _ ?_
  subst ha
  simp only [hband, hb, hc, ones_at]
  split_ifs <;> first | rfl | omega

/-- What a pass over the `rows` rows from `r0` leaves: the exponentials written over its band of the table, and its lanes'
    maxima and sums together the maximum and the sum over the columns. -/
def PassPost {sig : RefSig} {κ : Kind} {sp : Space} (r0 rows : ℕ) (v : View sig κ sp S304x8192 .f32) (f : v.ty.Contents (Elt Ideal)) (Y : ℕ → ℕ → EReal)
    (st : (((⟨2, ![rows, 128]⟩ : Shape).Idx → EReal) × ((⟨2, ![rows, 128]⟩ : Shape).Idx → EReal)) × List (View.Piece (Elt Ideal) S304x8192 .f32)) : Prop :=
    (∀ y : S304x8192.Idx, v.read (Elt Ideal) (v.writes (Elt Ideal) f st.2) y
        = if r0 ≤ (y 0).val ∧ (y 0).val < r0 + rows then Ideal.exp2 (Y (y 0).val (y 1).val) else v.read (Elt Ideal) f y)
      ∧ (∀ x : Fin rows, (Finset.univ.sup fun l : Fin 128 => st.1.1 (ix2 x l)) = Finset.univ.sup fun p : Fin 8192 => Y (r0 + x.val) p.val)
      ∧ (∀ x : Fin rows, (∑ l : Fin 128, st.1.2 (ix2 x l)) = ∑ p : Fin 8192, Ideal.exp2 (Y (r0 + x.val) p.val))

/-- A pass over one band of rows: what it leaves in the exponentials' table, and its running maxima and sums at the end. -/
theorem pass_band {sig : RefSig} {κ : Kind} {sp : Space} {rows : ℕ} (r0 : ℕ) (hrows : r0 + rows ≤ 304)
    (v : View sig κ sp S304x8192 .f32) (f : v.ty.Contents (Elt Ideal)) (Y : ℕ → ℕ → EReal)
    (st : ℕ → (((⟨2, ![rows, 128]⟩ : Shape).Idx → EReal) × ((⟨2, ![rows, 128]⟩ : Shape).Idx → EReal)) × List (View.Piece (Elt Ideal) S304x8192 .f32))
    (N : ℕ) (hN : N = 8) (h0 : (st 0).2 = []) (h01 : ∀ x, (st 0).1.1 x = ⊥) (h02 : ∀ x, (st 0).1.2 x = 0)
    (hs : ∀ k < 8, ∃ (X E : (⟨2, ![rows, 1024]⟩ : Shape).Idx → EReal) (off : Fin 2 → ℕ) (inb : ∀ a, off a + (![rows, 1024] : Fin 2 → ℕ) a ≤ S304x8192.size a),
      off = ![r0, 1024 * k]
      ∧ (∀ (x : Fin rows) (z : Fin 1024), X (ix2 x z) = Y (r0 + x.val) (1024 * k + z.val))
      ∧ (∀ (x : Fin rows) (z : Fin 1024), E (ix2 x z) = Ideal.exp2 (X (ix2 x z)))
      ∧ (∀ (x : Fin rows) (l : Fin 128), (st (k + 1)).1.1 (ix2 x l) = max (max (max (max (max (max (max (max ((st k).1.1 (ix2 x l)) (X (ix2 x ⟨l.val, by omega⟩)))
          (X (ix2 x ⟨128 + l.val, by omega⟩))) (X (ix2 x ⟨256 + l.val, by omega⟩))) (X (ix2 x ⟨384 + l.val, by omega⟩))) (X (ix2 x ⟨512 + l.val, by omega⟩)))
          (X (ix2 x ⟨640 + l.val, by omega⟩))) (X (ix2 x ⟨768 + l.val, by omega⟩))) (X (ix2 x ⟨896 + l.val, by omega⟩)))
      ∧ (∀ (x : Fin rows) (l : Fin 128), (st (k + 1)).1.2 (ix2 x l) = (st k).1.2 (ix2 x l) + E (ix2 x ⟨l.val, by omega⟩)
          + E (ix2 x ⟨128 + l.val, by omega⟩) + E (ix2 x ⟨256 + l.val, by omega⟩) + E (ix2 x ⟨384 + l.val, by omega⟩) + E (ix2 x ⟨512 + l.val, by omega⟩)
          + E (ix2 x ⟨640 + l.val, by omega⟩) + E (ix2 x ⟨768 + l.val, by omega⟩) + E (ix2 x ⟨896 + l.val, by omega⟩))
      ∧ (st (k + 1)).2 = (⟨Rect.unit (s := S304x8192) off ![rows, 1024] inb, E⟩ : View.Piece (Elt Ideal) S304x8192 .f32) :: (st k).2) :
    PassPost r0 rows v f Y (st N) := by
  subst hN
  refine ⟨fun y => ?_, fun x => ?_, fun x => ?_⟩
  · have h := band_written (W := 1024) (rows := rows) (r0 := r0) v f (fun y => Ideal.exp2 (Y (y 0).val (y 1).val)) (fun n => (st n).2) 8 h0 (fun k hk => by
      obtain ⟨X, E, off, inb, hoff, hX, hE, -, -, hl⟩ := hs k hk
      refine ⟨off, inb, E, hoff, hl, fun x y hxy => ?_⟩
      have hx : x = ix2 (x 0) (x 1) := eq_ix2 x
      have e0 := hxy 0
      have e1 := hxy 1
      simp only [Matrix.cons_val_zero, Matrix.cons_val_one] at e0 e1
      have hw := hE (x 0) (x 1)
      replace hw := hw.trans (congrArg Ideal.exp2 (hX (x 0) (x 1)))
      rw [← e0, ← e1] at hw
      exact (congrArg E hx).trans hw) 8 le_rfl y
    rw [h]
    have hy : (y 1).val < 1024 * 8 := (y 1).isLt
    refine if_congr ⟨fun h => ⟨h.1, h.2.1⟩, fun h => ⟨h.1, h.2, hy⟩⟩ rfl rfl
  · rw [← sup_lanes]
    refine Finset.sup_congr rfl fun l _ => ?_
    refine lane_max (fun k => (st k).1.1 (ix2 x l)) (fun p => Y (r0 + x.val) p) l.val (h01 _) fun k hk => ?_
    obtain ⟨X, E, off, inb, hoff, hX, hE, hm, -, hl⟩ := hs k hk
    beta_reduce
    rw [hm x l]
    simp only [hX]
  · rw [← sum_lanes (fun p => Ideal.exp2 (Y (r0 + x.val) p))]
    refine Finset.sum_congr rfl fun l _ => ?_
    refine lane_sum (fun k => (st k).1.2 (ix2 x l)) (fun p => Ideal.exp2 (Y (r0 + x.val) p)) l.val (h02 _) fun k hk => ?_
    obtain ⟨X, E, off, inb, hoff, hX, hE, -, hm, hl⟩ := hs k hk
    beta_reduce
    rw [hm x l]
    simp only [hE, hX]

/-! The bands of 96 rows: the scores, their powers of two, and one trip's step of the two running reductions. -/

theorem pay55_at (a : FVec Ideal S32x1024 .f32) (b : Vec Ideal S1x32x1024 .fp8e4m3) (c : Vec Ideal S128x1024 .fp8e4m3) (d : Vec Ideal S96x256 .bf16)
    (x : Fin 96) (z : Fin 1024) : k0_pay55 (F := Ideal) a b c d (ix2 x z) =
      ∑ j : Fin 256, d (ix2 x j) * if h : j.val < 32 then b (ix3 0 ⟨j.val, h⟩ z)
        else if h : j.val - 32 < 32 then b (ix3 0 ⟨j.val - 32, h⟩ z)
        else if h : j.val - 32 - 32 < 32 then b (ix3 0 ⟨j.val - 32 - 32, h⟩ z)
        else if h : j.val - 32 - 32 - 32 < 32 then a (ix2 ⟨j.val - 32 - 32 - 32, h⟩ z)
        else c (ix2 ⟨j.val - 32 - 32 - 32 - 32, by omega⟩ z) := by
  pointwise [k0_pay55, k0_pay52]

theorem pay57_at (a : FVec Ideal S32x1024 .f32) (b : Vec Ideal S1x32x1024 .fp8e4m3) (c : Vec Ideal S128x1024 .fp8e4m3) (d : Vec Ideal S96x256 .bf16)
    (x : Fin 96) (z : Fin 1024) : k0_pay57 (F := Ideal) a b c d (ix2 x z) = Ideal.exp2 (k0_pay55 (F := Ideal) a b c d (ix2 x z)) := by
  pointwise [k0_pay57, k0_pay56]
  rfl

theorem pay58_at (a : FVec Ideal S32x1024 .f32) (b : Vec Ideal S1x32x1024 .fp8e4m3) (c : Vec Ideal S128x1024 .fp8e4m3) (d : Vec Ideal S96x256 .bf16)
    (m : FVec Ideal S96x128 .f32) (x : Fin 96) (l : Fin 128) : k0_pay58 (F := Ideal) a m b c d (ix2 x l) =
      max (max (max (max (max (max (max (max (m (ix2 x l)) (k0_pay55 (F := Ideal) a b c d (ix2 x ⟨l.val, by omega⟩))) (k0_pay55 (F := Ideal) a b c d (ix2 x ⟨128 + l.val, by omega⟩))) (k0_pay55 (F := Ideal) a b c d (ix2 x ⟨256 + l.val, by omega⟩))) (k0_pay55 (F := Ideal) a b c d (ix2 x ⟨384 + l.val, by omega⟩))) (k0_pay55 (F := Ideal) a b c d (ix2 x ⟨512 + l.val, by omega⟩))) (k0_pay55 (F := Ideal) a b c d (ix2 x ⟨640 + l.val, by omega⟩))) (k0_pay55 (F := Ideal) a b c d (ix2 x ⟨768 + l.val, by omega⟩))) (k0_pay55 (F := Ideal) a b c d (ix2 x ⟨896 + l.val, by omega⟩)) := by
  pointwise [k0_pay58]

theorem pay59_at (a : FVec Ideal S32x1024 .f32) (b : Vec Ideal S1x32x1024 .fp8e4m3) (c : Vec Ideal S128x1024 .fp8e4m3) (d : Vec Ideal S96x256 .bf16)
    (m : FVec Ideal S96x128 .f32) (x : Fin 96) (l : Fin 128) : k0_pay59 (F := Ideal) a m b c d (ix2 x l) =
      m (ix2 x l) + k0_pay57 (F := Ideal) a b c d (ix2 x ⟨l.val, by omega⟩) + k0_pay57 (F := Ideal) a b c d (ix2 x ⟨128 + l.val, by omega⟩) + k0_pay57 (F := Ideal) a b c d (ix2 x ⟨256 + l.val, by omega⟩) + k0_pay57 (F := Ideal) a b c d (ix2 x ⟨384 + l.val, by omega⟩) + k0_pay57 (F := Ideal) a b c d (ix2 x ⟨512 + l.val, by omega⟩) + k0_pay57 (F := Ideal) a b c d (ix2 x ⟨640 + l.val, by omega⟩) + k0_pay57 (F := Ideal) a b c d (ix2 x ⟨768 + l.val, by omega⟩) + k0_pay57 (F := Ideal) a b c d (ix2 x ⟨896 + l.val, by omega⟩) := by
  pointwise [k0_pay59, k0_pay57]

/-! The last band, of 112 rows: the scores, their powers of two, and one trip's step of the two running reductions. -/

theorem pay74_at (a : FVec Ideal S32x1024 .fp8e4m3) (b : Vec Ideal S1x32x1024 .fp8e4m3) (c : Vec Ideal S128x1024 .fp8e4m3) (d : Vec Ideal S112x256 .bf16)
    (x : Fin 112) (z : Fin 1024) : k0_pay74 (F := Ideal) a b c d (ix2 x z) =
      ∑ j : Fin 256, d (ix2 x j) * if h : j.val < 32 then b (ix3 0 ⟨j.val, h⟩ z)
        else if h : j.val - 32 < 32 then b (ix3 0 ⟨j.val - 32, h⟩ z)
        else if h : j.val - 32 - 32 < 32 then b (ix3 0 ⟨j.val - 32 - 32, h⟩ z)
        else if h : j.val - 32 - 32 - 32 < 32 then a (ix2 ⟨j.val - 32 - 32 - 32, h⟩ z)
        else c (ix2 ⟨j.val - 32 - 32 - 32 - 32, by omega⟩ z) := by
  pointwise [k0_pay74]

theorem pay76_at (a : FVec Ideal S32x1024 .fp8e4m3) (b : Vec Ideal S1x32x1024 .fp8e4m3) (c : Vec Ideal S128x1024 .fp8e4m3) (d : Vec Ideal S112x256 .bf16)
    (x : Fin 112) (z : Fin 1024) : k0_pay76 (F := Ideal) a b c d (ix2 x z) = Ideal.exp2 (k0_pay74 (F := Ideal) a b c d (ix2 x z)) := by
  pointwise [k0_pay76, k0_pay75]
  rfl

theorem pay77_at (a : FVec Ideal S32x1024 .fp8e4m3) (b : Vec Ideal S1x32x1024 .fp8e4m3) (c : Vec Ideal S128x1024 .fp8e4m3) (d : Vec Ideal S112x256 .bf16)
    (m : FVec Ideal S112x128 .f32) (x : Fin 112) (l : Fin 128) : k0_pay77 (F := Ideal) a m b c d (ix2 x l) =
      max (max (max (max (max (max (max (max (m (ix2 x l)) (k0_pay74 (F := Ideal) a b c d (ix2 x ⟨l.val, by omega⟩))) (k0_pay74 (F := Ideal) a b c d (ix2 x ⟨128 + l.val, by omega⟩))) (k0_pay74 (F := Ideal) a b c d (ix2 x ⟨256 + l.val, by omega⟩))) (k0_pay74 (F := Ideal) a b c d (ix2 x ⟨384 + l.val, by omega⟩))) (k0_pay74 (F := Ideal) a b c d (ix2 x ⟨512 + l.val, by omega⟩))) (k0_pay74 (F := Ideal) a b c d (ix2 x ⟨640 + l.val, by omega⟩))) (k0_pay74 (F := Ideal) a b c d (ix2 x ⟨768 + l.val, by omega⟩))) (k0_pay74 (F := Ideal) a b c d (ix2 x ⟨896 + l.val, by omega⟩)) := by
  pointwise [k0_pay77]

theorem pay78_at (a : FVec Ideal S32x1024 .fp8e4m3) (b : Vec Ideal S1x32x1024 .fp8e4m3) (c : Vec Ideal S128x1024 .fp8e4m3) (d : Vec Ideal S112x256 .bf16)
    (m : FVec Ideal S112x128 .f32) (x : Fin 112) (l : Fin 128) : k0_pay78 (F := Ideal) a m b c d (ix2 x l) =
      m (ix2 x l) + k0_pay76 (F := Ideal) a b c d (ix2 x ⟨l.val, by omega⟩) + k0_pay76 (F := Ideal) a b c d (ix2 x ⟨128 + l.val, by omega⟩) + k0_pay76 (F := Ideal) a b c d (ix2 x ⟨256 + l.val, by omega⟩) + k0_pay76 (F := Ideal) a b c d (ix2 x ⟨384 + l.val, by omega⟩) + k0_pay76 (F := Ideal) a b c d (ix2 x ⟨512 + l.val, by omega⟩) + k0_pay76 (F := Ideal) a b c d (ix2 x ⟨640 + l.val, by omega⟩) + k0_pay76 (F := Ideal) a b c d (ix2 x ⟨768 + l.val, by omega⟩) + k0_pay76 (F := Ideal) a b c d (ix2 x ⟨896 + l.val, by omega⟩) := by
  pointwise [k0_pay78, k0_pay76]

/-- The bits of minus infinity and of zero, as the passes start from them. -/
theorem bits_ninf : Ideal.ofBits .f32 0xFF800000#32 = (⊥ : EReal) := by
  simp [Ideal.ofBits, Ideal.ieee]
theorem bits_zero : Ideal.ofBits .f32 0x00000000#32 = (0 : EReal) := by
  simp [Ideal.ofBits, Ideal.ieee]
/-- A loop's two accumulators and its stores, read from its step. -/
theorem of_step {α β γ : Type} {s t : (α × β) × γ} (h : s = t) : s.1.1 = t.1.1 ∧ s.1.2 = t.1.2 ∧ s.2 = t.2 := by subst h; exact ⟨rfl, rfl, rfl⟩

variable (c : Dev nD) (bd : Option Variants.none.V) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole)

/-- The first pass over the rows from 0. -/
theorem pass_t3 (X5 : BufTy.Contents (Elt Ideal) arg5.view.ty) (X12 : BufTy.Contents (Elt Ideal) arg12.view.ty) (X13 : BufTy.Contents (Elt Ideal) arg13.view.ty)
    (f : BufTy.Contents (Elt Ideal) arg14.view.ty) :
    PassPost (rows := 96) 0 arg14.view f (scoreN (arg5.view.read (Elt Ideal) X5) (arg12.view.read (Elt Ideal) X12) (arg13.view.read (Elt Ideal) X13))
      (st_k0_t3 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay51 (F := Ideal)) X5 X12 X13 (k0_pay53 (F := Ideal), k0_pay54 (F := Ideal)) k0_t3_loop.trips) := by
  refine pass_band (rows := 96) 0 (by omega) arg14.view f _ (fun n => st_k0_t3 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay51 (F := Ideal)) X5 X12 X13 (k0_pay53 (F := Ideal), k0_pay54 (F := Ideal)) n) _ (by decide +kernel) rfl (fun _ => bits_ninf) (fun _ => bits_zero) (fun k hk => ?_)
  have e := st_k0_t3_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay51 (F := Ideal)) X5 X12 X13 (k0_pay53 (F := Ideal), k0_pay54 (F := Ideal)) ⟨k, lt_of_lt_of_eq hk (by decide +kernel : (8 : ℕ) = k0_t3_loop.trips)⟩
  unfold tripL_k0_t3 tripR_k0_t3 trip_k0_t3 at e
  dsimp only at e
  obtain ⟨e1, e2, e3⟩ := of_step e
  refine ⟨_, _, _, _, k0_off9_eq _, fun x z => ?_, fun x z => pay57_at _ _ _ _ x z, fun x l => (congrFun e1 _).trans (pay58_at _ _ _ _ _ x l), fun x l => (congrFun e2 _).trans (pay59_at _ _ _ _ _ x l), e3⟩
  refine (pay55_at (k0_pay51 (F := Ideal)) _ _ _ x z).trans ?_
  refine tile_sum _ _ _ 0 k (by omega) hk x z (by omega) (by unfold bandOf; have := x.isLt; split_ifs <;> omega) _ _ _ _ rfl (fun j p => ?_) (fun j p => ?_) (fun j => ?_)
  · exact readAt_at _ _ _ (k0_off7_eq _) _ _ (by intro a; fin_cases a <;> simp [ix3])
  · exact readAt_at _ _ _ (k0_off8_eq _) _ _ (by intro a; fin_cases a <;> simp [ix2])
  · exact readAt_at _ _ _ rfl _ _ (by intro a; fin_cases a <;> simp [ix2])

/-- The first pass over the rows from 96. -/
theorem pass_t4 (X5 : BufTy.Contents (Elt Ideal) arg5.view.ty) (X12 : BufTy.Contents (Elt Ideal) arg12.view.ty) (X13 : BufTy.Contents (Elt Ideal) arg13.view.ty)
    (f : BufTy.Contents (Elt Ideal) arg14.view.ty) :
    PassPost (rows := 96) 96 arg14.view f (scoreN (arg5.view.read (Elt Ideal) X5) (arg12.view.read (Elt Ideal) X12) (arg13.view.read (Elt Ideal) X13))
      (st_k0_t4 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay51 (F := Ideal)) X5 X12 X13 (k0_pay62 (F := Ideal), k0_pay63 (F := Ideal)) k0_t4_loop.trips) := by
  refine pass_band (rows := 96) 96 (by omega) arg14.view f _ (fun n => st_k0_t4 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay51 (F := Ideal)) X5 X12 X13 (k0_pay62 (F := Ideal), k0_pay63 (F := Ideal)) n) _ (by decide +kernel) rfl (fun _ => bits_ninf) (fun _ => bits_zero) (fun k hk => ?_)
  have e := st_k0_t4_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay51 (F := Ideal)) X5 X12 X13 (k0_pay62 (F := Ideal), k0_pay63 (F := Ideal)) ⟨k, lt_of_lt_of_eq hk (by decide +kernel : (8 : ℕ) = k0_t4_loop.trips)⟩
  unfold tripL_k0_t4 tripR_k0_t4 trip_k0_t4 at e
  dsimp only at e
  obtain ⟨e1, e2, e3⟩ := of_step e
  refine ⟨_, _, _, _, k0_off12_eq _, fun x z => ?_, fun x z => pay57_at _ _ _ _ x z, fun x l => (congrFun e1 _).trans (pay58_at _ _ _ _ _ x l), fun x l => (congrFun e2 _).trans (pay59_at _ _ _ _ _ x l), e3⟩
  refine (pay55_at (k0_pay51 (F := Ideal)) _ _ _ x z).trans ?_
  refine tile_sum _ _ _ 96 k (by omega) hk x z (by omega) (by unfold bandOf; have := x.isLt; split_ifs <;> omega) _ _ _ _ rfl (fun j p => ?_) (fun j p => ?_) (fun j => ?_)
  · exact readAt_at _ _ _ (k0_off10_eq _) _ _ (by intro a; fin_cases a <;> simp [ix3])
  · exact readAt_at _ _ _ (k0_off11_eq _) _ _ (by intro a; fin_cases a <;> simp [ix2])
  · exact readAt_at _ _ _ rfl _ _ (by intro a; fin_cases a <;> simp [ix2])

/-- The first pass over the rows from 192. -/
theorem pass_t5 (v72 : FVec Ideal S96x128 .f32) (X5 : BufTy.Contents (Elt Ideal) arg5.view.ty) (X12 : BufTy.Contents (Elt Ideal) arg12.view.ty) (X13 : BufTy.Contents (Elt Ideal) arg13.view.ty)
    (f : BufTy.Contents (Elt Ideal) arg14.view.ty) :
    PassPost (rows := 112) 192 arg14.view f (scoreN (arg5.view.read (Elt Ideal) X5) (arg12.view.read (Elt Ideal) X12) (arg13.view.read (Elt Ideal) X13))
      (st_k0_t5 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (F := Ideal) (k0_pay51 (F := Ideal))) v72 X5 X12 X13 (k0_pay72 (F := Ideal), k0_pay73 (F := Ideal)) k0_t5_loop.trips) := by
  refine pass_band (rows := 112) 192 (by omega) arg14.view f _ (fun n => st_k0_t5 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (F := Ideal) (k0_pay51 (F := Ideal))) v72 X5 X12 X13 (k0_pay72 (F := Ideal), k0_pay73 (F := Ideal)) n) _ (by decide +kernel) rfl (fun _ => bits_ninf) (fun _ => bits_zero) (fun k hk => ?_)
  have e := st_k0_t5_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (F := Ideal) (k0_pay51 (F := Ideal))) v72 X5 X12 X13 (k0_pay72 (F := Ideal), k0_pay73 (F := Ideal)) ⟨k, lt_of_lt_of_eq hk (by decide +kernel : (8 : ℕ) = k0_t5_loop.trips)⟩
  unfold tripL_k0_t5 tripR_k0_t5 trip_k0_t5 at e
  dsimp only at e
  obtain ⟨e1, e2, e3⟩ := of_step e
  refine ⟨_, _, _, _, k0_off15_eq _, fun x z => ?_, fun x z => pay76_at _ _ _ _ x z, fun x l => (congrFun e1 _).trans (pay77_at _ _ _ _ _ x l), fun x l => (congrFun e2 _).trans (pay78_at _ _ _ _ _ x l), e3⟩
  refine (pay74_at (k0_pay52 (F := Ideal) (k0_pay51 (F := Ideal))) _ _ _ x z).trans ?_
  refine tile_sum _ _ _ 192 k (by omega) hk x z (by omega) (by unfold bandOf; have := x.isLt; split_ifs <;> omega) _ _ _ _ rfl (fun j p => ?_) (fun j p => ?_) (fun j => ?_)
  · exact readAt_at _ _ _ (k0_off13_eq _) _ _ (by intro a; fin_cases a <;> simp [ix3])
  · exact readAt_at _ _ _ (k0_off14_eq _) _ _ (by intro a; fin_cases a <;> simp [ix2])
  · exact readAt_at _ _ _ rfl _ _ (by intro a; fin_cases a <;> simp [ix2])

/-- The shifted pass over the rows from 0. -/
theorem pass_t6 (X5 : BufTy.Contents (Elt Ideal) arg5.view.ty) (X12 : BufTy.Contents (Elt Ideal) arg12.view.ty) (X13 : BufTy.Contents (Elt Ideal) arg13.view.ty)
    (f : BufTy.Contents (Elt Ideal) arg14.view.ty) :
    PassPost (rows := 96) 0 arg14.view f (scoreN (arg5.view.read (Elt Ideal) X5) (arg12.view.read (Elt Ideal) X12) (arg13.view.read (Elt Ideal) X13))
      (st_k0_t6 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (F := Ideal) (k0_pay51 (F := Ideal))) X5 X12 X13 (k0_pay28 (F := Ideal), k0_pay29 (F := Ideal)) k0_t6_loop.trips) := by
  refine pass_band (rows := 96) 0 (by omega) arg14.view f _ (fun n => st_k0_t6 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (F := Ideal) (k0_pay51 (F := Ideal))) X5 X12 X13 (k0_pay28 (F := Ideal), k0_pay29 (F := Ideal)) n) _ (by decide +kernel) rfl (fun _ => bits_ninf) (fun _ => bits_zero) (fun k hk => ?_)
  have e := st_k0_t6_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (F := Ideal) (k0_pay51 (F := Ideal))) X5 X12 X13 (k0_pay28 (F := Ideal), k0_pay29 (F := Ideal)) ⟨k, lt_of_lt_of_eq hk (by decide +kernel : (8 : ℕ) = k0_t6_loop.trips)⟩
  unfold tripL_k0_t6 tripR_k0_t6 trip_k0_t6 at e
  dsimp only at e
  obtain ⟨e1, e2, e3⟩ := of_step e
  refine ⟨_, _, _, _, k0_off18_eq _, fun x z => ?_, fun x z => pay57_at _ _ _ _ x z, fun x l => (congrFun e1 _).trans (pay58_at _ _ _ _ _ x l), fun x l => (congrFun e2 _).trans (pay59_at _ _ _ _ _ x l), e3⟩
  refine (pay55_at (k0_pay51 (F := Ideal)) _ _ _ x z).trans ?_
  refine tile_sum _ _ _ 0 k (by omega) hk x z (by omega) (by unfold bandOf; have := x.isLt; split_ifs <;> omega) _ _ _ _ rfl (fun j p => ?_) (fun j p => ?_) (fun j => ?_)
  · exact readAt_at _ _ _ (k0_off16_eq _) _ _ (by intro a; fin_cases a <;> simp [ix3])
  · exact readAt_at _ _ _ (k0_off17_eq _) _ _ (by intro a; fin_cases a <;> simp [ix2])
  · exact readAt_at _ _ _ rfl _ _ (by intro a; fin_cases a <;> simp [ix2])

/-- The shifted pass over the rows from 96. -/
theorem pass_t7 (v72 : FVec Ideal S96x128 .f32) (X5 : BufTy.Contents (Elt Ideal) arg5.view.ty) (X12 : BufTy.Contents (Elt Ideal) arg12.view.ty) (X13 : BufTy.Contents (Elt Ideal) arg13.view.ty)
    (f : BufTy.Contents (Elt Ideal) arg14.view.ty) :
    PassPost (rows := 96) 96 arg14.view f (scoreN (arg5.view.read (Elt Ideal) X5) (arg12.view.read (Elt Ideal) X12) (arg13.view.read (Elt Ideal) X13))
      (st_k0_t7 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (F := Ideal) (k0_pay51 (F := Ideal))) v72 X5 X12 X13 (k0_pay37 (F := Ideal), k0_pay38 (F := Ideal)) k0_t7_loop.trips) := by
  refine pass_band (rows := 96) 96 (by omega) arg14.view f _ (fun n => st_k0_t7 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (F := Ideal) (k0_pay51 (F := Ideal))) v72 X5 X12 X13 (k0_pay37 (F := Ideal), k0_pay38 (F := Ideal)) n) _ (by decide +kernel) rfl (fun _ => bits_ninf) (fun _ => bits_zero) (fun k hk => ?_)
  have e := st_k0_t7_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (F := Ideal) (k0_pay51 (F := Ideal))) v72 X5 X12 X13 (k0_pay37 (F := Ideal), k0_pay38 (F := Ideal)) ⟨k, lt_of_lt_of_eq hk (by decide +kernel : (8 : ℕ) = k0_t7_loop.trips)⟩
  unfold tripL_k0_t7 tripR_k0_t7 trip_k0_t7 at e
  dsimp only at e
  obtain ⟨e1, e2, e3⟩ := of_step e
  refine ⟨_, _, _, _, k0_off21_eq _, fun x z => ?_, fun x z => pay57_at _ _ _ _ x z, fun x l => (congrFun e1 _).trans (pay58_at _ _ _ _ _ x l), fun x l => (congrFun e2 _).trans (pay59_at _ _ _ _ _ x l), e3⟩
  refine (pay55_at (k0_pay51 (F := Ideal)) _ _ _ x z).trans ?_
  refine tile_sum _ _ _ 96 k (by omega) hk x z (by omega) (by unfold bandOf; have := x.isLt; split_ifs <;> omega) _ _ _ _ rfl (fun j p => ?_) (fun j p => ?_) (fun j => ?_)
  · exact readAt_at _ _ _ (k0_off19_eq _) _ _ (by intro a; fin_cases a <;> simp [ix3])
  · exact readAt_at _ _ _ (k0_off20_eq _) _ _ (by intro a; fin_cases a <;> simp [ix2])
  · exact readAt_at _ _ _ rfl _ _ (by intro a; fin_cases a <;> simp [ix2])

/-- The shifted pass over the rows from 192. -/
theorem pass_t8 (v72 : FVec Ideal S96x128 .f32) (X5 : BufTy.Contents (Elt Ideal) arg5.view.ty) (X12 : BufTy.Contents (Elt Ideal) arg12.view.ty) (X13 : BufTy.Contents (Elt Ideal) arg13.view.ty)
    (f : BufTy.Contents (Elt Ideal) arg14.view.ty) :
    PassPost (rows := 112) 192 arg14.view f (scoreN (arg5.view.read (Elt Ideal) X5) (arg12.view.read (Elt Ideal) X12) (arg13.view.read (Elt Ideal) X13))
      (st_k0_t8 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (F := Ideal) (k0_pay51 (F := Ideal))) v72 X5 X12 X13 (k0_pay89 (F := Ideal), k0_pay90 (F := Ideal)) k0_t8_loop.trips) := by
  refine pass_band (rows := 112) 192 (by omega) arg14.view f _ (fun n => st_k0_t8 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (F := Ideal) (k0_pay51 (F := Ideal))) v72 X5 X12 X13 (k0_pay89 (F := Ideal), k0_pay90 (F := Ideal)) n) _ (by decide +kernel) rfl (fun _ => bits_ninf) (fun _ => bits_zero) (fun k hk => ?_)
  have e := st_k0_t8_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (F := Ideal) (k0_pay51 (F := Ideal))) v72 X5 X12 X13 (k0_pay89 (F := Ideal), k0_pay90 (F := Ideal)) ⟨k, lt_of_lt_of_eq hk (by decide +kernel : (8 : ℕ) = k0_t8_loop.trips)⟩
  unfold tripL_k0_t8 tripR_k0_t8 trip_k0_t8 at e
  dsimp only at e
  obtain ⟨e1, e2, e3⟩ := of_step e
  refine ⟨_, _, _, _, k0_off24_eq _, fun x z => ?_, fun x z => pay76_at _ _ _ _ x z, fun x l => (congrFun e1 _).trans (pay77_at _ _ _ _ _ x l), fun x l => (congrFun e2 _).trans (pay78_at _ _ _ _ _ x l), e3⟩
  refine (pay74_at (k0_pay52 (F := Ideal) (k0_pay51 (F := Ideal))) _ _ _ x z).trans ?_
  refine tile_sum _ _ _ 192 k (by omega) hk x z (by omega) (by unfold bandOf; have := x.isLt; split_ifs <;> omega) _ _ _ _ rfl (fun j p => ?_) (fun j p => ?_) (fun j => ?_)
  · exact readAt_at _ _ _ (k0_off22_eq _) _ _ (by intro a; fin_cases a <;> simp [ix3])
  · exact readAt_at _ _ _ (k0_off23_eq _) _ _ (by intro a; fin_cases a <;> simp [ix2])
  · exact readAt_at _ _ _ rfl _ _ (by intro a; fin_cases a <;> simp [ix2])

end Cert.KernelIdeal.Val

end
-- ==== Proof.KernelIdeal.Parts.lean ====
/-
  The triples of the body's parts, over the extended reals.
-/
module

public import proofs.«01_k».proof.Proof.KernelIdeal.Pass
public import proofs.«01_k».proof.Proof.KernelIdeal.Body

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-! ## The rows' tables: a band stored over a table whose rows are constant -/

/-- A band of rows stored over a table of 128 lanes, each row one value: read at an index. -/
theorem read_rows {sig : RefSig} {κ : Kind} {sp : Space} {rows r0 : ℕ} (v : View sig κ sp S304x128 .f32) (f : v.ty.Contents (Elt Ideal))
    (inb : ∀ a, (![r0, 0] : Fin 2 → ℕ) a + (![rows, 128] : Fin 2 → ℕ) a ≤ S304x128.size a)
    (w : (Rect.unit (s := S304x128) ![r0, 0] ![rows, 128] inb).shape.Idx → EReal) (L : List (View.Piece (Elt Ideal) S304x128 .f32)) (G : ℕ → EReal)
    (hw : ∀ (x : Fin rows) (l : Fin 128), w (ix2 x l) = G (r0 + x.val)) (y : S304x128.Idx) :
    v.read (Elt Ideal) (v.writes (Elt Ideal) f ((⟨Rect.unit (s := S304x128) ![r0, 0] ![rows, 128] inb, w⟩ : View.Piece (Elt Ideal) S304x128 .f32) :: L)) y
      = if r0 ≤ (y 0).val ∧ (y 0).val < r0 + rows then G (y 0).val else v.read (Elt Ideal) (v.writes (Elt Ideal) f L) y := by
  rw [View.read_writes_cons_unit v f inb w L y rfl]
  have h1 : (y 1).val < 128 := (y 1).isLt
  by_cases h : r0 ≤ (y 0).val ∧ (y 0).val < r0 + rows
  · have hh : ∀ a, (![r0, 0] : Fin 2 → ℕ) a ≤ (y a).val ∧ (y a).val < (![r0, 0] : Fin 2 → ℕ) a + (![rows, 128] : Fin 2 → ℕ) a := by
      rw [Fin.forall_fin_two]
      refine ⟨?_, ?_⟩
      · simpa using h
      · simpa using h1
    rw [dif_pos hh, if_pos h]
    refine (congrArg w (eq_ix2 (n0 := rows) (n1 := 128) _)).trans ((hw _ _).trans (congrArg G ?_))
    rw [Rect.unitLocal_val]
    have := h.1
    simp only [Matrix.cons_val_zero]
    omega
  · rw [if_neg h, dif_neg fun hh => h (by simpa using hh 0)]

/-! The lane reductions at the end of a pass. -/

theorem pay60_at (a : FVec Ideal S96x128 .f32) (x : Fin 96) (l : Fin 128) : k0_pay60 (F := Ideal) a (ix2 x l) = Finset.univ.sup fun l : Fin 128 => a (ix2 x l) := by
  pointwise [k0_pay60]
  exact (congrArg (fun b => Finset.fold max b (fun l : Fin 128 => a (ix2 x l)) Finset.univ) bits_ninf).trans (fold_max_eq_sup _ _)

theorem pay61_at (a : FVec Ideal S96x128 .f32) (x : Fin 96) (l : Fin 128) : k0_pay61 (F := Ideal) a (ix2 x l) = ∑ l : Fin 128, a (ix2 x l) := by
  pointwise [k0_pay61]

theorem pay70_at (a : FVec Ideal S96x128 .f32) (x : Fin 96) (l : Fin 128) : k0_pay70 (F := Ideal) a (ix2 x l) = ∑ l : Fin 128, a (ix2 x l) := by
  pointwise [k0_pay70]

theorem pay71_at (a : FVec Ideal S96x128 .f32) (x : Fin 96) (l : Fin 128) : k0_pay71 (F := Ideal) a (ix2 x l) = a (ix2 x l) := by
  pointwise [k0_pay71]

theorem pay79_at (a : FVec Ideal S112x128 .f32) (x : Fin 112) (l : Fin 128) : k0_pay79 (F := Ideal) a (ix2 x l) = Finset.univ.sup fun l : Fin 128 => a (ix2 x l) := by
  pointwise [k0_pay79]
  exact (congrArg (fun b => Finset.fold max b (fun l : Fin 128 => a (ix2 x l)) Finset.univ) bits_ninf).trans (fold_max_eq_sup _ _)

theorem pay80_at (a : FVec Ideal S112x128 .f32) (x : Fin 112) (l : Fin 128) : k0_pay80 (F := Ideal) a (ix2 x l) = ∑ l : Fin 128, a (ix2 x l) := by
  pointwise [k0_pay80]

/-- The left table's column 96 takes a table's negative. -/
theorem pay27_at (v : Vec Ideal S304x128 .f32) (b : Vec Ideal S304x128 .bf16) (x : Fin 304) (l : Fin 128) :
    k0_pay27 (F := Ideal) v b (ix2 x l) = if l.val = 96 then 0 - v (ix2 x l) else b (ix2 x l) := by
  pointwise [k0_pay27]
  have : ∀ r : Fin 128, IntOp.cmpi CmpIPredicate.eq (BitVec.ofNat 32 r.val) 96#32 = if r.val = 96 then 1#1 else 0#1 := by decide
  rw [this l]
  split_ifs <;> rfl

/-- A row's maximum and the sum of its powers of two. -/
def rowMax (Y : ℕ → ℕ → EReal) (r : ℕ) : EReal := Finset.univ.sup fun p : Fin 8192 => Y r p.val
def rowSum (Y : ℕ → ℕ → EReal) (r : ℕ) : EReal := ∑ p : Fin 8192, Ideal.exp2 (Y r p.val)

/-- What the first two bands leave. -/
def Part10Post (Y : ℕ → ℕ → EReal) (E : S304x8192.Idx → EReal) (mx sm : S304x128.Idx → EReal) (v : S96x128.Idx → EReal) : Prop :=
  (∀ y, (y 0).val < 192 → E y = Ideal.exp2 (Y (y 0).val (y 1).val))
  ∧ (∀ y, (y 0).val < 192 → mx y = rowMax Y (y 0).val)
  ∧ (∀ y, (y 0).val < 96 → sm y = rowSum Y (y 0).val)
  ∧ (∀ (x : Fin 96) (l : Fin 128), v (ix2 x l) = rowSum Y (96 + x.val))

theorem part10_pure {sig : RefSig} {κ : Kind} {sp : Space} {v14 : View sig κ sp S304x8192 .f32} {f14 : v14.ty.Contents (Elt Ideal)} {v16 v17 : View sig κ sp S304x128 .f32}
    {f16 : v16.ty.Contents (Elt Ideal)} {f17 : v17.ty.Contents (Elt Ideal)} {Y : ℕ → ℕ → EReal}
    {s3 s4 : ((S96x128.Idx → EReal) × (S96x128.Idx → EReal)) × List (View.Piece (Elt Ideal) S304x8192 .f32)}
    (P3 : PassPost (rows := 96) 0 v14 f14 Y s3) (P4 : PassPost (rows := 96) 96 v14 (v14.writes (Elt Ideal) f14 s3.2) Y s4) :
    Part10Post Y (v14.read (Elt Ideal) (v14.writes (Elt Ideal) f14 (s4.2 ++ s3.2)))
      (v16.read (Elt Ideal) (v16.writes (Elt Ideal) f16 [⟨Rect.unit (s := S304x128) ![96, 0] S96x128.size inb_S304x128_S96x128_96_0, k0_pay69 (F := Ideal) s4.1.1⟩,
        ⟨Rect.unit (s := S304x128) ![0, 0] S96x128.size inb_S304x128_S96x128_0_0, k0_pay60 (F := Ideal) s3.1.1⟩]))
      (v17.read (Elt Ideal) (v17.writes (Elt Ideal) f17 [⟨Rect.unit (s := S304x128) ![0, 0] S96x128.size inb_S304x128_S96x128_0_0, k0_pay61 (F := Ideal) s3.1.2⟩]))
      (k0_pay70 (F := Ideal) s4.1.2) := by
  refine ⟨fun y hy => ?_, fun y hy => ?_, fun y hy => ?_, fun x l => ?_⟩
  · rw [View.writes_append]
    refine (P4.1 y).trans ?_
    split_ifs with h
    · rfl
    · refine (P3.1 y).trans ?_
      rw [if_pos ⟨by omega, by omega⟩]
  · refine (read_rows (r0 := 96) (rows := 96) _ _ _ _ _ (rowMax _) (fun x l => (pay60_at _ x l).trans (P4.2.1 x)) y).trans ?_
    split_ifs with h
    · rfl
    · refine (read_rows (r0 := 0) (rows := 96) _ _ _ _ _ (rowMax _) (fun x l => (pay60_at _ x l).trans (P3.2.1 x)) y).trans ?_
      rw [if_pos ⟨by omega, by omega⟩]
  · refine (read_rows (r0 := 0) (rows := 96) _ _ _ _ _ (rowSum _) (fun x l => (pay61_at _ x l).trans (P3.2.2 x)) y).trans ?_
    rw [if_pos ⟨by omega, by omega⟩]
  · exact (pay70_at _ x l).trans (P4.2.2 x)

/-- The first two bands' passes. -/
theorem part10_run (c : Dev nD) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole) (K : S1x32x8192.Idx → Elt Ideal .fp8e4m3) (M : S320x8192.Idx → Elt Ideal .fp8e4m3) (L : S304x256.Idx → Elt Ideal .bf16)
    (E0 : S304x8192.Idx → Elt Ideal .f32) (mx0 sm0 : S304x128.Idx → Elt Ideal .f32) (Q : (Σ' (v39 : FVec Ideal S32x1024 .fp8e4m3), FVec Ideal S96x128 .f32) → sProp 𝕄) :
    iprop(owns (c : Thread nD τ) arg5 fullShare K ∗ owns (c : Thread nD τ) arg12 fullShare M ∗ owns (c : Thread nD τ) arg13 fullShare L
        ∗ owns (c : Thread nD τ) arg14 fullShare E0 ∗ owns (c : Thread nD τ) arg16 fullShare mx0 ∗ owns (c : Thread nD τ) arg17 fullShare sm0
        ∗ (∀ E : S304x8192.Idx → Elt Ideal .f32, ∀ mx : S304x128.Idx → Elt Ideal .f32, ∀ sm : S304x128.Idx → Elt Ideal .f32, ∀ v : FVec Ideal S96x128 .f32,
            (owns (c : Thread nD τ) arg5 fullShare K ∗ owns (c : Thread nD τ) arg12 fullShare M ∗ owns (c : Thread nD τ) arg13 fullShare L ∗
            owns (c : Thread nD τ) arg14 fullShare E ∗ owns (c : Thread nD τ) arg16 fullShare mx ∗ owns (c : Thread nD τ) arg17 fullShare sm
            ∗ ⌜Part10Post (scoreN K M L) E mx sm v⌝) -∗
            Q ⟨k0_pay52 (F := Ideal) (k0_pay51 (F := Ideal)), v⟩))
      ⊢ wp frame (wpE (defs₀ (F := Ideal)) Variants.none c none) Set.univ
          (k0_part10 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay51 (F := Ideal))) Q := by
  simp only [k0_part10_eq_skeleton]; unfold k0_part10_skel
  unfold owns
  iintro ⟨⟨%f5, %h5, H5⟩, ⟨%f12, %h12, H12⟩, ⟨%f13, %h13, H13⟩, ⟨%f14, %h14, H14⟩, ⟨%f16, %h16, H16⟩, ⟨%f17, %h17, H17⟩, Hk⟩
  sl_exec
  sl_step
  iapply Hk
  isplitl [H5]
  · iexists _; isplitr; swap; · iexact H5
    ipureintro; exact h5
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; rfl
  isplitl [H16]
  · iexists _; isplitr; swap; · iexact H16
    ipureintro; rfl
  isplitl [H17]
  · iexists _; isplitr; swap; · iexact H17
    ipureintro; rfl
  ipureintro
  subst h5 h12 h13
  exact part10_pure (pass_t3 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f5 f12 f13 f14) (pass_t4 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f5 f12 f13 _)

end Cert.KernelIdeal.Val

end
-- ==== Proof.KernelIdeal.Parts2.lean ====
/-
  The last band's pass and the shifted passes, over the extended reals.
-/
module

public import proofs.«01_k».proof.Proof.KernelIdeal.Parts
public import proofs.«01_k».proof.Proof.KernelIdeal.Body

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- Whether some row's maximum is above ninety in absolute value: the kernel's test for the second, shifted, pass. -/
def shifts (Y : ℕ → ℕ → EReal) : Prop :=
  Scalar.cmpi .ne (Scalar.extui (Scalar.cmpf (F := Ideal) (φ := .f32) .ogt (k0_pay81 (F := Ideal) (fun y => rowMax Y (y 0).val)) (Scalar.ofBits .f32 0x42B40000#32)) : BitVec 32) 0#32 = 1#1

/-- What the passes leave: the left table as it was, or with each row's maximum taken off through its column 96; the exponentials
    and every row's maximum and sum, of the scores with that left table. -/
def Part11Post (K : S1x32x8192.Idx → EReal) (M : S320x8192.Idx → EReal) (L L' : S304x256.Idx → EReal) (E : S304x8192.Idx → EReal) (mx sm : S304x128.Idx → EReal) : Prop :=
  (¬ shifts (scoreN K M L) → L' = L)
  ∧ (shifts (scoreN K M L) → ∀ y, L' y = if (y 1).val = 96 then 0 - rowMax (scoreN K M L) (y 0).val else L y)
  ∧ (∀ y, E y = Ideal.exp2 (scoreN K M L' (y 0).val (y 1).val))
  ∧ (∀ y, mx y = rowMax (scoreN K M L') (y 0).val)
  ∧ (∀ y, sm y = rowSum (scoreN K M L') (y 0).val)

theorem pay87_at (a : FVec Ideal S96x128 .f32) (x : Fin 96) (l : Fin 128) : k0_pay87 (F := Ideal) a (ix2 x l) = Finset.univ.sup fun l : Fin 128 => a (ix2 x l) := pay60_at a x l
theorem pay88_at (a : FVec Ideal S96x128 .f32) (x : Fin 96) (l : Fin 128) : k0_pay88 (F := Ideal) a (ix2 x l) = ∑ l : Fin 128, a (ix2 x l) := pay61_at a x l

/-- A load of the whole table reads it. -/
theorem readAt_whole {sig : RefSig} {κ : Kind} {sp : Space} {e : EltTy} {Val : EltTy → Type} {d0 d1 : ℕ} (v : View sig κ sp (⟨2, ![d0, d1]⟩ : Shape) e)
    (f : v.ty.Contents Val) (inb : ∀ a, (![0, 0] : Fin 2 → ℕ) a + (![d0, d1] : Fin 2 → ℕ) a ≤ (⟨2, ![d0, d1]⟩ : Shape).size a) :
    v.readAt Val (Rect.unit (s := ⟨2, ![d0, d1]⟩) ![0, 0] ![d0, d1] inb).toLoadRect f = v.read Val f := by
  funext x
  exact readAt_at v f inb rfl x x (by intro a; fin_cases a <;> simp)

/-- After the last band: every row's exponentials, maximum and sum. -/
theorem part11_pure1 {sig : RefSig} {κ : Kind} {sp : Space} {v14 : View sig κ sp S304x8192 .f32} {f14 : v14.ty.Contents (Elt Ideal)} {v16 v17 : View sig κ sp S304x128 .f32}
    {f16 : v16.ty.Contents (Elt Ideal)} {f17 : v17.ty.Contents (Elt Ideal)} {Y : ℕ → ℕ → EReal} {v72 : S96x128.Idx → EReal}
    {s5 : ((S112x128.Idx → EReal) × (S112x128.Idx → EReal)) × List (View.Piece (Elt Ideal) S304x8192 .f32)}
    (h10 : Part10Post Y (v14.read (Elt Ideal) f14) (v16.read (Elt Ideal) f16) (v17.read (Elt Ideal) f17) v72)
    (P5 : PassPost (rows := 112) 192 v14 f14 Y s5) :
    (v14.read (Elt Ideal) (v14.writes (Elt Ideal) f14 s5.2) = fun y => Ideal.exp2 (Y (y 0).val (y 1).val))
    ∧ (v16.read (Elt Ideal) (v16.writes (Elt Ideal) f16 [⟨Rect.unit (s := S304x128) ![192, 0] S112x128.size inb_S304x128_S112x128_192_0, k0_pay79 (F := Ideal) s5.1.1⟩])
        = fun y => rowMax Y (y 0).val)
    ∧ (v17.read (Elt Ideal) (v17.writes (Elt Ideal) f17 [⟨Rect.unit (s := S304x128) ![192, 0] S112x128.size inb_S304x128_S112x128_192_0, k0_pay80 (F := Ideal) s5.1.2⟩,
        ⟨Rect.unit (s := S304x128) ![96, 0] S96x128.size inb_S304x128_S96x128_96_0, k0_pay71 (F := Ideal) v72⟩]) = fun y => rowSum Y (y 0).val) := by
  have hlt : ∀ y : S304x128.Idx, (y 0).val < 304 := fun y => (y 0).isLt
  refine ⟨funext fun y => ?_, funext fun y => ?_, funext fun y => ?_⟩
  · refine (P5.1 y).trans ?_
    have : (y 0).val < 304 := (y 0).isLt
    split_ifs with h
    · rfl
    · exact h10.1 y (by omega)
  · have := hlt y
    refine (read_rows (r0 := 192) (rows := 112) _ _ _ _ _ (rowMax Y) (fun x l => (pay79_at _ x l).trans (P5.2.1 x)) y).trans ?_
    split_ifs with h
    · rfl
    · exact h10.2.1 y (by omega)
  · have := hlt y
    refine (read_rows (r0 := 192) (rows := 112) _ _ _ _ _ (rowSum Y) (fun x l => (pay80_at _ x l).trans (P5.2.2 x)) y).trans ?_
    split_ifs with h
    · rfl
    · refine (read_rows (r0 := 96) (rows := 96) _ _ _ _ _ (rowSum Y) (fun x l => (pay71_at _ x l).trans (h10.2.2.2 x l)) y).trans ?_
      split_ifs with h'
      · rfl
      · exact h10.2.2.1 y (by omega)

/-- The left table with its column 96 set to the maxima's negatives. -/
theorem shifted_left {sig : RefSig} {κ : Kind} {sp : Space} (v13 : View sig κ sp S304x256 .bf16) (f13 : v13.ty.Contents (Elt Ideal))
    (w : S304x128.Idx → EReal) (R : ℕ → EReal) (hw : w = fun y => R (y 0).val) (y : S304x256.Idx) :
    v13.read (Elt Ideal) (v13.writes (Elt Ideal) f13 [⟨Rect.unit (s := S304x256) ![0, 0] S304x128.size inb_S304x256_S304x128_0_0,
      k0_pay27 (F := Ideal) w (v13.readAt (Elt Ideal) (Rect.unit (s := S304x256) ![0, 0] S304x128.size inb_S304x256_S304x128_0_0).toLoadRect f13)⟩]) y
      = if (y 1).val = 96 then 0 - R (y 0).val else v13.read (Elt Ideal) f13 y := by
  have h0 : (y 0).val < 304 := (y 0).isLt
  rw [View.read_writes_cons_unit v13 f13 _ _ _ y rfl]
  by_cases h : (y 1).val < 128
  · have hh : ∀ a, (![0, 0] : Fin 2 → ℕ) a ≤ (y a).val ∧ (y a).val < (![0, 0] : Fin 2 → ℕ) a + (![304, 128] : Fin 2 → ℕ) a := by
      rw [Fin.forall_fin_two]; exact ⟨by simpa using h0, by simpa using h⟩
    rw [dif_pos hh]
    have e0 : (Rect.unitLocal y hh 0).val = (y 0).val := by rw [Rect.unitLocal_val]; simp
    have e1 : (Rect.unitLocal y hh 1).val = (y 1).val := by rw [Rect.unitLocal_val]; simp
    refine (congrArg (k0_pay27 (F := Ideal) w _) (eq_ix2 (n0 := 304) (n1 := 128) _)).trans ((pay27_at _ _ _ _).trans ?_)
    refine if_congr (by rw [e1]) ?_ ?_
    · rw [hw]
      exact congrArg (fun z => 0 - R z) e0
    · refine readAt_at v13 f13 _ rfl _ y fun a => ?_
      fin_cases a
      · exact e0.symm.trans (Nat.zero_add _).symm
      · exact e1.symm.trans (Nat.zero_add _).symm
  · rw [dif_neg (fun hh => h (by simpa using (hh 1).2)), if_neg (by omega)]
    rfl

/-- After the three shifted passes: every row's exponentials, maximum and sum. -/
theorem part11_pure2 {sig : RefSig} {κ : Kind} {sp : Space} {v14 : View sig κ sp S304x8192 .f32} {f14 : v14.ty.Contents (Elt Ideal)} {v16 v17 : View sig κ sp S304x128 .f32}
    {f16 : v16.ty.Contents (Elt Ideal)} {f17 : v17.ty.Contents (Elt Ideal)} {Y : ℕ → ℕ → EReal}
    {s6 s7 : ((S96x128.Idx → EReal) × (S96x128.Idx → EReal)) × List (View.Piece (Elt Ideal) S304x8192 .f32)}
    {s8 : ((S112x128.Idx → EReal) × (S112x128.Idx → EReal)) × List (View.Piece (Elt Ideal) S304x8192 .f32)}
    (P6 : PassPost (rows := 96) 0 v14 f14 Y s6) (P7 : PassPost (rows := 96) 96 v14 (v14.writes (Elt Ideal) f14 s6.2) Y s7)
    (P8 : PassPost (rows := 112) 192 v14 (v14.writes (Elt Ideal) f14 (s7.2 ++ s6.2)) Y s8) :
    (v14.read (Elt Ideal) (v14.writes (Elt Ideal) f14 (s8.2 ++ (s7.2 ++ s6.2))) = fun y => Ideal.exp2 (Y (y 0).val (y 1).val))
    ∧ (v16.read (Elt Ideal) (v16.writes (Elt Ideal) f16 [⟨Rect.unit (s := S304x128) ![192, 0] S112x128.size inb_S304x128_S112x128_192_0, k0_pay96 (F := Ideal) s8.1.1⟩,
        ⟨Rect.unit (s := S304x128) ![96, 0] S96x128.size inb_S304x128_S96x128_96_0, k0_pay87 (F := Ideal) s7.1.1⟩,
        ⟨Rect.unit (s := S304x128) ![0, 0] S96x128.size inb_S304x128_S96x128_0_0, k0_pay35 (F := Ideal) s6.1.1⟩]) = fun y => rowMax Y (y 0).val)
    ∧ (v17.read (Elt Ideal) (v17.writes (Elt Ideal) f17 [⟨Rect.unit (s := S304x128) ![192, 0] S112x128.size inb_S304x128_S112x128_192_0, k0_pay97 (F := Ideal) s8.1.2⟩,
        ⟨Rect.unit (s := S304x128) ![96, 0] S96x128.size inb_S304x128_S96x128_96_0, k0_pay88 (F := Ideal) s7.1.2⟩,
        ⟨Rect.unit (s := S304x128) ![0, 0] S96x128.size inb_S304x128_S96x128_0_0, k0_pay36 (F := Ideal) s6.1.2⟩]) = fun y => rowSum Y (y 0).val) := by
  have hlt : ∀ y : S304x128.Idx, (y 0).val < 304 := fun y => (y 0).isLt
  refine ⟨funext fun y => ?_, funext fun y => ?_, funext fun y => ?_⟩
  · have : (y 0).val < 304 := (y 0).isLt
    rw [View.writes_append]
    refine (P8.1 y).trans ?_
    split_ifs with h
    · rfl
    · rw [View.writes_append]
      refine (P7.1 y).trans ?_
      split_ifs with h
      · rfl
      · refine (P6.1 y).trans ?_
        rw [if_pos ⟨by omega, by omega⟩]
  · have := hlt y
    refine (read_rows (r0 := 192) (rows := 112) _ _ _ _ _ (rowMax Y) (fun x l => (pay79_at _ x l).trans (P8.2.1 x)) y).trans ?_
    split_ifs with h
    · rfl
    · refine (read_rows (r0 := 96) (rows := 96) _ _ _ _ _ (rowMax Y) (fun x l => (pay60_at _ x l).trans (P7.2.1 x)) y).trans ?_
      split_ifs with h'
      · rfl
      · refine (read_rows (r0 := 0) (rows := 96) _ _ _ _ _ (rowMax Y) (fun x l => (pay60_at _ x l).trans (P6.2.1 x)) y).trans ?_
        rw [if_pos ⟨by omega, by omega⟩]
  · have := hlt y
    refine (read_rows (r0 := 192) (rows := 112) _ _ _ _ _ (rowSum Y) (fun x l => (pay80_at _ x l).trans (P8.2.2 x)) y).trans ?_
    split_ifs with h
    · rfl
    · refine (read_rows (r0 := 96) (rows := 96) _ _ _ _ _ (rowSum Y) (fun x l => (pay61_at _ x l).trans (P7.2.2 x)) y).trans ?_
      split_ifs with h'
      · rfl
      · refine (read_rows (r0 := 0) (rows := 96) _ _ _ _ _ (rowSum Y) (fun x l => (pay61_at _ x l).trans (P6.2.2 x)) y).trans ?_
        rw [if_pos ⟨by omega, by omega⟩]

/-- The shifted passes' whole outcome, over the table of maxima the first pass left. -/
theorem part11_shift {sig : RefSig} {κ : Kind} {sp : Space} {v13 : View sig κ sp S304x256 .bf16} {f13 : v13.ty.Contents (Elt Ideal)}
    {v14 : View sig κ sp S304x8192 .f32} {g14 : v14.ty.Contents (Elt Ideal)} {v16 v17 : View sig κ sp S304x128 .f32}
    {g16 : v16.ty.Contents (Elt Ideal)} {g17 : v17.ty.Contents (Elt Ideal)} {K : S1x32x8192.Idx → EReal} {M : S320x8192.Idx → EReal}
    {s6 s7 : ((S96x128.Idx → EReal) × (S96x128.Idx → EReal)) × List (View.Piece (Elt Ideal) S304x8192 .f32)}
    {s8 : ((S112x128.Idx → EReal) × (S112x128.Idx → EReal)) × List (View.Piece (Elt Ideal) S304x8192 .f32)} {f13' : v13.ty.Contents (Elt Ideal)}
    (hsh : shifts (scoreN K M (v13.read (Elt Ideal) f13))) (hmx : v16.read (Elt Ideal) g16 = fun y => rowMax (scoreN K M (v13.read (Elt Ideal) f13)) (y 0).val)
    (P6 : PassPost (rows := 96) 0 v14 g14 (scoreN K M (v13.read (Elt Ideal) f13')) s6) (P7 : PassPost (rows := 96) 96 v14 (v14.writes (Elt Ideal) g14 s6.2) (scoreN K M (v13.read (Elt Ideal) f13')) s7)
    (P8 : PassPost (rows := 112) 192 v14 (v14.writes (Elt Ideal) g14 (s7.2 ++ s6.2)) (scoreN K M (v13.read (Elt Ideal) f13')) s8)
    (hf : f13' = v13.writes (Elt Ideal) f13 [⟨Rect.unit (s := S304x256) ![0, 0] S304x128.size inb_S304x256_S304x128_0_0,
      k0_pay27 (F := Ideal) (v16.readAt (Elt Ideal) (Rect.unit (s := S304x128) ![0, 0] S304x128.size inb_S304x128_S304x128_0_0).toLoadRect g16)
        (v13.readAt (Elt Ideal) (Rect.unit (s := S304x256) ![0, 0] S304x128.size inb_S304x256_S304x128_0_0).toLoadRect f13)⟩] := by rfl) :
    v17.readCov [⟨Rect.unit (s := S304x128) ![192, 0] S112x128.size inb_S304x128_S112x128_192_0, k0_pay97 (F := Ideal) s8.1.2⟩,
        ⟨Rect.unit (s := S304x128) ![96, 0] S96x128.size inb_S304x128_S96x128_96_0, k0_pay88 (F := Ideal) s7.1.2⟩,
        ⟨Rect.unit (s := S304x128) ![0, 0] S96x128.size inb_S304x128_S96x128_0_0, k0_pay36 (F := Ideal) s6.1.2⟩]
        (Rect.unit (s := S304x128) ![0, 0] S304x128.size inb_S304x128_S304x128_0_0).toLoadRect
      = v17.read (Elt Ideal) (v17.writes (Elt Ideal) g17 [⟨Rect.unit (s := S304x128) ![192, 0] S112x128.size inb_S304x128_S112x128_192_0, k0_pay97 (F := Ideal) s8.1.2⟩,
        ⟨Rect.unit (s := S304x128) ![96, 0] S96x128.size inb_S304x128_S96x128_96_0, k0_pay88 (F := Ideal) s7.1.2⟩,
        ⟨Rect.unit (s := S304x128) ![0, 0] S96x128.size inb_S304x128_S96x128_0_0, k0_pay36 (F := Ideal) s6.1.2⟩])
    ∧ v16.readCov [⟨Rect.unit (s := S304x128) ![192, 0] S112x128.size inb_S304x128_S112x128_192_0, k0_pay96 (F := Ideal) s8.1.1⟩,
        ⟨Rect.unit (s := S304x128) ![96, 0] S96x128.size inb_S304x128_S96x128_96_0, k0_pay87 (F := Ideal) s7.1.1⟩,
        ⟨Rect.unit (s := S304x128) ![0, 0] S96x128.size inb_S304x128_S96x128_0_0, k0_pay35 (F := Ideal) s6.1.1⟩]
        (Rect.unit (s := S304x128) ![0, 0] S304x128.size inb_S304x128_S304x128_0_0).toLoadRect
      = v16.read (Elt Ideal) (v16.writes (Elt Ideal) g16 [⟨Rect.unit (s := S304x128) ![192, 0] S112x128.size inb_S304x128_S112x128_192_0, k0_pay96 (F := Ideal) s8.1.1⟩,
        ⟨Rect.unit (s := S304x128) ![96, 0] S96x128.size inb_S304x128_S96x128_96_0, k0_pay87 (F := Ideal) s7.1.1⟩,
        ⟨Rect.unit (s := S304x128) ![0, 0] S96x128.size inb_S304x128_S96x128_0_0, k0_pay35 (F := Ideal) s6.1.1⟩])
    ∧ Part11Post K M (v13.read (Elt Ideal) f13) (v13.read (Elt Ideal) f13')
      (v14.read (Elt Ideal) (v14.writes (Elt Ideal) g14 (s8.2 ++ (s7.2 ++ s6.2))))
      (v16.read (Elt Ideal) (v16.writes (Elt Ideal) g16 [⟨Rect.unit (s := S304x128) ![192, 0] S112x128.size inb_S304x128_S112x128_192_0, k0_pay96 (F := Ideal) s8.1.1⟩,
        ⟨Rect.unit (s := S304x128) ![96, 0] S96x128.size inb_S304x128_S96x128_96_0, k0_pay87 (F := Ideal) s7.1.1⟩,
        ⟨Rect.unit (s := S304x128) ![0, 0] S96x128.size inb_S304x128_S96x128_0_0, k0_pay35 (F := Ideal) s6.1.1⟩]))
      (v17.read (Elt Ideal) (v17.writes (Elt Ideal) g17 [⟨Rect.unit (s := S304x128) ![192, 0] S112x128.size inb_S304x128_S112x128_192_0, k0_pay97 (F := Ideal) s8.1.2⟩,
        ⟨Rect.unit (s := S304x128) ![96, 0] S96x128.size inb_S304x128_S96x128_96_0, k0_pay88 (F := Ideal) s7.1.2⟩,
        ⟨Rect.unit (s := S304x128) ![0, 0] S96x128.size inb_S304x128_S96x128_0_0, k0_pay36 (F := Ideal) s6.1.2⟩])) := by
  obtain ⟨hE, h16, h17⟩ := part11_pure2 (f16 := g16) (f17 := g17) (v16 := v16) (v17 := v17) P6 P7 P8
  obtain ⟨-, j16, j17⟩ := part11_pure2 (f16 := v16.junk) (f17 := v17.junk) (v16 := v16) (v17 := v17) P6 P7 P8
  refine ⟨?_, ?_, fun h => absurd hsh h, fun _ y => ?_, fun y => congrFun hE y, fun y => congrFun h16 y, fun y => congrFun h17 y⟩
  · exact ((readAt_whole v17 _ _).trans j17).trans h17.symm
  · exact ((readAt_whole v16 _ _).trans j16).trans h16.symm
  · rw [hf]
    exact shifted_left v13 f13 _ _ ((readAt_whole v16 _ _).trans hmx) y

/-- The last band's pass, and the shifted passes where a maximum is large. -/
theorem part11_run (c : Dev nD) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole) (K : S1x32x8192.Idx → Elt Ideal .fp8e4m3) (M : S320x8192.Idx → Elt Ideal .fp8e4m3) (L : S304x256.Idx → Elt Ideal .bf16)
    (E0 : S304x8192.Idx → Elt Ideal .f32) (mx0 sm0 : S304x128.Idx → Elt Ideal .f32) (v72 : FVec Ideal S96x128 .f32)
    (h10 : Part10Post (scoreN K M L) E0 mx0 sm0 v72) (Q : (Σ' (v103 : Vec Ideal S304x128 .f32), FVec Ideal S304x128 .f32) → sProp 𝕄) :
    iprop(owns (c : Thread nD τ) arg5 fullShare K ∗ owns (c : Thread nD τ) arg12 fullShare M ∗ owns (c : Thread nD τ) arg13 fullShare L
        ∗ owns (c : Thread nD τ) arg14 fullShare E0 ∗ owns (c : Thread nD τ) arg16 fullShare mx0 ∗ owns (c : Thread nD τ) arg17 fullShare sm0
        ∗ (∀ L' : S304x256.Idx → Elt Ideal .bf16, ∀ E : S304x8192.Idx → Elt Ideal .f32, ∀ mx : S304x128.Idx → Elt Ideal .f32, ∀ sm : S304x128.Idx → Elt Ideal .f32, ∀ v103 : FVec Ideal S304x128 .f32, ∀ v104 : FVec Ideal S304x128 .f32,
            (owns (c : Thread nD τ) arg5 fullShare K ∗ owns (c : Thread nD τ) arg12 fullShare M ∗ owns (c : Thread nD τ) arg13 fullShare L' ∗
            owns (c : Thread nD τ) arg14 fullShare E ∗ owns (c : Thread nD τ) arg16 fullShare mx ∗ owns (c : Thread nD τ) arg17 fullShare sm
            ∗ ⌜v103 = sm ∧ v104 = mx ∧ Part11Post K M L L' E mx sm⌝) -∗
            Q ⟨v103, k0_pay98 (F := Ideal) v103 v104⟩))
      ⊢ wp frame (wpE (defs₀ (F := Ideal)) Variants.none c none) Set.univ
          (k0_part11 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (F := Ideal) (k0_pay51 (F := Ideal))) v72) Q := by
  simp only [k0_part11_eq_skeleton]; unfold k0_part11_skel
  unfold owns
  iintro ⟨⟨%f5, %h5, H5⟩, ⟨%f12, %h12, H12⟩, ⟨%f13, %h13, H13⟩, ⟨%f14, %h14, H14⟩, ⟨%f16, %h16, H16⟩, ⟨%f17, %h17, H17⟩, Hk⟩
  sl_exec
  unfold part11_run.sl.H16_1
  subst h5 h12 h13 h14 h16 h17
  obtain ⟨hE, hmx, hsm⟩ := part11_pure1 h10 (pass_t5 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 f5 f12 f13 f14)
  have hv : part11_run.sl.v102 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 f5 f12 f13 f16 = 1#1 ↔ shifts (scoreN (arg5.view.read (Elt Ideal) f5) (arg12.view.read (Elt Ideal) f12) (arg13.view.read (Elt Ideal) f13)) := by
    unfold shifts
    rw [← hmx, ← readAt_whole arg16.view _ inb_S304x128_S304x128_0_0]
    unfold part11_run.sl.v102 part11_run.sl.v101 part11_run.sl.v100 part11_run.sl.v94
    unfold part11_run.sl.H16_1 part11_run.sl.cst_48
    exact Iff.rfl
  generalize part11_run.sl.v102 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 f5 f12 f13 f16 = v102 at hv
  unfold Scf.Loop.trips at hE hmx hsm
  generalize hs5 : (st_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay52 (F := Ideal) (k0_pay51 (F := Ideal))) v72 f5 f12 f13 (k0_pay72 (F := Ideal), k0_pay73 (F := Ideal)) (Scf.trips k0_t5_loop.lb k0_t5_loop.ub k0_t5_loop.st)) = s5 at hE hmx hsm
  generalize arg14.view.writes (Elt Ideal) f14 s5.2 = g14 at hE
  generalize arg16.view.writes (Elt Ideal) f16 [⟨Rect.unit (s := S304x128) ![192, 0] S112x128.size inb_S304x128_S112x128_192_0, k0_pay79 (F := Ideal) s5.1.1⟩] = g16 at hmx
  generalize arg17.view.writes (Elt Ideal) f17 [⟨Rect.unit (s := S304x128) ![192, 0] S112x128.size inb_S304x128_S112x128_192_0, k0_pay80 (F := Ideal) s5.1.2⟩,
        ⟨Rect.unit (s := S304x128) ![96, 0] S96x128.size inb_S304x128_S96x128_96_0, k0_pay71 (F := Ideal) v72⟩] = g17 at hsm
  refine Hand.ite_cases (fun h3 => ?_) (fun h3 => ?_)
  · have hsh := hv.1 h3
    sl_exec
    sl_step
    iapply Hk

    isplitl [H5]
    · iexists _; isplitr; swap; · iexact H5
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H16]
    · iexists _; isplitr; swap; · iexact H16
      ipureintro; rfl
    isplitl [H17]
    · iexists _; isplitr; swap; · iexact H17
      ipureintro; rfl
    ipureintro
    unfold part11_run.sl.v103 part11_run.sl.v104 part11_run.sl.H17_3 part11_run.sl.H16_3
    exact part11_shift hsh hmx (pass_t6 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f5 f12 _ g14) (pass_t7 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 f5 f12 _ _) (pass_t8 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 f5 f12 _ _)
  · have hsh : ¬ _ := fun h => h3 (hv.2 h)
    sl_exec
    sl_step
    iapply Hk

    isplitl [H5]
    · iexists _; isplitr; swap; · iexact H5
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H16]
    · iexists _; isplitr; swap; · iexact H16
      ipureintro; rfl
    isplitl [H17]
    · iexists _; isplitr; swap; · iexact H17
      ipureintro; rfl
    ipureintro
    refine ⟨readAt_whole _ _ _, readAt_whole _ _ _, fun _ => rfl, fun h => absurd h hsh, fun y => congrFun hE y, fun y => congrFun hmx y, fun y => congrFun hsm y⟩

end Cert.KernelIdeal.Val

end
-- ==== Proof.KernelIdeal.Quant.lean ====
/-
  The quantising loops: each band of the exponentials times its rows' factors.
-/
module

public import proofs.«01_k».proof.Proof.KernelIdeal.Parts2
public import proofs.«01_k».proof.Proof.KernelIdeal.Body

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The table of codes a band of which has been written: the exponential times the row's factor at the column's lane. -/
def QuantPost (r0 rows : ℕ) (E : S304x8192.Idx → EReal) (R : S304x128.Idx → EReal) (P0 P : S320x8192.Idx → EReal) : Prop :=
  ∀ y : S320x8192.Idx, P y = if h : r0 ≤ (y 0).val ∧ (y 0).val < r0 + rows ∧ (y 0).val < 304 then E (ix2 ⟨(y 0).val, h.2.2⟩ (y 1)) * R (ix2 ⟨(y 0).val, h.2.2⟩ ⟨(y 1).val % 128, Nat.mod_lt _ (by omega)⟩) else P0 y

theorem pay104_at (a : FVec Ideal S304x128 .f32) (b : FVec Ideal S304x128 .f32) (k : IVec S304x128 32) (m : FVec Ideal S304x128 .f32) (e : FVec Ideal S96x128 .f32) (x : Fin 96) (l : Fin 128) :
    k0_pay104 (F := Ideal) a b k m e (ix2 x l) = e (ix2 x l) * k0_pay103 (F := Ideal) a b k m (ix2 ⟨x.val, by omega⟩ l) := by
  pointwise [k0_pay104]
theorem pay1_at (r : FVec Ideal S96x128 .f32) (e : FVec Ideal S96x128 .f32) (x : Fin 96) (l : Fin 128) :
    k0_pay1 (F := Ideal) r e (ix2 x l) = e (ix2 x l) * r (ix2 x l) := by
  pointwise [k0_pay1]
theorem pay105_at (a : FVec Ideal S304x128 .f32) (b : FVec Ideal S304x128 .f32) (k : IVec S304x128 32) (m : FVec Ideal S304x128 .f32) (x : Fin 96) (l : Fin 128) :
    k0_pay105 (F := Ideal) a b k m (ix2 x l) = k0_pay103 (F := Ideal) a b k m (ix2 ⟨96 + x.val, by omega⟩ l) := by
  pointwise [k0_pay105]
theorem pay2_at (r : FVec Ideal S304x128 .f32) (e : FVec Ideal S112x128 .f32) (x : Fin 112) (l : Fin 128) :
    k0_pay2 (F := Ideal) r e (ix2 x l) = e (ix2 x l) * r (ix2 ⟨192 + x.val, by omega⟩ l) := by
  pointwise [k0_pay2]

/-- A loop that stores, at trip `k`, the exponentials' tile at column `128 k` times the rows' factors. -/
theorem quant_band {sig : RefSig} {κ : Kind} {sp : Space} {rows : ℕ} (r0 : ℕ) (hrows : r0 + rows ≤ 304)
    (v : View sig κ sp S320x8192 .fp8e4m3) (f : v.ty.Contents (Elt Ideal)) (E : S304x8192.Idx → EReal) (R : S304x128.Idx → EReal)
    (L : ℕ → List (View.Piece (Elt Ideal) S320x8192 .fp8e4m3)) (N : ℕ) (hN : N = 64) (h0 : L 0 = [])
    (hs : ∀ k < 64, ∃ (X W : (⟨2, ![rows, 128]⟩ : Shape).Idx → EReal) (off : Fin 2 → ℕ) (inb : ∀ a, off a + (![rows, 128] : Fin 2 → ℕ) a ≤ S320x8192.size a),
      off = ![r0, 128 * k]
      ∧ (∀ (x : Fin rows) (z : Fin 128) (hk : 128 * k + z.val < 8192), X (ix2 x z) = E (ix2 ⟨r0 + x.val, by omega⟩ ⟨128 * k + z.val, hk⟩))
      ∧ (∀ (x : Fin rows) (z : Fin 128), W (ix2 x z) = X (ix2 x z) * R (ix2 ⟨r0 + x.val, by omega⟩ z))
      ∧ L (k + 1) = (⟨Rect.unit (s := S320x8192) off ![rows, 128] inb, W⟩ : View.Piece (Elt Ideal) S320x8192 .fp8e4m3) :: L k) :
    QuantPost r0 rows E R (v.read (Elt Ideal) f) (v.read (Elt Ideal) (v.writes (Elt Ideal) f (L N))) := by
  subst hN
  intro y
  have h := band_written (W := 128) (rows := rows) (r0 := r0) v f (fun y => if h : (y 0).val < 304 then E (ix2 ⟨(y 0).val, h⟩ (y 1)) * R (ix2 ⟨(y 0).val, h⟩ ⟨(y 1).val % 128, Nat.mod_lt _ (by omega)⟩) else 0) L 64 h0 (fun k hk => by
    obtain ⟨X, W, off, inb, hoff, hX, hW, hl⟩ := hs k hk
    refine ⟨off, inb, W, hoff, hl, fun x y hxy => ?_⟩
    have hx : x = ix2 (x 0) (x 1) := eq_ix2 x
    have e0 := hxy 0
    have e1 := hxy 1
    simp only [Matrix.cons_val_zero, Matrix.cons_val_one] at e0 e1
    have x0 : (x 0).val < rows := (x 0).isLt
    have x1 : (x 1).val < 128 := (x 1).isLt
    have hy : (y 0).val < 304 := by omega
    rw [dif_pos hy]
    refine (congrArg W hx).trans ((hW (x 0) (x 1)).trans ?_)
    refine congrArg₂ (· * ·) ((hX (x 0) (x 1) (by omega)).trans (congrArg E ?_)) (congrArg R ?_)
    · funext a; fin_cases a
      · exact Fin.ext e0.symm
      · exact Fin.ext e1.symm
    · funext a; fin_cases a
      · exact Fin.ext e0.symm
      · refine Fin.ext ?_
        show (x 1).val = (y 1).val % 128
        omega) 64 le_rfl y
  refine h.trans ?_
  have y1 : (y 1).val < 8192 := (y 1).isLt
  by_cases hh : r0 ≤ (y 0).val ∧ (y 0).val < r0 + rows
  · rw [if_pos ⟨hh.1, hh.2, by omega⟩, dif_pos (by omega), dif_pos ⟨hh.1, hh.2, by omega⟩]
  · rw [if_neg (by omega), dif_neg (by omega)]

/-- The codes of the rows from 0. -/
theorem fill_t9 (c : Dev nD) (bd : Option Variants.none.V) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole) (v103 : Vec Ideal S304x128 .f32) (v108 : FVec Ideal S304x128 .f32) (v153 : IVec S304x128 32) (v187 : Vec Ideal S304x128 .f32)
    (X14 : BufTy.Contents (Elt Ideal) arg14.view.ty) (f : BufTy.Contents (Elt Ideal) arg15.view.ty) :
    QuantPost 0 96 (arg14.view.read (Elt Ideal) X14) (k0_pay103 (F := Ideal) v103 v108 v153 v187) (arg15.view.read (Elt Ideal) f)
      (arg15.view.read (Elt Ideal) (arg15.view.writes (Elt Ideal) f (pb_k0_t9 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v103 v108 v153 v187 X14 k0_t9_loop.trips))) := by
  refine quant_band (rows := 96) 0 (by omega) arg15.view f _ _ (fun n => pb_k0_t9 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v103 v108 v153 v187 X14 n) _ (by decide +kernel) rfl (fun k hk => ?_)
  have e := pb_k0_t9_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v103 v108 v153 v187 X14 ⟨k, lt_of_lt_of_eq hk (by decide +kernel : (64 : ℕ) = k0_t9_loop.trips)⟩
  unfold tripL_k0_t9 trip_k0_t9 at e
  dsimp only at e
  refine ⟨_, _, _, _, k0_off26_eq _, fun x z hz => ?_, fun x z => (pay104_at _ _ _ _ _ x z).trans (congrArg (_ * ·) (congrArg (k0_pay103 (F := Ideal) v103 v108 v153 v187) (by funext a; fin_cases a <;> first | rfl | exact Fin.ext (Nat.zero_add _).symm))), e⟩
  exact readAt_at _ _ _ (k0_off25_eq _) _ _ (by intro a; fin_cases a <;> simp [ix2])

/-- The codes of the rows from 96. -/
theorem fill_t10 (c : Dev nD) (bd : Option Variants.none.V) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole) (v194 : FVec Ideal S96x128 .f32) (R : S304x128.Idx → EReal) (hR : ∀ (x : Fin 96) (l : Fin 128), v194 (ix2 x l) = R (ix2 ⟨96 + x.val, by omega⟩ l))
    (X14 : BufTy.Contents (Elt Ideal) arg14.view.ty) (f : BufTy.Contents (Elt Ideal) arg15.view.ty) :
    QuantPost 96 96 (arg14.view.read (Elt Ideal) X14) R (arg15.view.read (Elt Ideal) f)
      (arg15.view.read (Elt Ideal) (arg15.view.writes (Elt Ideal) f (pb_k0_t10 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v194 X14 k0_t10_loop.trips))) := by
  refine quant_band (rows := 96) 96 (by omega) arg15.view f _ _ (fun n => pb_k0_t10 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v194 X14 n) _ (by decide +kernel) rfl (fun k hk => ?_)
  have e := pb_k0_t10_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v194 X14 ⟨k, lt_of_lt_of_eq hk (by decide +kernel : (64 : ℕ) = k0_t10_loop.trips)⟩
  unfold tripL_k0_t10 trip_k0_t10 at e
  dsimp only at e
  refine ⟨_, _, _, _, k0_off28_eq _, fun x z hz => ?_, fun x z => (pay1_at _ _ x z).trans (congrArg (_ * ·) (hR x z)), e⟩
  exact readAt_at _ _ _ (k0_off27_eq _) _ _ (by intro a; fin_cases a <;> simp [ix2])

/-- The codes of the rows from 192. -/
theorem fill_t11 (c : Dev nD) (bd : Option Variants.none.V) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole) (v191 : FVec Ideal S304x128 .f32)
    (X14 : BufTy.Contents (Elt Ideal) arg14.view.ty) (f : BufTy.Contents (Elt Ideal) arg15.view.ty) :
    QuantPost 192 112 (arg14.view.read (Elt Ideal) X14) v191 (arg15.view.read (Elt Ideal) f)
      (arg15.view.read (Elt Ideal) (arg15.view.writes (Elt Ideal) f (pb_k0_t11 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v191 X14 k0_t11_loop.trips))) := by
  refine quant_band (rows := 112) 192 (by omega) arg15.view f _ _ (fun n => pb_k0_t11 (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v191 X14 n) _ (by decide +kernel) rfl (fun k hk => ?_)
  have e := pb_k0_t11_succ (F := Ideal) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v191 X14 ⟨k, lt_of_lt_of_eq hk (by decide +kernel : (64 : ℕ) = k0_t11_loop.trips)⟩
  unfold tripL_k0_t11 trip_k0_t11 at e
  dsimp only at e
  refine ⟨_, _, _, _, k0_off30_eq _, fun x z hz => ?_, fun x z => pay2_at _ _ x z, e⟩
  exact readAt_at _ _ _ (k0_off29_eq _) _ _ (by intro a; fin_cases a <;> simp [ix2])

/-- The part that starts the codes: the rows' factors and the first band. -/
theorem part13_run (c : Dev nD) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole) (E : S304x8192.Idx → Elt Ideal .f32) (mx : S304x128.Idx → Elt Ideal .f32) (P0 : S320x8192.Idx → Elt Ideal .fp8e4m3)
    (v103 v108 : FVec Ideal S304x128 .f32) (v153 : IVec S304x128 32) (Q : (Σ' (v180 : FVec Ideal S304x128 .f32) (v191 : FVec Ideal S304x128 .f32) (v194 : FVec Ideal S96x128 .f32), BitVec 32) → sProp 𝕄) :
    iprop(owns (c : Thread nD τ) arg14 fullShare E ∗ owns (c : Thread nD τ) arg15 fullShare P0 ∗ owns (c : Thread nD τ) arg16 fullShare mx
        ∗ (∀ P : S320x8192.Idx → Elt Ideal .fp8e4m3,
            (owns (c : Thread nD τ) arg14 fullShare E ∗ owns (c : Thread nD τ) arg15 fullShare P ∗ owns (c : Thread nD τ) arg16 fullShare mx
            ∗ ⌜QuantPost 0 96 E (k0_pay103 (F := Ideal) v103 v108 v153 mx) P0 P⌝) -∗
            Q ⟨k0_pay102 (F := Ideal) v108 v153, k0_pay103 (F := Ideal) v103 v108 v153 mx, k0_pay105 (F := Ideal) v103 v108 v153 mx, 0#32⟩))
      ⊢ wp frame (wpE (defs₀ (F := Ideal)) Variants.none c none) Set.univ
          (k0_part13 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v103 v108 v153) Q := by
  simp only [k0_part13_eq_skeleton]; unfold k0_part13_skel
  unfold owns
  iintro ⟨⟨%f14, %h14, H14⟩, ⟨%f15, %h15, H15⟩, ⟨%f16, %h16, H16⟩, Hk⟩
  sl_exec
  subst h14 h15 h16
  sl_step
  rw [readAt_whole]
  iapply Hk
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  ipureintro
  have := fill_t9 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v103 v108 v153 (arg16.view.read (Elt Ideal) f16) f14 f15
  unfold Scf.Loop.trips at this
  exact this

end Cert.KernelIdeal.Val
-- ==== Proof.KernelIdeal.Mask.lean ====
/-
  The mask's bits: the words packed by bytes, and the bytes spread over the keys as codes.
-/
module

public import proofs.«01_k».proof.Proof.KernelIdeal.Quant
public import Idealize.ShloMosaic.Lib.BitcastPair
public import proofs.«01_k».proof.Proof.KernelIdeal.Body

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- Byte `r % 4` of the word in row `r / 4`: what a table of words reads as when its rows are read as bytes. -/
theorem bitcast_32_8 (x : S8x128.Idx → BitVec 32) (h : S8x128.Bitcasts 32 S32x128 8) (r : Fin 32) (l : Fin 128) :
    bitcast S32x128 8 x h (ix2 r l) = (x (ix2 ⟨r.val / 4, by omega⟩ l)).extractLsb' (8 * (r.val % 4)) 8 := by
  apply BitVec.eq_of_getLsbD_eq
  intro i hi
  rw [Idealize.ShloMosaic.bitcast_getLsbD x h (ix2 r l) i hi (by decide), BitVec.getLsbD_extractLsb']
  have er : S32x128.row (ix2 r l) = r.val := rfl
  have ep : (S32x128.row (ix2 r l) * 8 + i) / 32 = r.val / 4 := by rw [er]; omega
  have eq : (S32x128.row (ix2 r l) * 8 + i) % 32 = 8 * (r.val % 4) + i := by rw [er]; omega
  rw [h.srcIdx_congr (ix2 r l) ep _ (fun a ha => by have := h.pos_lt (ix2 r l) 0 (by decide) a ha; omega), eq]
  simp only [hi, decide_true, Bool.true_and]
  congr 2
  funext a; apply Fin.ext; fin_cases a <;> rfl

theorem fp8_one : Ideal.ofBits .fp8e4m3 1#8 = (((2:ℝ)⁻¹ ^ 9 : ℝ) : EReal) := by
  simp [Ideal.ofBits, Ideal.e4m3fn, -EReal.coe_mul, -EReal.coe_pow]
theorem fp8_zero : Ideal.ofBits .fp8e4m3 0#8 = 0 := by
  simp [Ideal.ofBits, Ideal.e4m3fn]

theorem bit255 (m : ℕ) : (255#32).getLsbD m = decide (m < 8) := by
  by_cases h : m < 32
  · interval_cases m <;> rfl
  · rw [BitVec.getLsbD_of_ge _ _ (by omega)]; symm; rw [decide_eq_false_iff_not]; omega

/-- A byte each of four words, put together, shifted by `b` and cut to the lowest bit of each byte: byte `j` is the bit of word `j`. -/
theorem byte_bit (W : ℕ → BitVec 32) (sh b j : ℕ) (hb : b < 8) (hj : j < 4) :
    (BitVec.extractLsb' (8 * j) 8 ((((((0#32 ||| ((W 0 >>> sh) &&& 255#32) <<< 0) ||| ((W 1 >>> sh) &&& 255#32) <<< 8) ||| ((W 2 >>> sh) &&& 255#32) <<< 16) ||| ((W 3 >>> sh) &&& 255#32) <<< 24) >>> b) &&& 16843009#32))
      = if (W j).getLsbD (sh + b) then 1#8 else 0#8 := by
  apply BitVec.eq_of_getLsbD_eq
  intro i hi
  rw [BitVec.getLsbD_extractLsb', BitVec.getLsbD_and]
  simp only [hi, decide_true, Bool.true_and]
  have h1 : (16843009#32).getLsbD (8 * j + i) = decide (i = 0) := by
    interval_cases j <;> interval_cases i <;> rfl
  rw [h1]
  by_cases hi0 : i = 0
  · subst hi0
    simp only [BitVec.getLsbD_or, BitVec.getLsbD_ushiftRight, BitVec.getLsbD_shiftLeft, BitVec.getLsbD_and, bit255, decide_true, Bool.and_true]
    interval_cases j <;> interval_cases b <;> simp <;> split_ifs <;> simp_all
  · have h2 : (if ((W j).getLsbD (sh + b)) then 1#8 else 0#8).getLsbD i = false := by
      split_ifs
      · interval_cases i <;> first | rfl | exact absurd rfl hi0
      · simp
    rw [h2]; simp [hi0]

/-- A strided load's element. -/
theorem readAt_strided {sig : RefSig} {κ : Kind} {sp : Space} {e : EltTy} {Val : EltTy → Type} {s : Shape} (v : View sig κ sp s e)
    (f : v.ty.Contents Val) (r : LoadRect s) {off' : Fin s.rank → ℕ} (h : r.off = off')
    (x : r.shape.Idx) (y : s.Idx) (hy : ∀ a, (y a).val = off' a + r.stride a * (x a).val) :
    v.readAt Val r f x = v.read Val f y := by
  subst h
  rw [View.readAt_apply]
  refine congrArg (v.read Val f) ?_
  funext a
  exact Fin.ext (hy a).symm

/-- The word of row `r` and lane `l` of half `h`, zero outside the table. -/
def wordAt (A : S2x320x128.Idx → BitVec 32) (h r l : ℕ) : BitVec 32 :=
  if hh : h < 2 ∧ r < 320 ∧ l < 128 then A (ix3 ⟨h, hh.1⟩ ⟨r, hh.2.1⟩ ⟨l, hh.2.2⟩) else 0

/-- The packed word of row group `g`, key group `u`, sublane `y` and lane `l`: byte `l % 4` of word `l / 4 + 32 (u % 4)`, of the four rows `32 g + 4 y + k`. -/
def packAt (A : S2x320x128.Idx → BitVec 32) (g u y l : ℕ) : BitVec 32 :=
  (((0#32 ||| ((wordAt A (u / 4) (32 * g + 4 * y + 0) (l / 4 + 32 * (u % 4)) >>> (8 * (l % 4))) &&& 255#32) <<< 0)
    ||| ((wordAt A (u / 4) (32 * g + 4 * y + 1) (l / 4 + 32 * (u % 4)) >>> (8 * (l % 4))) &&& 255#32) <<< 8)
    ||| ((wordAt A (u / 4) (32 * g + 4 * y + 2) (l / 4 + 32 * (u % 4)) >>> (8 * (l % 4))) &&& 255#32) <<< 16)
    ||| ((wordAt A (u / 4) (32 * g + 4 * y + 3) (l / 4 + 32 * (u % 4)) >>> (8 * (l % 4))) &&& 255#32) <<< 24

/-- The code of a marked key: the word's bit, as the least fp8 number or zero. -/
def codeAt (A : S2x320x128.Idx → BitVec 32) (r s : ℕ) : EReal :=
  if (wordAt A (s / 4096) r (s % 4096 / 32)).getLsbD (s % 32) then (((2:ℝ)⁻¹ ^ 9 : ℝ) : EReal) else 0

/-- The lane a pack step gathers from. -/
theorem pack_lane : ∀ (k : Fin 80) (l : Fin 128),
    (Scalar.select (IntOp.cmpi CmpIPredicate.slt (IntOp.addi (IntOp.shrsi ArithUnit.vector (BitVec.ofNat 32 l.val) 2#32) (Scalar.muli (32#32) (Scalar.remsi (Scalar.remsi (Scf.iv 0#32 1#32 k.val) 8#32) 4#32))) 0#32)
      (IntOp.addi (IntOp.addi (IntOp.shrsi ArithUnit.vector (BitVec.ofNat 32 l.val) 2#32) (Scalar.muli (32#32) (Scalar.remsi (Scalar.remsi (Scf.iv 0#32 1#32 k.val) 8#32) 4#32))) 128#32)
      (IntOp.addi (IntOp.shrsi ArithUnit.vector (BitVec.ofNat 32 l.val) 2#32) (Scalar.muli (32#32) (Scalar.remsi (Scalar.remsi (Scf.iv 0#32 1#32 k.val) 8#32) 4#32)))).toNat % 128
      = l.val / 4 + 32 * (k.val % 8 % 4) := by decide +kernel
/-- The shift a pack step takes its byte by. -/
theorem pack_shift : ∀ l : Fin 128, IntOp.shli ArithUnit.vector (IntOp.andi (BitVec.ofNat 32 l.val) 3#32) 3#32 = BitVec.ofNat 32 (8 * (l.val % 4)) := by decide +kernel
theorem shrui_of (x : BitVec 32) (n : ℕ) (h : n < 32) : IntOp.shrui ArithUnit.vector x (BitVec.ofNat 32 n) = x >>> n := by
  unfold IntOp.shrui
  have e : (BitVec.ofNat 32 n).toNat = n := by rw [BitVec.toNat_ofNat]; omega
  rw [if_pos (by omega), BitVec.ushiftRight_eq', e]
theorem shli_of (x : BitVec 32) (n : ℕ) (h : n < 32) : IntOp.shli ArithUnit.vector x (BitVec.ofNat 32 n) = x <<< n := by
  unfold IntOp.shli
  have e : (BitVec.ofNat 32 n).toNat = n := by rw [BitVec.toNat_ofNat]; omega
  rw [if_pos (by omega), BitVec.shiftLeft_eq', e]

/-- A word a pack step loads. -/
theorem pack_word {sig : RefSig} {κ : Kind} {sp : Space} (v : View sig κ sp S2x320x128 EltTy.i32) (X : v.ty.Contents (Elt Ideal))
    (k : ℕ) (hk : k < 80) (r : Fin 4) (off : Fin 3 → ℕ) (hoff : off = ![k % 8 / 4, 32 * (k / 8) + r.val, 0]) (inb) (y : Fin 8) (m : Fin 128) :
    v.readAt (Elt Ideal) (⟨off, ![1, 8, 128], ![1, 4, 1], inb⟩ : LoadRect S2x320x128) X (ix3 0 y m)
      = wordAt (v.read (Elt Ideal) X) (k % 8 / 4) (32 * (k / 8) + 4 * y.val + r.val) m.val := by
  have hr := r.isLt
  unfold wordAt
  rw [dif_pos ⟨by omega, by omega, m.isLt⟩]
  refine readAt_strided v X _ hoff _ _ fun a => ?_
  fin_cases a
  · show _ = k % 8 / 4 + 1 * 0; show k % 8 / 4 = _; omega
  · show 32 * (k / 8) + 4 * y.val + r.val = 32 * (k / 8) + r.val + 4 * y.val; omega
  · show m.val = 0 + 1 * m.val; omega

/-- Pieces written one step after another that all agree with one function and cover the shape leave that function. -/
theorem pieces_written {sig : RefSig} {κ : Kind} {sp : Space} {s : Shape} {e : EltTy} {Val : EltTy → Type} (v : View sig κ sp s e) (f : v.ty.Contents Val)
    (G : s.Idx → Val e) (L : ℕ → List (View.Piece Val s e)) (N : ℕ) (P : ℕ → s.Idx → Prop) (h0 : L 0 = [])
    (hL : ∀ k < N, ∃ new, L (k + 1) = new ++ L k ∧ (∀ p ∈ new, ∀ x, p.2 x = G (p.1.emb x)) ∧ ∀ y, P k y → ∃ p ∈ new, y ∈ p.1.set)
    (hP : ∀ y, ∃ k < N, P k y) (y : s.Idx) : v.read Val (v.writes Val f (L N)) y = G y := by
  have key : ∀ n ≤ N, (∀ p ∈ L n, ∀ x, p.2 x = G (p.1.emb x)) ∧ ∀ k < n, ∀ y, P k y → ∃ p ∈ L n, y ∈ p.1.set := by
    intro n
    induction n with
    | zero => intro _; rw [h0]; exact ⟨by simp, by omega⟩
    | succ n ih =>
      intro hn
      obtain ⟨new, e, hg, hc⟩ := hL n (by omega)
      obtain ⟨ig, ic⟩ := ih (by omega)
      rw [e]
      refine ⟨fun p hp => (List.mem_append.mp hp).elim (hg p) (ig p), fun k hk y hy => ?_⟩
      rcases Nat.lt_succ_iff_lt_or_eq.mp hk with h | rfl
      · obtain ⟨p, hp, h'⟩ := ic k h y hy; exact ⟨p, List.mem_append_right _ hp, h'⟩
      · obtain ⟨p, hp, h'⟩ := hc y hy; exact ⟨p, List.mem_append_left _ hp, h'⟩
  obtain ⟨k, hk, hy⟩ := hP y
  exact View.read_writes_apply_of_pieces v f G _ (key N le_rfl).1 y ((key N le_rfl).2 k hk y hy)

/-- A tile's values are those of one function, said by coordinates. -/
theorem tile_good {s : Shape} {e : EltTy} {Val : EltTy → Type} (G : s.Idx → Val e) {off off' size : Fin s.rank → ℕ} {inb} (w : (Rect.unit (s := s) off size inb).shape.Idx → Val e)
    (h : off = off') (hw : ∀ x y, (∀ a, (y a).val = off' a + (x a).val) → w x = G y) :
    ∀ x, w x = G ((Rect.unit (s := s) off size inb).emb x) := by
  subst h
  intro x
  refine hw x _ fun a => ?_
  show off a + 1 * (x a).val = _
  omega
theorem tile_mem {s : Shape} {off off' size : Fin s.rank → ℕ} {inb} {y : s.Idx} (h : off = off') (hy : ∀ a, off' a ≤ (y a).val ∧ (y a).val < off' a + size a) :
    y ∈ (Rect.unit (s := s) off size inb).set := by
  subst h; exact Rect.mem_set_unit.mpr hy

theorem eq_ix4 {a b c d : ℕ} (x : (⟨4, ![a, b, c, d]⟩ : Shape).Idx) : x = ix4 (x 0) (x 1) (x 2) (x 3) := by
  funext i; fin_cases i <;> rfl

/-- A pack step's value: the packed words of its groups. -/
theorem pack_t1 (c : Dev nD) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole) (k0_h1 : k0_cond1 i = 1#1) (X : BufTy.Contents (Elt Ideal) arg10.view.ty) (k : ℕ) (hk : k < 80) (y : Fin 8) (l : Fin 128) :
    k0_pay44 (F := Ideal) (trip_k0_t1.sl.v280 ⟨k, lt_of_lt_of_eq hk (by decide +kernel : (80 : ℕ) = k0_t1_loop.trips)⟩) (trip_k0_t1.sl.v335 (F := Ideal) i arg10 k0_h1 (iota .tc S8x128 32 [1] iota_S8x128_d1_w32) X ⟨k, lt_of_lt_of_eq hk (by decide +kernel : (80 : ℕ) = k0_t1_loop.trips)⟩)
            (trip_k0_t1.sl.v361 (F := Ideal) i arg10 k0_h1 (iota .tc S8x128 32 [1] iota_S8x128_d1_w32) X ⟨k, lt_of_lt_of_eq hk (by decide +kernel : (80 : ℕ) = k0_t1_loop.trips)⟩)
            (View.readAt (Elt Ideal) arg10.view (⟨k0_off2 ⟨k, lt_of_lt_of_eq hk (by decide +kernel : (80 : ℕ) = k0_t1_loop.trips)⟩ 3#32, S1x8x128.size, ![1, 4, 1], (k0_off2_inb i ⟨k, lt_of_lt_of_eq hk (by decide +kernel : (80 : ℕ) = k0_t1_loop.trips)⟩ k0_h1 3)⟩ : LoadRect S2x320x128) X) (ix4 0 0 y l)
      = packAt (arg10.view.read (Elt Ideal) X) (k / 8) (k % 8) y.val l.val := by
  simp only [trip_k0_t1.sl.v335, trip_k0_t1.sl.v361, trip_k0_t1.sl.v280, trip_k0_t1.sl.v308, trip_k0_t1.sl.v334, trip_k0_t1.sl.v359, trip_k0_t1.sl.v360, trip_k0_t1.sl.arg19, trip_k0_t1.sl.v357, trip_k0_t1.sl.v307, trip_k0_t1.sl.v304, trip_k0_t1.sl.v332, trip_k0_t1.sl.v281, trip_k0_t1.sl.v333, trip_k0_t1.sl.v305, trip_k0_t1.sl.v356, trip_k0_t1.sl.v330, trip_k0_t1.sl.v303, trip_k0_t1.sl.v342, trip_k0_t1.sl.v329, trip_k0_t1.sl.v301, trip_k0_t1.sl.v300, trip_k0_t1.sl.v302, trip_k0_t1.sl.v315, trip_k0_t1.sl.v288, trip_k0_t1.sl.v299, trip_k0_t1.sl.v298, trip_k0_t1.sl.v294, trip_k0_t1.sl.v296, trip_k0_t1.sl.v293, trip_k0_t1.sl.v297, trip_k0_t1.sl.v290, trip_k0_t1.sl.v292, trip_k0_t1.sl.v289, trip_k0_t1.sl.v291, trip_k0_t1.sl.v279]
  pointwise [k0_pay44, k0_pay42, k0_pay5, k0_pay6, k0_pay7, k0_pay8, k0_pay9]
  have hl := pack_lane ⟨k, hk⟩ l
  dsimp only at hl
  have h4 := k0_off2_eq ⟨k, lt_of_lt_of_eq hk (by decide +kernel : (80 : ℕ) = k0_t1_loop.trips)⟩
  rw [pack_word arg10.view X k hk 0 (k0_off2 _ 0#32) (h4 0), pack_word arg10.view X k hk 1 (k0_off2 _ 1#32) (h4 1), pack_word arg10.view X k hk 2 (k0_off2 _ 2#32) (h4 2), pack_word arg10.view X k hk 3 (k0_off2 _ 3#32) (h4 3)]
  dsimp only
  rw [hl, pack_shift l]
  have hs : 8 * (l.val % 4) < 32 := by omega
  rw [shrui_of _ _ hs, shrui_of _ _ hs, shrui_of _ _ hs, shrui_of _ _ hs]
  rw [shli_of _ 0 (by omega), shli_of _ 8 (by omega), shli_of _ 16 (by omega), shli_of _ 24 (by omega)]
  unfold packAt
  simp only [IntOp.ori, IntOp.andi]
  rfl

/-- After the packing loop the packed table holds the packed words. -/
theorem fill_t1 (c : Dev nD) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole) (k0_h1 : k0_cond1 i = 1#1) (X : BufTy.Contents (Elt Ideal) arg10.view.ty) (f : BufTy.Contents (Elt Ideal) arg11.view.ty) (y : S10x8x8x128.Idx) :
    arg11.view.read (Elt Ideal) (arg11.view.writes (Elt Ideal) f (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (iota .tc S8x128 32 [1] iota_S8x128_d1_w32) X k0_t1_loop.trips)) y
      = packAt (arg10.view.read (Elt Ideal) X) (y 0).val (y 1).val (y 2).val (y 3).val := by
  have hN : (80 : ℕ) = k0_t1_loop.trips := by decide +kernel
  rw [← hN]
  refine pieces_written arg11.view f (fun y => packAt (arg10.view.read (Elt Ideal) X) (y 0).val (y 1).val (y 2).val (y 3).val) (fun n => pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (iota .tc S8x128 32 [1] iota_S8x128_d1_w32) X n) 80
    (fun k y => (y 0).val = k / 8 ∧ (y 1).val = k % 8) rfl (fun k hk => ?_) (fun y => ?_) y
  · have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (iota .tc S8x128 32 [1] iota_S8x128_d1_w32) X ⟨k, lt_of_lt_of_eq hk hN⟩
    unfold tripL_k0_t1 trip_k0_t1 at e
    dsimp only at e
    obtain ⟨inb, w, e, hw⟩ : ∃ (inb : ∀ a, k0_off3 ⟨k, lt_of_lt_of_eq hk hN⟩ a + (![1, 1, 8, 128] : Fin 4 → ℕ) a ≤ S10x8x8x128.size a) (w : (Rect.unit (s := S10x8x8x128) (k0_off3 ⟨k, lt_of_lt_of_eq hk hN⟩) ![1, 1, 8, 128] inb).shape.Idx → BitVec 32),
        pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (iota .tc S8x128 32 [1] iota_S8x128_d1_w32) X (k + 1) = [(⟨Rect.unit (s := S10x8x8x128) (k0_off3 ⟨k, lt_of_lt_of_eq hk hN⟩) ![1, 1, 8, 128] inb, w⟩ : View.Piece (Elt Ideal) S10x8x8x128 .i32)]
          ++ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (iota .tc S8x128 32 [1] iota_S8x128_d1_w32) X k
        ∧ ∀ (y : Fin 8) (l : Fin 128), w (ix4 (0 : Fin 1) (0 : Fin 1) y l) = packAt (arg10.view.read (Elt Ideal) X) (k / 8) (k % 8) y.val l.val :=
      ⟨_, _, e, fun y l => pack_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X k hk y l⟩
    refine ⟨_, e, ?_, ?_⟩
    · intro p hp
      rw [List.mem_singleton] at hp
      subst hp
      refine tile_good (s := S10x8x8x128) (e := .i32) (Val := Elt Ideal) (off := k0_off3 ⟨k, lt_of_lt_of_eq hk hN⟩) (off' := ![k / 8, k % 8, 0, 0]) (size := ![1, 1, 8, 128]) (inb := inb) (fun y => packAt (arg10.view.read (Elt Ideal) X) (y 0).val (y 1).val (y 2).val (y 3).val) w (k0_off3_eq _) fun x y hy => ?_
      have h0 := hy 0; have h1 := hy 1; have h2 := hy 2; have h3 := hy 3
      have x0 := (x 0).isLt; have x1 := (x 1).isLt
      change (x 0).val < 1 at x0; change (x 1).val < 1 at x1
      change (y 0).val = k / 8 + (x 0).val at h0; change (y 1).val = k % 8 + (x 1).val at h1
      change (y 2).val = 0 + (x 2).val at h2; change (y 3).val = 0 + (x 3).val at h3
      have ex : x = ix4 (0 : Fin 1) (0 : Fin 1) (x 2) (x 3) := by
        refine (eq_ix4 x).trans ?_
        funext a; fin_cases a
        · exact Fin.ext (by show (x 0).val = 0; omega)
        · exact Fin.ext (by show (x 1).val = 0; omega)
        · rfl
        · rfl
      refine ((congrArg _ ex).trans (hw (x 2) (x 3))).trans ?_
      show packAt _ (k / 8) (k % 8) (x 2).val (x 3).val = packAt _ (y 0).val (y 1).val (y 2).val (y 3).val
      rw [h0, h1, h2, h3]; congr 1 <;> omega
    · intro y hy
      refine ⟨_, List.mem_singleton.mpr rfl, tile_mem (s := S10x8x8x128) (off := k0_off3 ⟨k, lt_of_lt_of_eq hk hN⟩) (off' := ![k / 8, k % 8, 0, 0]) (size := ![1, 1, 8, 128]) (inb := inb) (k0_off3_eq _) fun a => ?_⟩
      obtain ⟨h0, h1⟩ := hy
      fin_cases a
      · show k / 8 ≤ (y 0).val ∧ (y 0).val < k / 8 + 1; omega
      · show k % 8 ≤ (y 1).val ∧ (y 1).val < k % 8 + 1; omega
      · exact ⟨Nat.zero_le _, by have := (y 2).isLt; show (y 2).val < 0 + 8; change (y 2).val < 8 at this; omega⟩
      · exact ⟨Nat.zero_le _, by have := (y 3).isLt; show (y 3).val < 0 + 128; change (y 3).val < 128 at this; omega⟩
  · have h0 := (y 0).isLt; have h1 := (y 1).isLt
    change (y 0).val < 10 at h0; change (y 1).val < 8 at h1
    exact ⟨8 * (y 0).val + (y 1).val, by omega, by omega, by omega⟩

/-- The lane an expand step gathers from. -/
theorem exp_lane : ∀ (v : Fin 8) (l : Fin 128),
    (Scalar.select (IntOp.cmpi CmpIPredicate.slt (IntOp.addi (IntOp.shrsi ArithUnit.vector (BitVec.ofNat 32 l.val) 3#32) (BitVec.ofNat 32 (16 * v.val))) 0#32)
      (IntOp.addi (IntOp.addi (IntOp.shrsi ArithUnit.vector (BitVec.ofNat 32 l.val) 3#32) (BitVec.ofNat 32 (16 * v.val))) 128#32)
      (IntOp.addi (IntOp.shrsi ArithUnit.vector (BitVec.ofNat 32 l.val) 3#32) (BitVec.ofNat 32 (16 * v.val)))).toNat % 128
      = l.val / 8 + 16 * v.val := by decide +kernel
theorem exp_shift : ∀ l : Fin 128, IntOp.andi (BitVec.ofNat 32 l.val) 7#32 = BitVec.ofNat 32 (l.val % 8) := by decide +kernel

/-- One slab of codes from a packed table: lane `l / 8` past the slab's first, shifted by `l % 8`, the lowest bit of each byte. -/
def slab (T : IVec S8x128 32) (o : BitVec 32) : FVec Ideal S32x128 .fp8e4m3 :=
  shapeCast S32x128 (bitcastToFloat (F := Ideal) FTy.fp8e4m3 (bitcast S32x128 8 (andi (shrui (dynamicGather 1 T
    (shapeCast S8x128 (shapeCast S8x128x1 (select
      (cmpi CmpIPredicate.slt (addi (shrsi (iota .tc S8x128 32 [1] iota_S8x128_d1_w32) (broadcast S8x128 3#32)) (broadcast S8x128 o)) (broadcast S8x128 0#32))
      (addi (addi (shrsi (iota .tc S8x128 32 [1] iota_S8x128_d1_w32) (broadcast S8x128 3#32)) (broadcast S8x128 o)) (broadcast S8x128 128#32))
      (addi (shrsi (iota .tc S8x128 32 [1] iota_S8x128_d1_w32) (broadcast S8x128 3#32)) (broadcast S8x128 o)))
      shapeCasts_S8x128_S8x128x1) shapeCasts_S8x128x1_S8x128)) k0_pay43) (broadcast S8x128 16843009#32)) bitcasts_S8x128_w32_S32x128_w8)) shapeCasts_S32x128_S32x128

theorem packAt_lane (A : S2x320x128.Idx → BitVec 32) (g u y : ℕ) {n : ℕ} (m : Fin 128) (h : m.val = n) : packAt A g u y m.val = packAt A g u y n := by rw [h]

/-- A slab's codes. -/
theorem slab_at (A : S2x320x128.Idx → BitVec 32) (g u : ℕ) (hu : u < 8) (T : IVec S8x128 32) (hT : ∀ (y : Fin 8) (l : Fin 128), T (ix2 y l) = packAt A g u y.val l.val)
    (v : Fin 8) (r : Fin 32) (l : Fin 128) :
    slab T (BitVec.ofNat 32 (16 * v.val)) (ix2 r l) = codeAt A (32 * g + r.val) (1024 * u + 128 * v.val + l.val) := by
  have hv := v.isLt; have hr := r.isLt; have hl := l.isLt
  unfold slab
  pointwise [k0_pay43]
  rw [bitcast_32_8]
  pointwise [k0_pay43]
  rw [hT]
  rw [packAt_lane (n := l.val / 8 + 16 * v.val)]
  swap; · exact exp_lane v l
  rw [exp_shift l, shrui_of _ _ (by omega)]
  have hb := byte_bit (fun j => wordAt A (u / 4) (32 * g + 4 * (r.val / 4) + j) ((l.val / 8 + 16 * v.val) / 4 + 32 * (u % 4))) (8 * ((l.val / 8 + 16 * v.val) % 4)) (l.val % 8) (r.val % 4) (by omega) (by omega)
  unfold packAt
  refine (congrArg (Ideal.ofBits .fp8e4m3) hb).trans ?_
  unfold codeAt
  have e1 : (1024 * u + 128 * v.val + l.val) / 4096 = u / 4 := by omega
  have e2 : (1024 * u + 128 * v.val + l.val) % 4096 / 32 = (l.val / 8 + 16 * v.val) / 4 + 32 * (u % 4) := by omega
  have e3 : (1024 * u + 128 * v.val + l.val) % 32 = 8 * ((l.val / 8 + 16 * v.val) % 4) + l.val % 8 := by omega
  have e4 : 32 * g + 4 * (r.val / 4) + r.val % 4 = 32 * g + r.val := by omega
  rw [e1, e2, e3, e4]
  split_ifs
  · exact fp8_one
  · exact fp8_zero

/-- After the spreading loop the table of codes holds one code per row and key. -/
theorem fill_t2 (c : Dev nD) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole) (k0_h1 : k0_cond1 i = 1#1) (A : S2x320x128.Idx → BitVec 32) (X : BufTy.Contents (Elt Ideal) arg11.view.ty)
    (hX : ∀ y : S10x8x8x128.Idx, arg11.view.read (Elt Ideal) X y = packAt A (y 0).val (y 1).val (y 2).val (y 3).val)
    (f : BufTy.Contents (Elt Ideal) arg12.view.ty) (y : S320x8192.Idx) :
    arg12.view.read (Elt Ideal) (arg12.view.writes (Elt Ideal) f (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (iota .tc S8x128 32 [1] iota_S8x128_d1_w32) X k0_t2_loop.trips)) y
      = codeAt A (y 0).val (y 1).val := by
  have hN : (80 : ℕ) = k0_t2_loop.trips := by decide +kernel
  rw [← hN]
  refine pieces_written arg12.view f (fun y => codeAt A (y 0).val (y 1).val) (fun n => pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (iota .tc S8x128 32 [1] iota_S8x128_d1_w32) X n) 80
    (fun k y => (y 0).val / 32 = k / 8 ∧ (y 1).val / 1024 = k % 8) rfl (fun k hk => ?_) (fun y => ?_) y
  · obtain ⟨inb, T, e, hT⟩ : ∃ (inb : ∀ (v : Fin 8) (a : Fin 2), k0_off5 ⟨k, lt_of_lt_of_eq hk hN⟩ (BitVec.ofNat 32 (128 * v.val)) a + (![32, 128] : Fin 2 → ℕ) a ≤ S320x8192.size a) (T : IVec S8x128 32),
        pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (iota .tc S8x128 32 [1] iota_S8x128_d1_w32) X (k + 1) = [(⟨Rect.unit (s := S320x8192) (k0_off5 ⟨k, lt_of_lt_of_eq hk hN⟩ 896#32) ![32, 128] (inb 7), slab T 112#32⟩ : View.Piece (Elt Ideal) S320x8192 .fp8e4m3), (⟨Rect.unit (s := S320x8192) (k0_off5 ⟨k, lt_of_lt_of_eq hk hN⟩ 768#32) ![32, 128] (inb 6), slab T 96#32⟩ : View.Piece (Elt Ideal) S320x8192 .fp8e4m3), (⟨Rect.unit (s := S320x8192) (k0_off5 ⟨k, lt_of_lt_of_eq hk hN⟩ 640#32) ![32, 128] (inb 5), slab T 80#32⟩ : View.Piece (Elt Ideal) S320x8192 .fp8e4m3), (⟨Rect.unit (s := S320x8192) (k0_off5 ⟨k, lt_of_lt_of_eq hk hN⟩ 512#32) ![32, 128] (inb 4), slab T 64#32⟩ : View.Piece (Elt Ideal) S320x8192 .fp8e4m3), (⟨Rect.unit (s := S320x8192) (k0_off5 ⟨k, lt_of_lt_of_eq hk hN⟩ 384#32) ![32, 128] (inb 3), slab T 48#32⟩ : View.Piece (Elt Ideal) S320x8192 .fp8e4m3), (⟨Rect.unit (s := S320x8192) (k0_off5 ⟨k, lt_of_lt_of_eq hk hN⟩ 256#32) ![32, 128] (inb 2), slab T 32#32⟩ : View.Piece (Elt Ideal) S320x8192 .fp8e4m3), (⟨Rect.unit (s := S320x8192) (k0_off5 ⟨k, lt_of_lt_of_eq hk hN⟩ 128#32) ![32, 128] (inb 1), slab T 16#32⟩ : View.Piece (Elt Ideal) S320x8192 .fp8e4m3), (⟨Rect.unit (s := S320x8192) (k0_off5 ⟨k, lt_of_lt_of_eq hk hN⟩ 0#32) ![32, 128] (inb 0), slab T 0#32⟩ : View.Piece (Elt Ideal) S320x8192 .fp8e4m3)]
          ++ pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (iota .tc S8x128 32 [1] iota_S8x128_d1_w32) X k
        ∧ ∀ (y : Fin 8) (l : Fin 128), T (ix2 y l) = packAt A (k / 8) (k % 8) y.val l.val := by
      have e := pb_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (iota .tc S8x128 32 [1] iota_S8x128_d1_w32) X ⟨k, lt_of_lt_of_eq hk hN⟩
      unfold tripL_k0_t2 trip_k0_t2 at e
      dsimp only at e
      simp only [trip_k0_t2.sl.v284, trip_k0_t2.sl.v453, trip_k0_t2.sl.v298, trip_k0_t2.sl.v440, trip_k0_t2.sl.v414, trip_k0_t2.sl.v388, trip_k0_t2.sl.v362, trip_k0_t2.sl.v336, trip_k0_t2.sl.v310, trip_k0_t2.sl.v452, trip_k0_t2.sl.v430, trip_k0_t2.sl.v404, trip_k0_t2.sl.v378, trip_k0_t2.sl.v352, trip_k0_t2.sl.v326, trip_k0_t2.sl.v300, trip_k0_t2.sl.v299, trip_k0_t2.sl.v325, trip_k0_t2.sl.v351, trip_k0_t2.sl.v377, trip_k0_t2.sl.v403, trip_k0_t2.sl.v429, trip_k0_t2.sl.v451, trip_k0_t2.sl.v297, trip_k0_t2.sl.v323, trip_k0_t2.sl.v349, trip_k0_t2.sl.v375, trip_k0_t2.sl.v401, trip_k0_t2.sl.v427, trip_k0_t2.sl.v450, trip_k0_t2.sl.v296, trip_k0_t2.sl.v322, trip_k0_t2.sl.v348, trip_k0_t2.sl.v374, trip_k0_t2.sl.v400, trip_k0_t2.sl.v426, trip_k0_t2.sl.v449, trip_k0_t2.sl.v295, trip_k0_t2.sl.v321, trip_k0_t2.sl.v347, trip_k0_t2.sl.v373, trip_k0_t2.sl.v399, trip_k0_t2.sl.v425, trip_k0_t2.sl.v444, trip_k0_t2.sl.v446, trip_k0_t2.sl.v448, trip_k0_t2.sl.v286, trip_k0_t2.sl.v287, trip_k0_t2.sl.v291, trip_k0_t2.sl.v294, trip_k0_t2.sl.v320, trip_k0_t2.sl.v346, trip_k0_t2.sl.v372, trip_k0_t2.sl.v398, trip_k0_t2.sl.v424, trip_k0_t2.sl.v443, trip_k0_t2.sl.v285, trip_k0_t2.sl.v293, trip_k0_t2.sl.v319, trip_k0_t2.sl.v345, trip_k0_t2.sl.v371, trip_k0_t2.sl.v397, trip_k0_t2.sl.v423, trip_k0_t2.sl.v288, trip_k0_t2.sl.v290, trip_k0_t2.sl.v292, trip_k0_t2.sl.v314, trip_k0_t2.sl.v316, trip_k0_t2.sl.v318, trip_k0_t2.sl.v340, trip_k0_t2.sl.v342, trip_k0_t2.sl.v344, trip_k0_t2.sl.v366, trip_k0_t2.sl.v368, trip_k0_t2.sl.v370, trip_k0_t2.sl.v392, trip_k0_t2.sl.v394, trip_k0_t2.sl.v396, trip_k0_t2.sl.v418, trip_k0_t2.sl.v420, trip_k0_t2.sl.v422, trip_k0_t2.sl.v313, trip_k0_t2.sl.v339, trip_k0_t2.sl.v365, trip_k0_t2.sl.v391, trip_k0_t2.sl.v417] at e
      refine ⟨fun v => k0_off5_inb i ⟨k, lt_of_lt_of_eq hk hN⟩ k0_h1 v, _, e, fun y l => ?_⟩
      pointwise []
      refine (readAt_at arg11.view X _ (k0_off4_eq _) _ (ix4 (⟨k / 8, by omega⟩ : Fin 10) (⟨k % 8, by omega⟩ : Fin 8) y l) ?_).trans (hX _)
      intro a; fin_cases a
      · show k / 8 = k / 8 + 0; omega
      · show k % 8 = k % 8 + 0; omega
      · show y.val = 0 + y.val; omega
      · show l.val = 0 + l.val; omega
    have good : ∀ (v : Fin 8), ∀ x, slab T (BitVec.ofNat 32 (16 * v.val)) x = codeAt A (((Rect.unit (s := S320x8192) (k0_off5 ⟨k, lt_of_lt_of_eq hk hN⟩ (BitVec.ofNat 32 (128 * v.val))) ![32, 128] (inb v)).emb x) 0).val (((Rect.unit (s := S320x8192) (k0_off5 ⟨k, lt_of_lt_of_eq hk hN⟩ (BitVec.ofNat 32 (128 * v.val))) ![32, 128] (inb v)).emb x) 1).val := by
      intro v
      refine tile_good (s := S320x8192) (e := .fp8e4m3) (Val := Elt Ideal) (off := k0_off5 ⟨k, lt_of_lt_of_eq hk hN⟩ (BitVec.ofNat 32 (128 * v.val))) (off' := ![32 * (k / 8), 1024 * (k % 8) + 128 * v.val]) (size := ![32, 128]) (inb := inb v) (fun y => codeAt A (y 0).val (y 1).val) _ (k0_off5_eq _ v) fun x y hy => ?_
      have h0 := hy 0; have h1 := hy 1
      change (y 0).val = 32 * (k / 8) + (x 0).val at h0; change (y 1).val = 1024 * (k % 8) + 128 * v.val + (x 1).val at h1
      refine (congrArg _ (eq_ix2 x)).trans ((slab_at A (k / 8) (k % 8) (by omega) T hT v (x 0) (x 1)).trans ?_)
      show _ = codeAt A (y 0).val (y 1).val
      rw [h0, h1]
    refine ⟨_, e, ?_, ?_⟩
    · intro p hp
      simp only [List.mem_cons, List.not_mem_nil, or_false] at hp
      rcases hp with rfl | rfl | rfl | rfl | rfl | rfl | rfl | rfl
      exacts [good 7, good 6, good 5, good 4, good 3, good 2, good 1, good 0]
    · intro y hy
      obtain ⟨h0, h1⟩ := hy
      have hv : (y 1).val % 1024 / 128 < 8 := by omega
      have hm : y ∈ (Rect.unit (s := S320x8192) (k0_off5 ⟨k, lt_of_lt_of_eq hk hN⟩ (BitVec.ofNat 32 (128 * (⟨(y 1).val % 1024 / 128, hv⟩ : Fin 8).val))) ![32, 128] (inb ⟨(y 1).val % 1024 / 128, hv⟩)).set := by
        refine tile_mem (s := S320x8192) (off' := ![32 * (k / 8), 1024 * (k % 8) + 128 * ((y 1).val % 1024 / 128)]) (k0_off5_eq _ _) fun a => ?_
        fin_cases a
        · show 32 * (k / 8) ≤ (y 0).val ∧ (y 0).val < 32 * (k / 8) + 32; omega
        · show 1024 * (k % 8) + 128 * ((y 1).val % 1024 / 128) ≤ (y 1).val ∧ (y 1).val < 1024 * (k % 8) + 128 * ((y 1).val % 1024 / 128) + 128; omega
      revert hm
      generalize (⟨(y 1).val % 1024 / 128, hv⟩ : Fin 8) = v
      intro hm
      simp only [List.mem_cons, List.not_mem_nil, or_false, exists_eq_or_imp, exists_eq_left]
      fin_cases v
      exacts [.inr (.inr (.inr (.inr (.inr (.inr (.inr hm)))))), .inr (.inr (.inr (.inr (.inr (.inr (.inl hm)))))), .inr (.inr (.inr (.inr (.inr (.inl hm))))),
        .inr (.inr (.inr (.inr (.inl hm)))), .inr (.inr (.inr (.inl hm))), .inr (.inr (.inl hm)), .inr (.inl hm), .inl hm]
  · have h0 := (y 0).isLt; have h1 := (y 1).isLt
    change (y 0).val < 320 at h0; change (y 1).val < 8192 at h1
    exact ⟨8 * ((y 0).val / 32) + (y 1).val / 1024, by omega, by omega, by omega⟩

end Cert.KernelIdeal.Val
-- ==== Proof.KernelIdeal.Parts3.lean ====
/-
  The part that prepares the mask and the left operand.
-/
module

public import proofs.«01_k».proof.Proof.KernelIdeal.Mask
public import proofs.«01_k».proof.Proof.KernelIdeal.Body

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- One if the word is not zero. -/
theorem nonzero_at (x : BitVec 32) : (FloatOps.sitofp (F := Ideal) FTy.f32 (BitVec.setWidth 32 (IntOp.cmpi CmpIPredicate.ne x 0#32)) : EReal) = if x = 0#32 then 0 else 1 := by
  by_cases h : x = 0#32
  · subst h; simp [IntOp.cmpi, FloatOps.sitofp]
  · have h1 : IntOp.cmpi CmpIPredicate.ne x 0#32 = 1#1 := by
      have hb : (x != 0#32) = true := by simpa using h
      simp [IntOp.cmpi, BitVec.ofBool, hb]
    rw [h1, if_neg h]
    show (((BitVec.setWidth 32 1#1).toInt : ℝ) : EReal) = 1
    have : (BitVec.setWidth 32 1#1).toInt = 1 := by decide
    rw [this]; simp

/-- A row is empty: no word of either half has a bit. -/
theorem empty_iff (a b : Fin 128 → BitVec 32) :
    (Finset.fold max (Ideal.ofBits FTy.f32 4286578688#32)
            (fun x => max (FloatOps.sitofp (F := Ideal) FTy.f32 (BitVec.setWidth 32 (IntOp.cmpi CmpIPredicate.ne (a x) 0#32)) : EReal)
                (FloatOps.sitofp (F := Ideal) FTy.f32 (BitVec.setWidth 32 (IntOp.cmpi CmpIPredicate.ne (b x) 0#32)))) Finset.univ = 0) ↔ ∀ x, a x = 0#32 ∧ b x = 0#32 := by
  rw [show Ideal.ofBits FTy.f32 4286578688#32 = (⊥ : EReal) from bits_ninf, fold_max_eq_sup]
  simp only [nonzero_at]
  have hpos : ∀ w : BitVec 32, (0 : EReal) ≤ if w = 0#32 then 0 else 1 := by
    intro w; split_ifs; exacts [le_rfl, zero_le_one]
  constructor
  · intro h x
    have hx := Finset.le_sup (f := fun x => max (if a x = 0#32 then (0 : EReal) else 1) (if b x = 0#32 then (0 : EReal) else 1)) (Finset.mem_univ x)
    rw [h] at hx
    constructor
    · by_contra hn
      have : (1 : EReal) ≤ 0 := le_trans (le_trans (by rw [if_neg hn]) (le_max_left _ _)) hx
      exact absurd this (by norm_num)
    · by_contra hn
      have : (1 : EReal) ≤ 0 := le_trans (le_trans (by rw [if_neg hn]) (le_max_right _ _)) hx
      exact absurd this (by norm_num)
  · intro h
    refine le_antisymm (Finset.sup_le fun x _ => ?_) ?_
    · rw [if_pos (h x).1, if_pos (h x).2, max_self]
    · exact le_trans (le_max_of_le_left (hpos _)) (Finset.le_sup (f := fun x => max (if a x = 0#32 then (0 : EReal) else 1) (if b x = 0#32 then (0 : EReal) else 1)) (Finset.mem_univ (0 : Fin 128)))

/-- The words of the prepared mask, of the two halves' words of one batch entry: inverted, an empty row zero, the rows past 300 zero. -/
def maskWords (a b : S300x1x128.Idx → BitVec 32) (y : S2x320x128.Idx) : BitVec 32 :=
  if h : (y 1).val < 300 then
    if ∀ l : Fin 128, a (ix3 (⟨(y 1).val, h⟩ : Fin 300) (0 : Fin 1) l) = 0#32 ∧ b (ix3 (⟨(y 1).val, h⟩ : Fin 300) (0 : Fin 1) l) = 0#32 then 0#32
    else IntOp.xori ((if (y 0).val = 0 then a else b) (ix3 (⟨(y 1).val, h⟩ : Fin 300) (0 : Fin 1) (y 2))) 4294967295#32
  else 0#32

theorem eq_ix3 {a b c : ℕ} (x : (⟨3, ![a, b, c]⟩ : Shape).Idx) : x = ix3 (x 0) (x 1) (x 2) := by
  funext i; fin_cases i <;> rfl

theorem p25 (a b : S300x1x128.Idx → BitVec 32) (x : S1x300x128.Idx) (y : S2x320x128.Idx) (h0 : (y 0).val = 0) (h1 : (y 1).val = (x 1).val) (h2 : (y 2).val = (x 2).val) :
    k0_pay25 (F := Ideal) a b x = maskWords a b y := by
  have x0 := (x 0).isLt; change (x 0).val < 1 at x0
  have x1 := (x 1).isLt; change (x 1).val < 300 at x1
  have ex : x = ix3 (0 : Fin 1) (x 1) (x 2) := (eq_ix3 x).trans (by funext a; fin_cases a; exacts [Fin.ext (by show (x 0).val = 0; omega), rfl, rfl])
  refine (congrArg _ ex).trans ?_
  have key : ∀ (r : Fin 300) (l : Fin 128), k0_pay25 (F := Ideal) a b (ix3 (0 : Fin 1) r l) = if ∀ l, a (ix3 r (0 : Fin 1) l) = 0#32 ∧ b (ix3 r (0 : Fin 1) l) = 0#32 then 0#32 else IntOp.xori (a (ix3 r (0 : Fin 1) l)) 4294967295#32 := by
    intro r l
    pointwise [k0_pay25, k0_pay24, k0_pay22, k0_pay23]
    refine if_congr (empty_iff (fun l => a (ix3 r (0 : Fin 1) l)) (fun l => b (ix3 r (0 : Fin 1) l))) rfl rfl
  refine (key (x 1) (x 2)).trans ?_
  unfold maskWords
  have e2 : (y 2 : Fin 128) = x 2 := Fin.ext h2
  rw [dif_pos (by omega), if_pos h0, show (⟨(y 1).val, by omega⟩ : Fin 300) = x 1 from Fin.ext h1, e2]

theorem p40 (a b : S300x1x128.Idx → BitVec 32) (x : S1x300x128.Idx) (y : S2x320x128.Idx) (h0 : (y 0).val = 1) (h1 : (y 1).val = (x 1).val) (h2 : (y 2).val = (x 2).val) :
    k0_pay40 (k0_pay23 (F := Ideal) b) (k0_pay24 (F := Ideal) a b) x = maskWords a b y := by
  have x0 := (x 0).isLt; change (x 0).val < 1 at x0
  have x1 := (x 1).isLt; change (x 1).val < 300 at x1
  have ex : x = ix3 (0 : Fin 1) (x 1) (x 2) := (eq_ix3 x).trans (by funext a; fin_cases a; exacts [Fin.ext (by show (x 0).val = 0; omega), rfl, rfl])
  refine (congrArg _ ex).trans ?_
  have key : ∀ (r : Fin 300) (l : Fin 128), k0_pay40 (k0_pay23 (F := Ideal) b) (k0_pay24 (F := Ideal) a b) (ix3 (0 : Fin 1) r l) = if ∀ l, a (ix3 r (0 : Fin 1) l) = 0#32 ∧ b (ix3 r (0 : Fin 1) l) = 0#32 then 0#32 else IntOp.xori (b (ix3 r (0 : Fin 1) l)) 4294967295#32 := by
    intro r l
    pointwise [k0_pay40, k0_pay24, k0_pay22, k0_pay23]
    refine if_congr (empty_iff (fun l => a (ix3 r (0 : Fin 1) l)) (fun l => b (ix3 r (0 : Fin 1) l))) rfl rfl
  refine (key (x 1) (x 2)).trans ?_
  unfold maskWords
  have e2 : (y 2 : Fin 128) = x 2 := Fin.ext h2
  have e0 : ¬ (y 0).val = 0 := by rw [h0]; exact one_ne_zero
  simp only [e0, if_false]
  rw [dif_pos (by omega), show (⟨(y 1).val, by omega⟩ : Fin 300) = x 1 from Fin.ext h1, e2]

theorem p39 (x : S1x20x128.Idx) : k0_pay39 k0_pay26 x = 0#32 := by
  have x0 := (x 0).isLt; change (x 0).val < 1 at x0
  have ex : x = ix3 (0 : Fin 1) (x 1) (x 2) := (eq_ix3 x).trans (by funext a; fin_cases a; exacts [Fin.ext (by show (x 0).val = 0; omega), rfl, rfl])
  have key : ∀ (r : Fin 20) (l : Fin 128), k0_pay39 k0_pay26 (ix3 (0 : Fin 1) r l) = 0#32 := by
    intro r l; pointwise [k0_pay39, k0_pay26]
  exact (congrArg _ ex).trans (key _ _)
theorem p41 (x : S1x20x128.Idx) : k0_pay41 x = 0#32 := by
  have x0 := (x 0).isLt; change (x 0).val < 1 at x0
  have ex : x = ix3 (0 : Fin 1) (x 1) (x 2) := (eq_ix3 x).trans (by funext a; fin_cases a; exacts [Fin.ext (by show (x 0).val = 0; omega), rfl, rfl])
  have key : ∀ (r : Fin 20) (l : Fin 128), k0_pay41 (ix3 (0 : Fin 1) r l) = 0#32 := by
    intro r l; pointwise [k0_pay41]
  exact (congrArg _ ex).trans (key _ _)

/-- The four stores of the words leave the prepared words. -/
theorem words_written {sig : RefSig} {κ : Kind} {sp : Space} (v : View sig κ sp S2x320x128 EltTy.i32) (f : v.ty.Contents (Elt Ideal)) (a b : S300x1x128.Idx → BitVec 32) (y : S2x320x128.Idx) :
    v.read (Elt Ideal) (v.writes (Elt Ideal) f [
      ⟨Rect.unit (s := S2x320x128) ![1, 300, 0] S1x20x128.size inb_S2x320x128_S1x20x128_1_300_0, k0_pay41⟩,
      ⟨Rect.unit (s := S2x320x128) ![1, 0, 0] S1x300x128.size inb_S2x320x128_S1x300x128_1_0_0, k0_pay40 (k0_pay23 (F := Ideal) b) (k0_pay24 (F := Ideal) a b)⟩,
      ⟨Rect.unit (s := S2x320x128) ![0, 300, 0] S1x20x128.size inb_S2x320x128_S1x20x128_0_300_0, k0_pay39 k0_pay26⟩,
      ⟨Rect.unit (s := S2x320x128) ![0, 0, 0] S1x300x128.size inb_S2x320x128_S1x300x128_0_0_0, k0_pay25 (F := Ideal) a b⟩]) y = maskWords a b y := by
  have y0 := (y 0).isLt; change (y 0).val < 2 at y0
  have y1 := (y 1).isLt; change (y 1).val < 320 at y1
  have y2 := (y 2).isLt; change (y 2).val < 128 at y2
  refine View.read_writes_apply_of_pieces v f (maskWords a b) _ ?_ y ?_
  · intro p hp
    simp only [List.mem_cons, List.not_mem_nil, or_false] at hp
    rcases hp with rfl | rfl | rfl | rfl
    · refine tile_good (s := S2x320x128) (e := .i32) (Val := Elt Ideal) (off := ![1, 300, 0]) (size := S1x20x128.size) (inb := inb_S2x320x128_S1x20x128_1_300_0) (maskWords a b) _ rfl fun x y hy => ?_
      have h1 : (y 1).val = 300 + (x 1).val := hy 1
      refine (p41 x).trans ?_
      unfold maskWords; rw [dif_neg (by omega)]
    · refine tile_good (s := S2x320x128) (e := .i32) (Val := Elt Ideal) (off := ![1, 0, 0]) (size := S1x300x128.size) (inb := inb_S2x320x128_S1x300x128_1_0_0) (maskWords a b) _ rfl fun x y hy => ?_
      have h0 : (y 0).val = 1 + (x 0).val := hy 0
      have h1 : (y 1).val = 0 + (x 1).val := hy 1
      have h2 : (y 2).val = 0 + (x 2).val := hy 2
      have x0 := (x 0).isLt; change (x 0).val < 1 at x0
      exact p40 a b x y (by omega) (by omega) (by omega)
    · refine tile_good (s := S2x320x128) (e := .i32) (Val := Elt Ideal) (off := ![0, 300, 0]) (size := S1x20x128.size) (inb := inb_S2x320x128_S1x20x128_0_300_0) (maskWords a b) _ rfl fun x y hy => ?_
      have h1 : (y 1).val = 300 + (x 1).val := hy 1
      refine (p39 x).trans ?_
      unfold maskWords; rw [dif_neg (by omega)]
    · refine tile_good (s := S2x320x128) (e := .i32) (Val := Elt Ideal) (off := ![0, 0, 0]) (size := S1x300x128.size) (inb := inb_S2x320x128_S1x300x128_0_0_0) (maskWords a b) _ rfl fun x y hy => ?_
      have h0 : (y 0).val = 0 + (x 0).val := hy 0
      have h1 : (y 1).val = 0 + (x 1).val := hy 1
      have h2 : (y 2).val = 0 + (x 2).val := hy 2
      have x0 := (x 0).isLt; change (x 0).val < 1 at x0
      exact p25 a b x y (by omega) (by omega) (by omega)
  · simp only [List.mem_cons, List.not_mem_nil, or_false, exists_eq_or_imp, exists_eq_left]
    have mem : ∀ (o0 o1 s1 : ℕ) (inb), o0 = (y 0).val → o1 ≤ (y 1).val → (y 1).val < o1 + s1 → y ∈ (Rect.unit (s := S2x320x128) ![o0, o1, 0] ![1, s1, 128] inb).set := by
      intro o0 o1 s1 inb h0 h1 h2
      refine Rect.mem_set_unit.mpr fun a => ?_
      fin_cases a
      · show o0 ≤ (y 0).val ∧ (y 0).val < o0 + 1; omega
      · show o1 ≤ (y 1).val ∧ (y 1).val < o1 + s1; omega
      · show 0 ≤ (y 2).val ∧ (y 2).val < 0 + 128; omega
    by_cases c0 : (y 0).val = 0 <;> by_cases c1 : (y 1).val < 300
    · exact .inr (.inr (.inr (mem 0 0 300 _ (by omega) (by omega) (by omega))))
    · exact .inr (.inr (.inl (mem 0 300 20 _ (by omega) (by omega) (by omega))))
    · exact .inr (.inl (mem 1 0 300 _ (by omega) (by omega) (by omega)))
    · exact .inl (mem 1 300 20 _ (by omega) (by omega) (by omega))

theorem off1_at : ∀ i : grid0.Coords, k0_off1 i = ![0, (i 0).val % 8, 0] := by decide +kernel
theorem cond1_iff : ∀ i : grid0.Coords, k0_cond1 i = 1#1 ↔ (i 1).val = 0 := by decide +kernel
theorem cond4_iff : ∀ i : grid0.Coords, k0_cond4 i = 1#1 ↔ (i 1).val = 7 := by decide +kernel
theorem cond2_iff : ∀ i : grid0.Coords, Scalar.cmpi .ne (Scalar.extui (Scalar.andi (Scalar.cmpi .eq (BitVec.ofNat 32 (i 1).val) 0#32) (Scalar.cmpi .eq (BitVec.ofNat 32 (i 0).val) 0#32)) : BitVec 32) 0#32 = 1#1 ↔ (i 1).val = 0 ∧ (i 0).val = 0 := by decide +kernel

/-- The second half of the left operand: the masked value on the diagonal of each band of rows. -/
def diagAt (r p : ℕ) : EReal := if (r < 96 ∧ r = p) ∨ (96 ≤ r ∧ r < 192 ∧ r = 96 + p) ∨ (192 ≤ r ∧ r = 192 + p) then ⊥ else 0

/-- What the part leaves in the left operand. -/
def LeftPost (i : grid0.Coords) (x4 : S1x32x300.Idx → EReal) (x2 : S16x8.Idx → EReal) (L0 L : S304x256.Idx → EReal) : Prop :=
  (∀ (r : Fin 304) (p : Fin 128), L (ix2 r (⟨p.val, by omega⟩ : Fin 256)) = k0_pay50 (F := Ideal) x4 (x2 (ix2 (i 0) (i 1))) (ix2 r p))
  ∧ ((i 1).val = 0 ∧ (i 0).val = 0 → ∀ (r : Fin 304) (p : Fin 128), L (ix2 r (⟨128 + p.val, by omega⟩ : Fin 256)) = diagAt r.val p.val)
  ∧ (¬((i 1).val = 0 ∧ (i 0).val = 0) → ∀ (r : Fin 304) (p : Fin 128), L (ix2 r (⟨128 + p.val, by omega⟩ : Fin 256)) = L0 (ix2 r (⟨128 + p.val, by omega⟩ : Fin 256)))

/-- One row of the words' block. -/
def rowOf (X : S300x8x128.Idx → BitVec 32) (b : Fin 8) : S300x1x128.Idx → BitVec 32 := fun x => X (ix3 (x 0) b (x 2))

theorem select_eq {n : ℕ} (hn : n ≤ 4096) (r p : Fin n) (x y : EReal) : Scalar.select (IntOp.cmpi CmpIPredicate.eq (BitVec.ofNat 32 r.val) (BitVec.ofNat 32 p.val)) x y = if r.val = p.val then x else y := by
  have hr := r.isLt; have hp := p.isLt
  by_cases h : r.val = p.val
  · rw [h]; simp [Scalar.select, IntOp.cmpi]
  · have hne : BitVec.ofNat 32 r.val ≠ BitVec.ofNat 32 p.val := fun he => h (by have := congrArg BitVec.toNat he; rw [BitVec.toNat_ofNat, BitVec.toNat_ofNat] at this; omega)
    have hb : (BitVec.ofNat 32 r.val == BitVec.ofNat 32 p.val) = false := by simpa using hne
    rw [if_neg h]; simp [Scalar.select, IntOp.cmpi, hb, BitVec.ofBool]

theorem masked_val : (Named.named κ "masked" 4278190080#32 : Ideal .f32) = (⊥ : EReal) := IdealRules.named_const.ideal_named_scalar _ _ _ _ rfl

theorem pay47_at (r : Fin 96) (p : Fin 128) : k0_pay47 (F := Ideal) (ix2 r p) = if r.val = p.val then ⊥ else 0 := by
  pointwise [k0_pay47]
  rw [masked_val]
  exact select_eq (n := 128) (by omega) ⟨r.val, by omega⟩ p _ _
theorem pay48_at (r : Fin 96) (p : Fin 128) : k0_pay48 (F := Ideal) (ix2 r p) = if r.val = p.val then ⊥ else 0 := by
  pointwise [k0_pay48]
  rw [masked_val]
  exact select_eq (n := 128) (by omega) ⟨r.val, by omega⟩ p _ _
theorem pay49_at (r : Fin 112) (p : Fin 128) : k0_pay49 (F := Ideal) (ix2 r p) = if r.val = p.val then ⊥ else 0 := by
  pointwise [k0_pay49]
  rw [masked_val]
  exact select_eq (n := 128) (by omega) ⟨r.val, by omega⟩ p _ _

/-- The stores of the left operand. -/
theorem left_written {sig : RefSig} {κ' : Kind} {sp : Space} (v : View sig κ' sp S304x256 EltTy.bf16) (f : v.ty.Contents (Elt Ideal)) (i : grid0.Coords)
    (x4 : S1x32x300.Idx → EReal) (x2 : S16x8.Idx → EReal) (C : Prop) [Decidable C] (hC : C ↔ (i 1).val = 0 ∧ (i 0).val = 0) (b : EReal) (hb : b = x2 (ix2 (i 0) (i 1))) :
    LeftPost i x4 x2 (v.read (Elt Ideal) f) (v.read (Elt Ideal) (v.writes (Elt Ideal) (if hc : C then v.writes (Elt Ideal) f
        [⟨Rect.unit (s := S304x256) ![192, 128] S112x128.size inb_S304x256_S112x128_192_128, k0_pay49 (F := Ideal)⟩,
          ⟨Rect.unit (s := S304x256) ![96, 128] S96x128.size inb_S304x256_S96x128_96_128, k0_pay48 (F := Ideal)⟩,
          ⟨Rect.unit (s := S304x256) ![0, 128] S96x128.size inb_S304x256_S96x128_0_128, k0_pay47 (F := Ideal)⟩] else f)
        [⟨Rect.unit (s := S304x256) ![0, 0] S304x128.size inb_S304x256_S304x128_0_0, k0_pay50 (F := Ideal) x4 b⟩])) := by
  subst hb
  refine ⟨fun r p => ?_, fun h r p => ?_, fun h r p => ?_⟩
  · exact View.read_writes_cons_unit_of_mem v _ (off' := ![0, 0]) inb_S304x256_S304x128_0_0 _ [] _ (ix2 r p) rfl (by
      intro a; fin_cases a
      · show r.val = 0 + r.val; omega
      · show p.val = 0 + p.val; omega)
  · refine (View.read_writes_cons_unit_of_not_mem v _ (off' := ![0, 0]) inb_S304x256_S304x128_0_0 _ [] _ rfl 1 (.inr (by show 0 + 128 ≤ 128 + p.val; omega))).trans ?_
    show v.read (Elt Ideal) (dite C _ _) _ = _
    rw [dif_pos (hC.mpr h)]
    have hr := r.isLt; have hp := p.isLt
    unfold diagAt
    by_cases c1 : 192 ≤ r.val
    · refine (View.read_writes_cons_unit_of_mem v _ (off' := ![192, 128]) inb_S304x256_S112x128_192_128 _ _ _ (ix2 (⟨r.val - 192, by omega⟩ : Fin 112) p) rfl (by
        intro a; fin_cases a
        · show r.val = 192 + (r.val - 192); omega
        · show 128 + p.val = 128 + p.val; rfl)).trans ((pay49_at _ _).trans ?_)
      refine if_congr ?_ rfl rfl
      show r.val - 192 = p.val ↔ _
      omega
    · refine (View.read_writes_cons_unit_of_not_mem v _ (off' := ![192, 128]) inb_S304x256_S112x128_192_128 _ _ _ rfl 0 (.inl (by show r.val < 192; omega))).trans ?_
      by_cases c2 : 96 ≤ r.val
      · refine (View.read_writes_cons_unit_of_mem v _ (off' := ![96, 128]) inb_S304x256_S96x128_96_128 _ _ _ (ix2 (⟨r.val - 96, by omega⟩ : Fin 96) p) rfl (by
          intro a; fin_cases a
          · show r.val = 96 + (r.val - 96); omega
          · show 128 + p.val = 128 + p.val; rfl)).trans ((pay48_at _ _).trans ?_)
        refine if_congr ?_ rfl rfl
        show r.val - 96 = p.val ↔ _
        omega
      · refine (View.read_writes_cons_unit_of_not_mem v _ (off' := ![96, 128]) inb_S304x256_S96x128_96_128 _ _ _ rfl 0 (.inl (by show r.val < 96; omega))).trans ?_
        refine (View.read_writes_cons_unit_of_mem v _ (off' := ![0, 128]) inb_S304x256_S96x128_0_128 _ _ _ (ix2 (⟨r.val, by omega⟩ : Fin 96) p) rfl (by
          intro a; fin_cases a
          · show r.val = 0 + r.val; omega
          · show 128 + p.val = 128 + p.val; rfl)).trans ((pay47_at _ _).trans ?_)
        refine if_congr ?_ rfl rfl
        show r.val = p.val ↔ _
        omega
  · refine (View.read_writes_cons_unit_of_not_mem v _ (off' := ![0, 0]) inb_S304x256_S304x128_0_0 _ [] _ rfl 1 (.inr (by show 0 + 128 ≤ 128 + p.val; omega))).trans ?_
    show v.read (Elt Ideal) (dite C _ _) _ = _
    rw [dif_neg (fun hc => h (hC.mp hc))]

/-- What the part leaves in the table of codes. -/
def MaskPost (i : grid0.Coords) (lo hi : S300x8x128.Idx → BitVec 32) (M0 M : S320x8192.Idx → EReal) : Prop :=
  ((i 1).val = 0 → ∀ y, M y = codeAt (maskWords (rowOf lo ⟨(i 0).val % 8, by omega⟩) (rowOf hi ⟨(i 0).val % 8, by omega⟩)) (y 0).val (y 1).val)
  ∧ ((i 1).val ≠ 0 → M = M0)

/-- A load of a whole array of three axes. -/
theorem readAt_whole3 {sig : RefSig} {κ' : Kind} {sp : Space} {e : EltTy} {Val : EltTy → Type} {a b d : ℕ} (v : View sig κ' sp (⟨3, ![a, b, d]⟩ : Shape) e) (f : v.ty.Contents Val) (inb) :
    v.readAt Val (Rect.unit (s := ⟨3, ![a, b, d]⟩) ![0, 0, 0] ![a, b, d] inb).toLoadRect f = v.read Val f := by
  funext x
  refine readAt_at v f inb rfl x x fun k => ?_
  fin_cases k
  · show (x 0).val = 0 + (x 0).val; omega
  · show (x 1).val = 0 + (x 1).val; omega
  · show (x 2).val = 0 + (x 2).val; omega

/-- One scale as loaded. -/
theorem word_loaded {sig : RefSig} {κ' : Kind} {sp : Space} (v : View sig κ' sp S16x8 EltTy.f32) (f : v.ty.Contents (Elt Ideal)) (i : grid0.Coords) {off : Fin 2 → ℕ} (h : off = ![(i 0).val, (i 1).val]) (inb)
    (x : (Rect.unit (s := S16x8) off S1x1.size inb).shape.Idx) :
    v.readAt (Elt Ideal) (Rect.unit (s := S16x8) off S1x1.size inb).toLoadRect f x = v.read (Elt Ideal) f (ix2 (i 0) (i 1)) := by
  refine readAt_at v f inb h x _ fun k => ?_
  have x0 := (x 0).isLt; change (x 0).val < 1 at x0
  have x1 := (x 1).isLt; change (x 1).val < 1 at x1
  fin_cases k
  · show (i 0).val = (i 0).val + (x 0).val; omega
  · show (i 1).val = (i 1).val + (x 1).val; omega

/-- One row of the words as loaded. -/
theorem row_loaded {sig : RefSig} {κ' : Kind} {sp : Space} (v : View sig κ' sp S300x8x128 EltTy.i32) (f : v.ty.Contents (Elt Ideal)) (i : grid0.Coords) (inb) :
    v.readAt (Elt Ideal) (Rect.unit (s := S300x8x128) (k0_off1 i) S300x1x128.size inb).toLoadRect f = rowOf (v.read (Elt Ideal) f) ⟨(i 0).val % 8, by omega⟩ := by
  funext x
  refine readAt_at v f inb (off1_at i) x _ fun k => ?_
  have x1 := (x 1).isLt; change (x 1).val < 1 at x1
  fin_cases k
  · show (x 0).val = 0 + (x 0).val; omega
  · show (i 0).val % 8 = (i 0).val % 8 + (x 1).val; omega
  · show (x 2).val = 0 + (x 2).val; omega

/-- The part that prepares the codes of the mask and the left operand. -/
theorem part9_run (c : Dev nD) (i : grid0.Coords) (c : Dev nD) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole) (x2 : S16x8.Idx → Elt Ideal .f32) (x4 : S1x32x300.Idx → Elt Ideal .bf16) (lo hi : S300x8x128.Idx → Elt Ideal .i32)
    (M0 : S320x8192.Idx → Elt Ideal .fp8e4m3) (L0 : S304x256.Idx → Elt Ideal .bf16) (Q : (Σ' (arg0 : BitVec 32) (arg1 : BitVec 32), FVec Ideal S32x1024 .f32) → sProp 𝕄) :
    iprop(owns (c : Thread nD τ) arg2 fullShare x2 ∗ owns (c : Thread nD τ) arg4 fullShare x4 ∗ owns (c : Thread nD τ) arg7 fullShare lo ∗ owns (c : Thread nD τ) arg8 fullShare hi ∗ (∃ d, owns (c : Thread nD τ) arg10 fullShare d) ∗ (∃ d, owns (c : Thread nD τ) arg11 fullShare d) ∗ owns (c : Thread nD τ) arg12 fullShare M0 ∗ owns (c : Thread nD τ) arg13 fullShare L0
        ∗ (∀ M : S320x8192.Idx → Elt Ideal .fp8e4m3, ∀ L : S304x256.Idx → Elt Ideal .bf16,
            (owns (c : Thread nD τ) arg2 fullShare x2 ∗ owns (c : Thread nD τ) arg4 fullShare x4 ∗ owns (c : Thread nD τ) arg7 fullShare lo ∗ owns (c : Thread nD τ) arg8 fullShare hi ∗ (∃ d, owns (c : Thread nD τ) arg10 fullShare d) ∗ (∃ d, owns (c : Thread nD τ) arg11 fullShare d) ∗ owns (c : Thread nD τ) arg12 fullShare M ∗ owns (c : Thread nD τ) arg13 fullShare L ∗ ⌜MaskPost i lo hi M0 M ∧ LeftPost i x4 x2 L0 L⌝) -∗
            Q ⟨BitVec.ofNat 32 (i 0).val, BitVec.ofNat 32 (i 1).val, k0_pay51 (F := Ideal)⟩))
      ⊢ wp frame (wpE (defs₀ (F := Ideal)) Variants.none c none) Set.univ
          (k0_part9 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  simp only [k0_part9_eq_skeleton]; unfold k0_part9_skel
  unfold owns
  iintro ⟨⟨%f2, %h2, H2⟩, ⟨%f4, %h4, H4⟩, ⟨%f7, %h7, H7⟩, ⟨%f8, %h8, H8⟩, ⟨%d10, %f10, -, H10⟩, ⟨%d11, %f11, -, H11⟩, ⟨%f12, %h12, H12⟩, ⟨%f13, %h13, H13⟩, Hk⟩
  subst h2 h4 h7 h8 h12 h13
  by_cases h1 : k0_cond1 i = 1#1
  all_goals
    sl_exec
    sl_step
    iapply Hk
    isplitl [H2]
    · iexists _; isplitr; swap; · iexact H2
      ipureintro; rfl
    isplitl [H4]
    · iexists _; isplitr; swap; · iexact H4
      ipureintro; rfl
    isplitl [H7]
    · iexists _; isplitr; swap; · iexact H7
      ipureintro; rfl
    isplitl [H8]
    · iexists _; isplitr; swap; · iexact H8
      ipureintro; rfl
    isplitl [H10]
    · iexists _, _; isplitr; swap; · iexact H10
      ipureintro; rfl
    isplitl [H11]
    · iexists _, _; isplitr; swap; · iexact H11
      ipureintro; rfl
    isplitl [H12]
    · iexists _; isplitr; swap; · iexact H12
      ipureintro; rfl
    isplitl [H13]
    · iexists _; isplitr; swap; · iexact H13
      ipureintro; rfl
    ipureintro
    refine ⟨?_, ?_⟩
  · refine ⟨fun _ y => ?_, fun h => absurd ((cond1_iff i).mp h1) h⟩
    have hA : arg10.view.read (Elt Ideal) (arg10.view.writes (Elt Ideal) arg10.view.junk (part9_run.sl.H10_4 c i arg7 arg8 f7 f8 h1))
        = maskWords (rowOf (View.read (Elt Ideal) arg7.view f7) ⟨(i 0).val % 8, by omega⟩) (rowOf (View.read (Elt Ideal) arg8.view f8) ⟨(i 0).val % 8, by omega⟩) := by
      funext y
      unfold part9_run.sl.H10_4
      rw [← row_loaded arg7.view f7 i (k0_off1_inb i h1), ← row_loaded arg8.view f8 i (k0_off1_inb i h1)]
      exact words_written arg10.view _ _ _ y
    have ht1 := fun y => (fill_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 (arg10.view.writes (Elt Ideal) arg10.view.junk (part9_run.sl.H10_4 c i arg7 arg8 f7 f8 h1)) f11 y)
    have ht2 := fill_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1 _ _ ht1 f12 y
    unfold Scf.Loop.trips at ht2
    rw [hA] at ht2
    exact ht2
  · rw [readAt_whole3]
    refine left_written arg13.view f13 i _ _ _ (cond2_iff i) _ ?_
    exact word_loaded arg2.view f2 i (k0_off6_eq i) _ _
  · exact ⟨fun h => absurd ((cond1_iff i).mpr h) h1, fun _ => rfl⟩
  · rw [readAt_whole3]
    refine left_written arg13.view f13 i _ _ _ (cond2_iff i) _ ?_
    exact word_loaded arg2.view f2 i (k0_off6_eq i) _ _
end Cert.KernelIdeal.Val
-- ==== Proof.KernelIdeal.Root.lean ====
/-
  The triple of the whole body at one grid point: what it leaves in the scratch and in the output's block.
-/
module

public import proofs.«01_k».proof.Proof.KernelIdeal.Parts3
public import proofs.«01_k».proof.Proof.KernelIdeal.Body

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The output's block: the eight heads' slabs side by side, the rows past 300 dropped. -/
def joined (O : S8x304x32.Idx → EReal) : S1x300x256.Idx → EReal := fun y =>
  O (ix3 (⟨(y 2).val / 32, by have := (y 2).isLt; change (y 2).val < 256 at this; omega⟩ : Fin 8) (⟨(y 1).val, by have := (y 1).isLt; change (y 1).val < 300 at this; omega⟩ : Fin 304) (⟨(y 2).val % 32, by omega⟩ : Fin 32))

/-- What one grid point leaves: the codes of the mask, the left operand, one head's slab of the result, and at the last head the output's block. -/
def RootPost (i : grid0.Coords) (x2 x3 : S16x8.Idx → EReal) (x4 : S1x32x300.Idx → EReal) (K W : S1x32x8192.Idx → EReal) (lo hi : S300x8x128.Idx → BitVec 32)
    (M0 : S320x8192.Idx → EReal) (L0 : S304x256.Idx → EReal) (O0 : S8x304x32.Idx → EReal) (Y0 : S1x300x256.Idx → EReal)
    (M : S320x8192.Idx → EReal) (L' : S304x256.Idx → EReal) (O : S8x304x32.Idx → EReal) (Y : S1x300x256.Idx → EReal) : Prop :=
  MaskPost i lo hi M0 M ∧ ∃ (L : S304x256.Idx → EReal) (E : S304x8192.Idx → EReal) (mx sm : FVec Ideal S304x128 .f32) (P : S320x8192.Idx → EReal),
    LeftPost i x4 x2 L0 L ∧ Part11Post K M L L' E mx sm
    ∧ (∀ (r : Fin 304) (s : Fin 8192), P (ix2 (⟨r.val, by omega⟩ : Fin 320) s) = E (ix2 r s) * k0_pay103 (F := Ideal) sm (k0_pay99 (F := Ideal) (k0_pay98 (F := Ideal) sm mx)) (k0_pay100 (F := Ideal) (k0_pay98 (F := Ideal) sm mx)) mx (ix2 r (⟨s.val % 128, by omega⟩ : Fin 128)))
    ∧ (∀ y, O y = if (y 0).val = (i 1).val then k0_pay3 (F := Ideal) (k0_pay102 (k0_pay99 (F := Ideal) (k0_pay98 (F := Ideal) sm mx)) (k0_pay100 (F := Ideal) (k0_pay98 (F := Ideal) sm mx))) P W (x3 (ix2 (i 0) (i 1))) (ix3 (0 : Fin 1) (y 1) (y 2)) else O0 y)
    ∧ ((i 1).val = 7 → Y = joined O) ∧ ((i 1).val ≠ 7 → Y = Y0)

theorem bands (E : S304x8192.Idx → EReal) (R : S304x128.Idx → EReal) (P0 P1 P2 P : S320x8192.Idx → EReal)
    (h0 : QuantPost 0 96 E R P0 P1) (h1 : QuantPost 96 96 E R P1 P2) (h2 : QuantPost 192 112 E R P2 P) (r : Fin 304) (s : Fin 8192) :
    P (ix2 (⟨r.val, by omega⟩ : Fin 320) s) = E (ix2 r s) * R (ix2 r (⟨s.val % 128, by omega⟩ : Fin 128)) := by
  unfold QuantPost at h0 h1 h2
  have hr := r.isLt
  rw [h2]
  split_ifs with c2
  · rfl
  · rw [h1]
    split_ifs with c1
    · rfl
    · refine (h0 _).trans (dif_pos ⟨Nat.zero_le _, ?_, hr⟩)
      have e : (ix2 (⟨r.val, by omega⟩ : Fin 320) s 0).val = r.val := rfl
      rw [e] at c1 c2 ⊢
      omega

/-- Eight pieces of thirty-two columns each, read at a column of the whole. -/
theorem pick8 (w : Fin 8 → Fin 32 → EReal) (q : ℕ) (hq : q < 256) :
    (if h : q < 32 then w 0 ⟨q, h⟩ else (if h : q - 32 < 32 then w 1 ⟨q - 32, h⟩ else (if h : q - 32 - 32 < 32 then w 2 ⟨q - 32 - 32, h⟩ else (if h : q - 32 - 32 - 32 < 32 then w 3 ⟨q - 32 - 32 - 32, h⟩ else (if h : q - 32 - 32 - 32 - 32 < 32 then w 4 ⟨q - 32 - 32 - 32 - 32, h⟩ else (if h : q - 32 - 32 - 32 - 32 - 32 < 32 then w 5 ⟨q - 32 - 32 - 32 - 32 - 32, h⟩ else (if h : q - 32 - 32 - 32 - 32 - 32 - 32 < 32 then w 6 ⟨q - 32 - 32 - 32 - 32 - 32 - 32, h⟩ else w 7 ⟨q - 32 - 32 - 32 - 32 - 32 - 32 - 32, by omega⟩))))))) = w ⟨q / 32, by omega⟩ ⟨q % 32, by omega⟩ := by
  have key : ∀ (j : Fin 8) (p : Fin 32), q = 32 * j.val + p.val → w j p = w ⟨q / 32, by omega⟩ ⟨q % 32, by omega⟩ := by
    intro j p h
    have hp := p.isLt
    exact congrArg₂ w (Fin.ext (show j.val = q / 32 by omega)) (Fin.ext (show p.val = q % 32 by omega))
  repeat' split
  · exact key 0 _ (by show q = 32 * 0 + (q); omega)
  · exact key 1 _ (by show q = 32 * 1 + (q - 32); omega)
  · exact key 2 _ (by show q = 32 * 2 + (q - 32 - 32); omega)
  · exact key 3 _ (by show q = 32 * 3 + (q - 32 - 32 - 32); omega)
  · exact key 4 _ (by show q = 32 * 4 + (q - 32 - 32 - 32 - 32); omega)
  · exact key 5 _ (by show q = 32 * 5 + (q - 32 - 32 - 32 - 32 - 32); omega)
  · exact key 6 _ (by show q = 32 * 6 + (q - 32 - 32 - 32 - 32 - 32 - 32); omega)
  · exact key 7 _ (by show q = 32 * 7 + (q - 32 - 32 - 32 - 32 - 32 - 32 - 32); omega)

/-- The output block's payload: eight slabs side by side. -/
theorem pay4_at (v0 v1 v2 v3 v4 v5 v6 v7 : S1x304x32.Idx → EReal) (r : Fin 300) (q : Fin 256) :
    k0_pay4 (F := Ideal) v0 v1 v2 v3 v4 v5 v6 v7 (ix3 (0 : Fin 1) r q) = (![v0, v1, v2, v3, v4, v5, v6, v7] : Fin 8 → S1x304x32.Idx → EReal) ⟨q.val / 32, by omega⟩ (ix3 (0 : Fin 1) (⟨r.val, by omega⟩ : Fin 304) (⟨q.val % 32, by omega⟩ : Fin 32)) := by
  pointwise [k0_pay4]
  exact pick8 (fun j p => (![v0, v1, v2, v3, v4, v5, v6, v7] : Fin 8 → S1x304x32.Idx → EReal) j (ix3 (0 : Fin 1) (⟨r.val, by omega⟩ : Fin 304) p)) q.val q.isLt

/-- One head's slab, written over the eight. -/
theorem slab_written (v : View sig .tc .vmem S8x304x32 .f32) (f : BufTy.Contents (Elt Ideal) v.ty) (i : grid0.Coords) (w : S1x304x32.Idx → EReal) (y : S8x304x32.Idx) :
    v.read (Elt Ideal) (v.writes (Elt Ideal) f [⟨Rect.unit (s := S8x304x32) (k0_off32 i) S1x304x32.size (k0_off32_inb i), w⟩]) y
      = if (y 0).val = (i 1).val then w (ix3 (0 : Fin 1) (y 1) (y 2)) else v.read (Elt Ideal) f y := by
  split_ifs with h
  · refine View.read_writes_cons_unit_of_mem v _ (off' := ![(i 1).val, 0, 0]) _ _ _ y (ix3 (0 : Fin 1) (y 1) (y 2)) (k0_off32_eq i) ?_
    intro a; fin_cases a
    · exact h.trans (Nat.add_zero _).symm
    · exact (Nat.zero_add _).symm
    · exact (Nat.zero_add _).symm
  · refine (View.read_writes_cons_unit_of_not_mem v _ (off' := ![(i 1).val, 0, 0]) _ _ _ y (k0_off32_eq i) 0 ?_).trans rfl
    rcases Nat.lt_or_gt_of_ne h with h | h
    · exact .inl h
    · exact .inr (Nat.succ_le_of_lt h)

/-- A load of one head's slab reads that slab. -/
theorem slab_read (v : View sig .tc .vmem S8x304x32 .f32) (f : BufTy.Contents (Elt Ideal) v.ty) (n : ℕ) (hn : n < 8) (inb) (x : S1x304x32.Idx) :
    v.readAt (Elt Ideal) (Rect.unit (s := S8x304x32) ![n, 0, 0] S1x304x32.size inb).toLoadRect f x = v.read (Elt Ideal) f (ix3 (⟨n, hn⟩ : Fin 8) (x 1) (x 2)) := by
  have x0 := (x 0).isLt; change (x 0).val < 1 at x0
  refine congrArg (v.read (Elt Ideal) f) ((eq_ix3 _).trans ?_)
  funext a; fin_cases a
  · exact Fin.ext (by show n + 1 * (x 0).val = n; omega)
  · exact Fin.ext (by show 0 + 1 * (x 1).val = (x 1).val; omega)
  · exact Fin.ext (by show 0 + 1 * (x 2).val = (x 2).val; omega)

/-- The buffer of codes after its three bands are written. -/
def fillCodes (c : Dev nD) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole) (f14 : BufTy.Contents (Elt Ideal) arg14.view.ty) (f15 : BufTy.Contents (Elt Ideal) arg15.view.ty)
    (v103 A : FVec Ideal S304x128 .f32) (B : IVec S304x128 32) (mx : FVec Ideal S304x128 .f32) : BufTy.Contents (Elt Ideal) arg15.view.ty :=
  arg15.view.writes (Elt Ideal) f15 ((pb_k0_t11 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay103 (F := Ideal) v103 A B mx) f14 k0_t11_loop.trips) ++ ((pb_k0_t10 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay105 (F := Ideal) v103 A B mx) f14 k0_t10_loop.trips) ++ (pb_k0_t9 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v103 A B mx f14 k0_t9_loop.trips)))

/-- Eight loaded slabs make the block. -/
theorem joined_of (O : S8x304x32.Idx → EReal) (v0 v1 v2 v3 v4 v5 v6 v7 : S1x304x32.Idx → EReal)
    (h0 : ∀ x, v0 x = O (ix3 (0 : Fin 8) (x 1) (x 2))) (h1 : ∀ x, v1 x = O (ix3 (1 : Fin 8) (x 1) (x 2))) (h2 : ∀ x, v2 x = O (ix3 (2 : Fin 8) (x 1) (x 2))) (h3 : ∀ x, v3 x = O (ix3 (3 : Fin 8) (x 1) (x 2))) (h4 : ∀ x, v4 x = O (ix3 (4 : Fin 8) (x 1) (x 2))) (h5 : ∀ x, v5 x = O (ix3 (5 : Fin 8) (x 1) (x 2))) (h6 : ∀ x, v6 x = O (ix3 (6 : Fin 8) (x 1) (x 2))) (h7 : ∀ x, v7 x = O (ix3 (7 : Fin 8) (x 1) (x 2))) : k0_pay4 (F := Ideal) v0 v1 v2 v3 v4 v5 v6 v7 = joined O := by
  funext y
  have y0 := (y 0).isLt; change (y 0).val < 1 at y0
  have ey : y = ix3 (0 : Fin 1) (y 1) (y 2) := (eq_ix3 y).trans (by funext a; fin_cases a; exacts [Fin.ext (by show (y 0).val = 0; omega), rfl, rfl])
  have key : ∀ (j : Fin 8) (x : S1x304x32.Idx), (![v0, v1, v2, v3, v4, v5, v6, v7] : Fin 8 → S1x304x32.Idx → EReal) j x = O (ix3 j (x 1) (x 2)) := by
    intro j; fin_cases j; exacts [h0, h1, h2, h3, h4, h5, h6, h7]
  refine (congrArg _ ey).trans ((pay4_at v0 v1 v2 v3 v4 v5 v6 v7 (y 1) (y 2)).trans ((key _ _).trans rfl))

/-- A store of the whole block leaves what was stored. -/
theorem out_written (v : View sig .tc .vmem S1x300x256 .bf16) (f : BufTy.Contents (Elt Ideal) v.ty) (inb) (w : S1x300x256.Idx → EReal) :
    v.read (Elt Ideal) (v.writes (Elt Ideal) f [⟨Rect.unit (s := S1x300x256) ![0, 0, 0] S1x300x256.size inb, w⟩]) = w := by
  funext y
  refine View.read_writes_cons_unit_of_mem v _ (off' := ![0, 0, 0]) _ _ _ y y rfl ?_
  intro a; fin_cases a <;> exact (Nat.zero_add _).symm

/-- The three bands of codes, one after the other, fill the codes of a head. -/
theorem codes_filled (c : Dev nD) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole) (f14 : BufTy.Contents (Elt Ideal) arg14.view.ty) (f15 : BufTy.Contents (Elt Ideal) arg15.view.ty)
    (v103 A : FVec Ideal S304x128 .f32) (B : IVec S304x128 32) (mx : FVec Ideal S304x128 .f32) (r : Fin 304) (s : Fin 8192) :
    arg15.view.read (Elt Ideal) (fillCodes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f14 f15 v103 A B mx) (ix2 (⟨r.val, by omega⟩ : Fin 320) s)
      = arg14.view.read (Elt Ideal) f14 (ix2 r s) * (k0_pay103 (F := Ideal) v103 A B mx) (ix2 r (⟨s.val % 128, by omega⟩ : Fin 128)) := by
  have e0 := fill_t9 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v103 A B mx f14 f15
  have e1 := fill_t10 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay105 (F := Ideal) v103 A B mx) (k0_pay103 (F := Ideal) v103 A B mx) (fun x l => pay105_at _ _ _ _ x l) f14 (arg15.view.writes (Elt Ideal) f15 (pb_k0_t9 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v103 A B mx f14 k0_t9_loop.trips))
  have e2 := fill_t11 c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay103 (F := Ideal) v103 A B mx) f14 (arg15.view.writes (Elt Ideal) (arg15.view.writes (Elt Ideal) f15 (pb_k0_t9 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v103 A B mx f14 k0_t9_loop.trips)) (pb_k0_t10 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay105 (F := Ideal) v103 A B mx) f14 k0_t10_loop.trips))
  have := bands _ _ _ _ _ _ e0 e1 e2 r s
  unfold fillCodes
  rw [View.writes_append, View.writes_append]
  exact this

/-- The body's triple, with what it computes. -/
theorem root_run (c : Dev nD) (i : grid0.Coords) (arg2 : Memref sig .tc .smem S16x8 .f32) (harg2 : arg2.IsWhole) (arg3 : Memref sig .tc .smem S16x8 .f32) (harg3 : arg3.IsWhole) (arg4 : Memref sig .tc .vmem S1x32x300 .bf16) (harg4 : arg4.IsWhole) (arg5 : Memref sig .tc .vmem S1x32x8192 .fp8e4m3) (harg5 : arg5.IsWhole) (arg6 : Memref sig .tc .vmem S1x32x8192 .fp8e4m3) (harg6 : arg6.IsWhole) (arg7 : Memref sig .tc .vmem S300x8x128 .i32) (harg7 : arg7.IsWhole) (arg8 : Memref sig .tc .vmem S300x8x128 .i32) (harg8 : arg8.IsWhole) (arg9 : Memref sig .tc .vmem S1x300x256 .bf16) (harg9 : arg9.IsWhole) (arg10 : Memref sig .tc .vmem S2x320x128 .i32) (harg10 : arg10.IsWhole) (arg11 : Memref sig .tc .vmem S10x8x8x128 .i32) (harg11 : arg11.IsWhole) (arg12 : Memref sig .tc .vmem S320x8192 .fp8e4m3) (harg12 : arg12.IsWhole) (arg13 : Memref sig .tc .vmem S304x256 .bf16) (harg13 : arg13.IsWhole) (arg14 : Memref sig .tc .vmem S304x8192 .f32) (harg14 : arg14.IsWhole) (arg15 : Memref sig .tc .vmem S320x8192 .fp8e4m3) (harg15 : arg15.IsWhole) (arg16 : Memref sig .tc .vmem S304x128 .f32) (harg16 : arg16.IsWhole) (arg17 : Memref sig .tc .vmem S304x128 .f32) (harg17 : arg17.IsWhole) (arg18 : Memref sig .tc .vmem S8x304x32 .f32) (harg18 : arg18.IsWhole) (x2 x3 : S16x8.Idx → Elt Ideal .f32) (x4 : S1x32x300.Idx → Elt Ideal .bf16) (K W : S1x32x8192.Idx → Elt Ideal .fp8e4m3) (lo hi : S300x8x128.Idx → Elt Ideal .i32)
    (M0 : S320x8192.Idx → Elt Ideal .fp8e4m3) (L0 : S304x256.Idx → Elt Ideal .bf16) (O0 : S8x304x32.Idx → Elt Ideal .f32) (Y0 : S1x300x256.Idx → Elt Ideal .bf16) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare K ∗ owns (c : Thread nD τ) arg6 fullShare W ∗ owns (c : Thread nD τ) arg7 fullShare lo ∗ owns (c : Thread nD τ) arg8 fullShare hi ∗ owns (c : Thread nD τ) arg9 fullShare Y0 ∗ (∃ d, owns (c : Thread nD τ) arg10 fullShare d) ∗ (∃ d, owns (c : Thread nD τ) arg11 fullShare d) ∗ owns (c : Thread nD τ) arg12 fullShare M0 ∗ owns (c : Thread nD τ) arg13 fullShare L0 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare O0
        ∗ (∀ M : S320x8192.Idx → Elt Ideal .fp8e4m3, ∀ L : S304x256.Idx → Elt Ideal .bf16, ∀ O : S8x304x32.Idx → Elt Ideal .f32, ∀ Y : S1x300x256.Idx → Elt Ideal .bf16,
            (owns (c : Thread nD τ) arg2 fullShare x2 ∗ owns (c : Thread nD τ) arg3 fullShare x3 ∗ owns (c : Thread nD τ) arg4 fullShare x4 ∗ owns (c : Thread nD τ) arg5 fullShare K ∗ owns (c : Thread nD τ) arg6 fullShare W ∗ owns (c : Thread nD τ) arg7 fullShare lo ∗ owns (c : Thread nD τ) arg8 fullShare hi ∗ owns (c : Thread nD τ) arg9 fullShare Y ∗ (∃ d, owns (c : Thread nD τ) arg10 fullShare d) ∗ (∃ d, owns (c : Thread nD τ) arg11 fullShare d) ∗ owns (c : Thread nD τ) arg12 fullShare M ∗ owns (c : Thread nD τ) arg13 fullShare L ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare O ∗ ⌜RootPost i x2 x3 x4 K W lo hi M0 L0 O0 Y0 M L O Y⌝) -∗ Q ⟨⟩))
      ⊢ wp frame (wpE (defs₀ (F := Ideal)) Variants.none c none) Set.univ
          (cc0_masked_xattn_fp8 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q := by
  simp only [cc0_masked_xattn_fp8_eq_skeleton]; unfold cc0_masked_xattn_fp8_skel
  iintro ⟨H2, H3, H4, H5, H6, H7, H8, H9, H10, H11, H12, H13, ⟨%d14, H14⟩, ⟨%d15, H15⟩, ⟨%d16, H16⟩, ⟨%d17, H17⟩, H18, Hk⟩
  rw [wp_bind]
  iapply (part9_run c i c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x4 lo hi M0 L0 _)
  isplitl [H2]; · iexact H2
  isplitl [H4]; · iexact H4
  isplitl [H7]; · iexact H7
  isplitl [H8]; · iexact H8
  isplitl [H10]; · iexact H10
  isplitl [H11]; · iexact H11
  isplitl [H12]; · iexact H12
  isplitl [H13]; · iexact H13
  iintro %M %L ⟨H2, H4, H7, H8, H10, H11, H12, H13, %hML⟩
  dsimp only
  rw [wp_bind]
  iapply (part10_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 K M L d14 d16 d17 _)
  isplitl [H5]; · iexact H5
  isplitl [H12]; · iexact H12
  isplitl [H13]; · iexact H13
  isplitl [H14]; · iexact H14
  isplitl [H16]; · iexact H16
  isplitl [H17]; · iexact H17
  iintro %E1 %mx1 %sm1 %v72 ⟨H5, H12, H13, H14, H16, H17, %h10⟩
  dsimp only
  rw [wp_bind]
  iapply (part11_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 K M L E1 mx1 sm1 v72 h10 _)
  isplitl [H5]; · iexact H5
  isplitl [H12]; · iexact H12
  isplitl [H13]; · iexact H13
  isplitl [H14]; · iexact H14
  isplitl [H16]; · iexact H16
  isplitl [H17]; · iexact H17
  iintro %L' %E %mx %sm %v103 %v104 ⟨H5, H12, H13, H14, H16, H17, %h11⟩
  obtain ⟨rfl, rfl, h11⟩ := h11
  dsimp only
  rw [wp_bind]
  simp only [k0_part12_eq_skeleton]; unfold k0_part12_skel
  unfold owns
  icases H14 with ⟨%f14, %h14, H14⟩
  icases H15 with ⟨%f15, %h15, H15⟩
  icases H16 with ⟨%f16, %h16, H16⟩
  icases H18 with ⟨%f18, %h18, H18⟩
  icases H9 with ⟨%f9, %h9, H9⟩
  icases H6 with ⟨%f6, %h6, H6⟩
  icases H3 with ⟨%f3, %h3, H3⟩
  subst h14 h15 h16 h18 h9 h6 h3
  by_cases hc : k0_cond4 i = 1#1
  · sl_exec
    sl_step
    iapply Hk
    isplitl [H2]; · iexact H2
    isplitl [H3]
    · iexists _; isplitr; swap; · iexact H3
      ipureintro; rfl
    isplitl [H4]; · iexact H4
    isplitl [H5]; · iexact H5
    isplitl [H6]
    · iexists _; isplitr; swap; · iexact H6
      ipureintro; rfl
    isplitl [H7]; · iexact H7
    isplitl [H8]; · iexact H8
    isplitl [H9]
    · iexists _; isplitr; swap; · iexact H9
      ipureintro; rfl
    isplitl [H10]; · iexact H10
    isplitl [H11]; · iexact H11
    isplitl [H12]; · iexact H12
    isplitl [H13]; · iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]; · iexists _; iexact H17
    isplitl [H18]
    · iexists _; isplitr; swap; · iexact H18
      ipureintro; rfl
    ipureintro
    refine ⟨hML.1, L, _, _, _, arg15.view.read (Elt Ideal) (fillCodes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f14 f15 v103 (k0_pay99 (F := Ideal) (k0_pay98 (F := Ideal) v103 (arg16.view.read (Elt Ideal) f16))) (k0_pay100 (F := Ideal) (k0_pay98 (F := Ideal) v103 (arg16.view.read (Elt Ideal) f16))) (arg16.view.read (Elt Ideal) f16)), hML.2, h11, fun r s => ?_, fun y => ?_, fun _ => ?_, fun h => absurd ((cond4_iff i).mp hc) h⟩
    · exact codes_filled c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f14 f15 v103 _ _ _ r s
    · unfold root_run.sl.H18_1
      refine (slab_written arg18.view f18 i _ y).trans ?_
      refine if_congr Iff.rfl (congrFun ?_ _) rfl
      rw [readAt_whole3]
      refine congr (congrArg₂ (fun a b => k0_pay3 (F := Ideal) a b (View.read (Elt Ideal) arg6.view f6)) ?_ ?_) ?_
      · unfold root_run.sl.r_2 root_run.sl.r_1 root_run.sl.r
        simp only [readAt_whole]
      · unfold root_run.sl.v198 root_run.sl.r_4 root_run.sl.r_3 root_run.sl.r_1 root_run.sl.r
        simp only [readAt_whole]
        rfl
      · unfold root_run.sl.r_5
        exact word_loaded arg3.view f3 i (k0_off31_eq i) _ _
    · refine (out_written arg9.view f9 _ _).trans (joined_of _ _ _ _ _ _ _ _ _ (fun x => ?_) (fun x => ?_) (fun x => ?_) (fun x => ?_) (fun x => ?_) (fun x => ?_) (fun x => ?_) (fun x => ?_))
      · unfold root_run.sl.v217; exact slab_read arg18.view _ 0 (by omega) _ x
      · unfold root_run.sl.v219; exact slab_read arg18.view _ 1 (by omega) _ x
      · unfold root_run.sl.v221; exact slab_read arg18.view _ 2 (by omega) _ x
      · unfold root_run.sl.v223; exact slab_read arg18.view _ 3 (by omega) _ x
      · unfold root_run.sl.v225; exact slab_read arg18.view _ 4 (by omega) _ x
      · unfold root_run.sl.v227; exact slab_read arg18.view _ 5 (by omega) _ x
      · unfold root_run.sl.v229; exact slab_read arg18.view _ 6 (by omega) _ x
      · unfold root_run.sl.v231; exact slab_read arg18.view _ 7 (by omega) _ x
  · sl_exec
    sl_step
    iapply Hk
    isplitl [H2]; · iexact H2
    isplitl [H3]
    · iexists _; isplitr; swap; · iexact H3
      ipureintro; rfl
    isplitl [H4]; · iexact H4
    isplitl [H5]; · iexact H5
    isplitl [H6]
    · iexists _; isplitr; swap; · iexact H6
      ipureintro; rfl
    isplitl [H7]; · iexact H7
    isplitl [H8]; · iexact H8
    isplitl [H9]
    · iexists _; isplitr; swap; · iexact H9
      ipureintro; rfl
    isplitl [H10]; · iexact H10
    isplitl [H11]; · iexact H11
    isplitl [H12]; · iexact H12
    isplitl [H13]; · iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]; · iexists _; iexact H17
    isplitl [H18]
    · iexists _; isplitr; swap; · iexact H18
      ipureintro; rfl
    ipureintro
    refine ⟨hML.1, L, _, _, _, arg15.view.read (Elt Ideal) (fillCodes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f14 f15 v103 (k0_pay99 (F := Ideal) (k0_pay98 (F := Ideal) v103 (arg16.view.read (Elt Ideal) f16))) (k0_pay100 (F := Ideal) (k0_pay98 (F := Ideal) v103 (arg16.view.read (Elt Ideal) f16))) (arg16.view.read (Elt Ideal) f16)), hML.2, h11, fun r s => ?_, fun y => ?_, fun h => absurd ((cond4_iff i).mpr h) hc, fun _ => rfl⟩
    · exact codes_filled c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f14 f15 v103 _ _ _ r s
    · skip
      refine (slab_written arg18.view f18 i _ y).trans ?_
      refine if_congr Iff.rfl (congrFun ?_ _) rfl
      rw [readAt_whole3]
      refine congr (congrArg₂ (fun a b => k0_pay3 (F := Ideal) a b (View.read (Elt Ideal) arg6.view f6)) ?_ ?_) ?_
      · unfold root_run.sl.r_8 root_run.sl.r_7 root_run.sl.r_6
        simp only [readAt_whole]
      · unfold root_run.sl.v198_1 root_run.sl.r_10 root_run.sl.r_9 root_run.sl.r_7 root_run.sl.r_6
        simp only [readAt_whole]
        rfl
      · unfold root_run.sl.r_11
        exact word_loaded arg3.view f3 i (k0_off31_eq i) _ _
end Cert.KernelIdeal.Val
-- ==== Proof.Row.lean ====
/-
  One row of the attention, over the extended reals: the plain softmax with its power-of-two quantiser, and the kernel's route to
  the same codes.
-/
module

public import Idealize.ShloMosaic.Lib.Pipeline.ValueKit

@[expose] public section

set_option maxRecDepth 65536

noncomputable section

namespace Cert.Row

open Idealize.ShloMosaic
open scoped BigOperators

/-- The quantiser's largest code, 448. -/
def codeMax : EReal := Ideal.ofBits .f32 1138753536#32
/-- One over it, as the nearest `f32`. -/
def codeInv : EReal := Ideal.ofBits .f32 991054117#32
def two : EReal := Ideal.ofBits .f32 1073741824#32

/-! ## The plain row -/

/-- The exponentials of a row of scores, its maximum taken off. -/
def refE (T : Fin 8192 → EReal) (s : Fin 8192) : EReal := Ideal.exp (T s - Finset.univ.sup T)
/-- The softmax. -/
def refP (T : Fin 8192 → EReal) (s : Fin 8192) : EReal := Ideal.div (refE T s) (∑ x, refE T x)
/-- The quantiser's exponent: of the row's largest probability over 448. -/
def refEx (T : Fin 8192 → EReal) : EReal :=
  if Finset.univ.sup (refP T) = 0 then 0 else Ideal.liftRound Int.floor (Ideal.div (Ideal.log (Finset.univ.sup (refP T) * codeInv)) (Ideal.log two)) + 1
def refScale (T : Fin 8192 → EReal) : EReal := Ideal.pow two (refEx T)
def refCode (T : Fin 8192 → EReal) (s : Fin 8192) : EReal := min codeMax (max 0 (refP T s * Ideal.pow two (-refEx T)))
/-- The row's result against one column of values. -/
def refOut (T v : Fin 8192 → EReal) (vs : EReal) : EReal := (∑ s, v s * refCode T s) * (refScale T * vs)

/-! ## The kernel's row -/

/-- The exponent counted by comparisons with the powers of two. -/
def ladder (x : EReal) : BitVec 32 :=
  IntOp.subi (IntOp.addi (IntOp.addi (IntOp.addi (IntOp.addi (IntOp.addi (IntOp.addi (IntOp.addi (IntOp.addi (IntOp.addi (IntOp.addi (IntOp.addi (IntOp.addi (IntOp.addi (IntOp.addi (IntOp.addi (IntOp.addi (103#32) (BitVec.setWidth 32 (BitVec.ofBool (decide (Ideal.ofBits .f32 872415232#32 ≤ x))))) (BitVec.setWidth 32 (BitVec.ofBool (decide (Ideal.ofBits .f32 880803840#32 ≤ x))))) (BitVec.setWidth 32 (BitVec.ofBool (decide (Ideal.ofBits .f32 889192448#32 ≤ x))))) (BitVec.setWidth 32 (BitVec.ofBool (decide (Ideal.ofBits .f32 897581056#32 ≤ x))))) (BitVec.setWidth 32 (BitVec.ofBool (decide (Ideal.ofBits .f32 905969664#32 ≤ x))))) (BitVec.setWidth 32 (BitVec.ofBool (decide (Ideal.ofBits .f32 914358272#32 ≤ x))))) (BitVec.setWidth 32 (BitVec.ofBool (decide (Ideal.ofBits .f32 922746880#32 ≤ x))))) (BitVec.setWidth 32 (BitVec.ofBool (decide (Ideal.ofBits .f32 931135488#32 ≤ x))))) (BitVec.setWidth 32 (BitVec.ofBool (decide (Ideal.ofBits .f32 939524096#32 ≤ x))))) (BitVec.setWidth 32 (BitVec.ofBool (decide (Ideal.ofBits .f32 947912704#32 ≤ x))))) (BitVec.setWidth 32 (BitVec.ofBool (decide (Ideal.ofBits .f32 956301312#32 ≤ x))))) (BitVec.setWidth 32 (BitVec.ofBool (decide (Ideal.ofBits .f32 964689920#32 ≤ x))))) (BitVec.setWidth 32 (BitVec.ofBool (decide (Ideal.ofBits .f32 973078528#32 ≤ x))))) (BitVec.setWidth 32 (BitVec.ofBool (decide (Ideal.ofBits .f32 981467136#32 ≤ x))))) (BitVec.setWidth 32 (BitVec.ofBool (decide (Ideal.ofBits .f32 989855744#32 ≤ x))))) (BitVec.setWidth 32 (BitVec.ofBool (decide (Ideal.ofBits .f32 998244352#32 ≤ x))))) 126#32
def kerMax (U : Fin 8192 → EReal) : EReal := Ideal.exp2 (Finset.univ.sup U)
def kerSum (U : Fin 8192 → EReal) : EReal := ∑ s, Ideal.exp2 (U s)
def kerEx (U : Fin 8192 → EReal) : BitVec 32 := ladder (Ideal.div (kerMax U) (kerSum U) * codeInv)
def kerScale (U : Fin 8192 → EReal) : EReal := Ideal.ofBits .f32 (IntOp.shli ArithUnit.vector (IntOp.addi (kerEx U) 127#32) 23#32)
def kerInv (U : Fin 8192 → EReal) : EReal := Ideal.ofBits .f32 (IntOp.shli ArithUnit.vector (IntOp.subi (127#32) (kerEx U)) 23#32)
def kerCode (U : Fin 8192 → EReal) (s : Fin 8192) : EReal := Ideal.exp2 (U s) * min (Ideal.div (kerInv U) (kerSum U)) (Ideal.div codeMax (kerMax U))
def kerOut (U v : Fin 8192 → EReal) (vs : EReal) : EReal := (∑ s, kerCode U s * v s) * (kerScale U * vs)

/-! ## Powers of two -/

/-- The pattern with a bare exponent field denotes that power of two. -/
theorem pow_bits (b : BitVec 32) (e : ℕ) (he0 : 0 < e) (he : e < 255) (h1 : (b.extractLsb' 23 8).toNat = e) (h2 : (b.extractLsb' 0 23).toNat = 0)
    (h3 : (b.extractLsb' 31 1 == 1#1) = false) : Ideal.ofBits .f32 b = (((2 : ℝ) ^ ((e : ℤ) - 127) : ℝ) : EReal) := by
  show Ideal.ieee 8 23 b = _
  unfold Ideal.ieee
  simp only [h1, h2, h3]
  rw [if_neg (by omega), if_neg (by omega)]
  congr 1
  rw [show ((e : ℤ) - 127) = 23 + ((e : ℤ) - (2 ^ (8 - 1) - 1) - 23) by norm_num, zpow_add₀ (by norm_num : (2 : ℝ) ≠ 0)]
  norm_num

theorem dec_pow (x : ℝ) (k j : ℤ) (h1 : (2 : ℝ) ^ k ≤ x) (h2 : x < (2 : ℝ) ^ (k + 1)) :
    decide ((((2 : ℝ) ^ j : ℝ) : EReal) ≤ (x : EReal)) = decide (j ≤ k) := by
  refine decide_eq_decide.mpr ?_
  rw [EReal.coe_le_coe_iff]
  constructor
  · intro h
    have := lt_of_le_of_lt h h2
    have := (zpow_lt_zpow_iff_right₀ (by norm_num : (1 : ℝ) < 2)).mp this
    omega
  · intro h
    exact (zpow_le_zpow_right₀ (by norm_num : (1 : ℝ) ≤ 2) h).trans h1

theorem ladder_at (x : ℝ) (k : ℤ) (hk0 : -24 ≤ k) (hk1 : k ≤ -8) (h1 : (2 : ℝ) ^ k ≤ x) (h2 : x < (2 : ℝ) ^ (k + 1)) :
    ladder (x : EReal) = BitVec.ofInt 32 (k + 1) := by
  unfold ladder
  simp only [show Ideal.ofBits .f32 872415232#32 = (((2 : ℝ) ^ (-23 : ℤ) : ℝ) : EReal) from pow_bits _ 104 (by decide) (by decide) (by decide) (by decide) (by decide),
    show Ideal.ofBits .f32 880803840#32 = (((2 : ℝ) ^ (-22 : ℤ) : ℝ) : EReal) from pow_bits _ 105 (by decide) (by decide) (by decide) (by decide) (by decide),
    show Ideal.ofBits .f32 889192448#32 = (((2 : ℝ) ^ (-21 : ℤ) : ℝ) : EReal) from pow_bits _ 106 (by decide) (by decide) (by decide) (by decide) (by decide),
    show Ideal.ofBits .f32 897581056#32 = (((2 : ℝ) ^ (-20 : ℤ) : ℝ) : EReal) from pow_bits _ 107 (by decide) (by decide) (by decide) (by decide) (by decide),
    show Ideal.ofBits .f32 905969664#32 = (((2 : ℝ) ^ (-19 : ℤ) : ℝ) : EReal) from pow_bits _ 108 (by decide) (by decide) (by decide) (by decide) (by decide),
    show Ideal.ofBits .f32 914358272#32 = (((2 : ℝ) ^ (-18 : ℤ) : ℝ) : EReal) from pow_bits _ 109 (by decide) (by decide) (by decide) (by decide) (by decide),
    show Ideal.ofBits .f32 922746880#32 = (((2 : ℝ) ^ (-17 : ℤ) : ℝ) : EReal) from pow_bits _ 110 (by decide) (by decide) (by decide) (by decide) (by decide),
    show Ideal.ofBits .f32 931135488#32 = (((2 : ℝ) ^ (-16 : ℤ) : ℝ) : EReal) from pow_bits _ 111 (by decide) (by decide) (by decide) (by decide) (by decide),
    show Ideal.ofBits .f32 939524096#32 = (((2 : ℝ) ^ (-15 : ℤ) : ℝ) : EReal) from pow_bits _ 112 (by decide) (by decide) (by decide) (by decide) (by decide),
    show Ideal.ofBits .f32 947912704#32 = (((2 : ℝ) ^ (-14 : ℤ) : ℝ) : EReal) from pow_bits _ 113 (by decide) (by decide) (by decide) (by decide) (by decide),
    show Ideal.ofBits .f32 956301312#32 = (((2 : ℝ) ^ (-13 : ℤ) : ℝ) : EReal) from pow_bits _ 114 (by decide) (by decide) (by decide) (by decide) (by decide),
    show Ideal.ofBits .f32 964689920#32 = (((2 : ℝ) ^ (-12 : ℤ) : ℝ) : EReal) from pow_bits _ 115 (by decide) (by decide) (by decide) (by decide) (by decide),
    show Ideal.ofBits .f32 973078528#32 = (((2 : ℝ) ^ (-11 : ℤ) : ℝ) : EReal) from pow_bits _ 116 (by decide) (by decide) (by decide) (by decide) (by decide),
    show Ideal.ofBits .f32 981467136#32 = (((2 : ℝ) ^ (-10 : ℤ) : ℝ) : EReal) from pow_bits _ 117 (by decide) (by decide) (by decide) (by decide) (by decide),
    show Ideal.ofBits .f32 989855744#32 = (((2 : ℝ) ^ (-9 : ℤ) : ℝ) : EReal) from pow_bits _ 118 (by decide) (by decide) (by decide) (by decide) (by decide),
    show Ideal.ofBits .f32 998244352#32 = (((2 : ℝ) ^ (-8 : ℤ) : ℝ) : EReal) from pow_bits _ 119 (by decide) (by decide) (by decide) (by decide) (by decide), dec_pow x k _ h1 h2]
  clear h1 h2
  interval_cases k <;> rfl

theorem scale_bits (k : ℤ) (hk0 : -24 ≤ k) (hk1 : k ≤ -8) :
    Ideal.ofBits .f32 (IntOp.shli ArithUnit.vector (IntOp.addi (BitVec.ofInt 32 (k + 1)) 127#32) 23#32) = (((2 : ℝ) ^ (k + 1) : ℝ) : EReal)
    ∧ Ideal.ofBits .f32 (IntOp.shli ArithUnit.vector (IntOp.subi (127#32) (BitVec.ofInt 32 (k + 1))) 23#32) = (((2 : ℝ) ^ (-(k + 1)) : ℝ) : EReal) := by
  interval_cases k
  · exact ⟨pow_bits _ 104 (by decide) (by decide) (by decide) (by decide) (by decide), pow_bits _ 150 (by decide) (by decide) (by decide) (by decide) (by decide)⟩
  · exact ⟨pow_bits _ 105 (by decide) (by decide) (by decide) (by decide) (by decide), pow_bits _ 149 (by decide) (by decide) (by decide) (by decide) (by decide)⟩
  · exact ⟨pow_bits _ 106 (by decide) (by decide) (by decide) (by decide) (by decide), pow_bits _ 148 (by decide) (by decide) (by decide) (by decide) (by decide)⟩
  · exact ⟨pow_bits _ 107 (by decide) (by decide) (by decide) (by decide) (by decide), pow_bits _ 147 (by decide) (by decide) (by decide) (by decide) (by decide)⟩
  · exact ⟨pow_bits _ 108 (by decide) (by decide) (by decide) (by decide) (by decide), pow_bits _ 146 (by decide) (by decide) (by decide) (by decide) (by decide)⟩
  · exact ⟨pow_bits _ 109 (by decide) (by decide) (by decide) (by decide) (by decide), pow_bits _ 145 (by decide) (by decide) (by decide) (by decide) (by decide)⟩
  · exact ⟨pow_bits _ 110 (by decide) (by decide) (by decide) (by decide) (by decide), pow_bits _ 144 (by decide) (by decide) (by decide) (by decide) (by decide)⟩
  · exact ⟨pow_bits _ 111 (by decide) (by decide) (by decide) (by decide) (by decide), pow_bits _ 143 (by decide) (by decide) (by decide) (by decide) (by decide)⟩
  · exact ⟨pow_bits _ 112 (by decide) (by decide) (by decide) (by decide) (by decide), pow_bits _ 142 (by decide) (by decide) (by decide) (by decide) (by decide)⟩
  · exact ⟨pow_bits _ 113 (by decide) (by decide) (by decide) (by decide) (by decide), pow_bits _ 141 (by decide) (by decide) (by decide) (by decide) (by decide)⟩
  · exact ⟨pow_bits _ 114 (by decide) (by decide) (by decide) (by decide) (by decide), pow_bits _ 140 (by decide) (by decide) (by decide) (by decide) (by decide)⟩
  · exact ⟨pow_bits _ 115 (by decide) (by decide) (by decide) (by decide) (by decide), pow_bits _ 139 (by decide) (by decide) (by decide) (by decide) (by decide)⟩
  · exact ⟨pow_bits _ 116 (by decide) (by decide) (by decide) (by decide) (by decide), pow_bits _ 138 (by decide) (by decide) (by decide) (by decide) (by decide)⟩
  · exact ⟨pow_bits _ 117 (by decide) (by decide) (by decide) (by decide) (by decide), pow_bits _ 137 (by decide) (by decide) (by decide) (by decide) (by decide)⟩
  · exact ⟨pow_bits _ 118 (by decide) (by decide) (by decide) (by decide) (by decide), pow_bits _ 136 (by decide) (by decide) (by decide) (by decide) (by decide)⟩
  · exact ⟨pow_bits _ 119 (by decide) (by decide) (by decide) (by decide) (by decide), pow_bits _ 135 (by decide) (by decide) (by decide) (by decide) (by decide)⟩
  · exact ⟨pow_bits _ 120 (by decide) (by decide) (by decide) (by decide) (by decide), pow_bits _ 134 (by decide) (by decide) (by decide) (by decide) (by decide)⟩

theorem codeMax_eq : codeMax = ((448 : ℝ) : EReal) := by
  simp [codeMax, Ideal.ofBits, Ideal.ieee, -EReal.coe_mul]; norm_num
theorem codeInv_eq : codeInv = ((9586981 / 4294967296 : ℝ) : EReal) := by
  simp [codeInv, Ideal.ofBits, Ideal.ieee, -EReal.coe_mul]; norm_num
theorem two_eq : two = ((2 : ℝ) : EReal) := by
  simp [two, Ideal.ofBits, Ideal.ieee, -EReal.coe_mul]; norm_num

/-! ## Rows of reals -/

theorem coe_sum (f : Fin 8192 → ℝ) : (∑ s, ((f s : ℝ) : EReal)) = ((∑ s, f s : ℝ) : EReal) :=
  (map_sum (⟨⟨Real.toEReal, EReal.coe_zero⟩, EReal.coe_add⟩ : ℝ →+ EReal) f Finset.univ).symm

/-- A finite supremum reached at one place. -/
theorem sup_eq_of {f : Fin 8192 → EReal} {m : EReal} (h : ∀ s, f s ≤ m) (s0 : Fin 8192) (h0 : f s0 = m) : Finset.univ.sup f = m :=
  le_antisymm (Finset.sup_le fun s _ => h s) (h0 ▸ Finset.le_sup (Finset.mem_univ s0))

/-- A finite supremum is reached. -/
theorem sup_reached (f : Fin 8192 → EReal) : ∃ s, f s = Finset.univ.sup f := by
  obtain ⟨s, _, hs⟩ := Finset.exists_mem_eq_sup Finset.univ ⟨0, Finset.mem_univ _⟩ f
  exact ⟨s, hs.symm⟩

/-- Where the exponentials of the two routes are the same weights up to one positive factor, the rows are the same. -/
theorem row_core (T U v : Fin 8192 → EReal) (vs : EReal) (w : Fin 8192 → ℝ) (g : ℝ) (s0 : Fin 8192) (hw0 : ∀ s, 0 ≤ w s) (hw1 : ∀ s, w s ≤ 1)
    (hs0 : w s0 = 1) (hg : 0 < g) (hE : ∀ s, refE T s = ((w s : ℝ) : EReal)) (hU : ∀ s, Ideal.exp2 (U s) = ((w s * g : ℝ) : EReal))
    (hM : kerMax U = ((g : ℝ) : EReal)) : kerOut U v vs = refOut T v vs := by
  obtain ⟨S, hS⟩ : ∃ S : ℝ, S = ∑ s, w s := ⟨_, rfl⟩
  have hS1 : 1 ≤ S := by
    rw [hS, ← hs0]; exact Finset.single_le_sum (fun s _ => hw0 s) (Finset.mem_univ s0)
  have hS2 : S ≤ 8192 := by
    rw [hS]
    refine (Finset.sum_le_sum fun s _ => hw1 s).trans ?_
    simp
  have hSp : 0 < S := by linarith
  have hsum : (∑ x, refE T x) = ((S : ℝ) : EReal) := by
    rw [Finset.sum_congr rfl fun s _ => hE s, coe_sum, hS]
  have hP : ∀ s, refP T s = ((w s / S : ℝ) : EReal) := fun s => by
    unfold refP
    rw [hsum, hE, Ideal.div_coe hSp.ne', ← EReal.coe_mul]; congr 1; ring
  have hPM : Finset.univ.sup (refP T) = ((1 / S : ℝ) : EReal) := by
    refine sup_eq_of (fun s => ?_) s0 (by rw [hP, hs0])
    rw [hP, EReal.coe_le_coe_iff]
    exact div_le_div_of_nonneg_right (hw1 s) hSp.le
  have hksum : kerSum U = ((S * g : ℝ) : EReal) := by
    unfold kerSum
    rw [Finset.sum_congr rfl fun s _ => hU s, coe_sum, ← Finset.sum_mul, hS]
  obtain ⟨x, hx⟩ : ∃ x : ℝ, x = 1 / S * (9586981 / 4294967296) := ⟨_, rfl⟩
  have hxl : (2 : ℝ) ^ (-24 : ℤ) ≤ x := by
    have : (1 : ℝ) / 8192 ≤ 1 / S := one_div_le_one_div_of_le hSp hS2
    rw [hx]; norm_num at this ⊢; nlinarith
  have hxu : x < (2 : ℝ) ^ (-8 : ℤ) := by
    have : (1 : ℝ) / S ≤ 1 := by rw [div_le_one hSp]; exact hS1
    rw [hx]; norm_num at this ⊢; nlinarith
  have hxp : 0 < x := lt_of_lt_of_le (by positivity) hxl
  have hl2 : 0 < Real.log 2 := Real.log_pos (by norm_num)
  obtain ⟨k, hk⟩ : ∃ k : ℤ, k = ⌊Real.log x / Real.log 2⌋ := ⟨_, rfl⟩
  have hlz : ∀ j : ℤ, Real.log ((2 : ℝ) ^ j) = j * Real.log 2 := fun j => Real.log_zpow 2 j
  have h1 : (2 : ℝ) ^ k ≤ x := by
    rw [← Real.log_le_log_iff (by positivity) hxp, hlz, ← le_div_iff₀ hl2, hk]; exact Int.floor_le _
  have h2 : x < (2 : ℝ) ^ (k + 1) := by
    rw [← Real.log_lt_log_iff hxp (by positivity), hlz, ← div_lt_iff₀ hl2, hk]; push_cast; exact Int.lt_floor_add_one _
  have hk0 : -24 ≤ k := by
    have := (zpow_lt_zpow_iff_right₀ (by norm_num : (1 : ℝ) < 2)).mp (lt_of_le_of_lt hxl h2); omega
  have hk1 : k ≤ -8 := by
    have := (zpow_lt_zpow_iff_right₀ (by norm_num : (1 : ℝ) < 2)).mp (lt_of_le_of_lt h1 hxu); omega
  -- the kernel's exponent and the plain one
  have hkx : Ideal.div (kerMax U) (kerSum U) * codeInv = ((x : ℝ) : EReal) := by
    rw [hM, hksum, Ideal.div_coe (by positivity), codeInv_eq, ← EReal.coe_mul, ← EReal.coe_mul, hx]; congr 1; field_simp
  have hrx : Finset.univ.sup (refP T) * codeInv = ((x : ℝ) : EReal) := by
    rw [hPM, codeInv_eq, ← EReal.coe_mul, hx]
  have hex : kerEx U = BitVec.ofInt 32 (k + 1) := by
    unfold kerEx; rw [hkx]; exact ladder_at x k hk0 hk1 h1 h2
  have hsc : kerScale U = (((2 : ℝ) ^ (k + 1) : ℝ) : EReal) := by
    unfold kerScale; rw [hex]; exact (scale_bits k hk0 hk1).1
  have hin : kerInv U = (((2 : ℝ) ^ (-(k + 1)) : ℝ) : EReal) := by
    unfold kerInv; rw [hex]; exact (scale_bits k hk0 hk1).2
  have hre : refEx T = (((k + 1 : ℤ) : ℝ) : EReal) := by
    unfold refEx
    rw [hrx, if_neg (by rw [hPM, ← EReal.coe_zero, EReal.coe_eq_coe_iff]; positivity), two_eq]
    rw [show Ideal.log ((x : ℝ) : EReal) = ((Real.log x : ℝ) : EReal) from if_neg (not_le.mpr hxp),
      show Ideal.log ((2 : ℝ) : EReal) = ((Real.log 2 : ℝ) : EReal) from if_neg (by norm_num), Ideal.div_coe hl2.ne', ← EReal.coe_mul]
    rw [show Real.log x * (1 / Real.log 2) = Real.log x / Real.log 2 by ring]
    show (((⌊Real.log x / Real.log 2⌋ : ℤ) : ℝ) : EReal) + 1 = _
    rw [← hk, ← EReal.coe_one, ← EReal.coe_add]; push_cast; rfl
  have hpw : ∀ j : ℤ, Ideal.pow two (((j : ℤ) : ℝ) : EReal) = (((2 : ℝ) ^ j : ℝ) : EReal) := fun j => by
    rw [two_eq]
    show ((Real.rpow 2 (j : ℝ) : ℝ) : EReal) = _
    congr 1; exact Real.rpow_intCast 2 j
  have hrs : refScale T = (((2 : ℝ) ^ (k + 1) : ℝ) : EReal) := by unfold refScale; rw [hre, hpw]
  have hri : Ideal.pow two (-refEx T) = (((2 : ℝ) ^ (-(k + 1)) : ℝ) : EReal) := by
    rw [hre, ← EReal.coe_neg, ← Int.cast_neg, hpw]
  have hb : (2 : ℝ) ^ (-(k + 1)) / S ≤ 448 := by
    have e : (2 : ℝ) ^ (-(k + 1)) * (2 : ℝ) ^ (k + 1) = 1 := by rw [← zpow_add₀ (by norm_num : (2:ℝ) ≠ 0)]; norm_num
    have hz : 0 < (2 : ℝ) ^ (-(k + 1)) := by positivity
    have : (2 : ℝ) ^ (-(k + 1)) * x < 1 := by
      calc _ < (2 : ℝ) ^ (-(k + 1)) * (2 : ℝ) ^ (k + 1) := mul_lt_mul_of_pos_left h2 hz
        _ = 1 := e
    have : (2 : ℝ) ^ (-(k + 1)) / S * (9586981 / 4294967296) < 1 := by
      rw [hx] at this; calc _ = (2 : ℝ) ^ (-(k + 1)) * (1 / S * (9586981 / 4294967296)) := by ring
        _ < 1 := this
    linarith
  have hcode : ∀ s, kerCode U s = refCode T s := fun s => by
    unfold kerCode refCode
    rw [hU, hin, hksum, hM, hri, hP, codeMax_eq, Ideal.div_coe (by positivity), Ideal.div_coe hg.ne', ← EReal.coe_mul, ← EReal.coe_mul, ← EReal.coe_mul,
      min_eq_left (by
        rw [EReal.coe_le_coe_iff]
        calc (2 : ℝ) ^ (-(k + 1)) * (1 / (S * g)) = (2 : ℝ) ^ (-(k + 1)) / S * (1 / g) := by field_simp
          _ ≤ 448 * (1 / g) := mul_le_mul_of_nonneg_right hb (by positivity)), ← EReal.coe_mul]
    have hv : w s * g * ((2 : ℝ) ^ (-(k + 1)) * (1 / (S * g))) = w s / S * (2 : ℝ) ^ (-(k + 1)) := by field_simp
    rw [hv, max_eq_right (by rw [← EReal.coe_zero, EReal.coe_le_coe_iff]; exact mul_nonneg (div_nonneg (hw0 s) hSp.le) (by positivity)), min_eq_right]
    rw [EReal.coe_le_coe_iff]
    calc w s / S * (2 : ℝ) ^ (-(k + 1)) = w s * ((2 : ℝ) ^ (-(k + 1)) / S) := by ring
      _ ≤ 1 * ((2 : ℝ) ^ (-(k + 1)) / S) := mul_le_mul_of_nonneg_right (hw1 s) (by positivity)
      _ ≤ 448 := by linarith
  unfold kerOut refOut
  rw [hsc, hrs]
  congr 1
  exact Finset.sum_congr rfl fun s _ => by rw [hcode, mul_comm]

/-! ## Every row -/

/-- The reciprocal of `log 2`, by which the kernel's scores are scaled. -/
def invLog2 : ℝ := 1 / Real.log 2

theorem invLog2_pos : 0 < invLog2 := one_div_pos.mpr (Real.log_pos (by norm_num))

theorem exp2_scaled (t : ℝ) : Ideal.exp2 ((t * invLog2 : ℝ) : EReal) = ((Real.exp t : ℝ) : EReal) := by
  show ((Real.rpow 2 (t * invLog2) : ℝ) : EReal) = _
  congr 1
  show (2 : ℝ) ^ (t * invLog2) = _
  rw [Real.rpow_def_of_pos (by norm_num)]
  congr 1
  have : Real.log 2 ≠ 0 := (Real.log_pos (by norm_num)).ne'
  unfold invLog2; field_simp

theorem bot_scaled : (⊥ : EReal) * (invLog2 : EReal) = ⊥ := EReal.bot_mul_coe_of_pos invLog2_pos
theorem top_scaled : (⊤ : EReal) * (invLog2 : EReal) = ⊤ := EReal.top_mul_coe_of_pos invLog2_pos

/-- Scaling commutes with a row's supremum. -/
theorem sup_scaled (T : Fin 8192 → EReal) : (Finset.univ.sup fun s => T s * (invLog2 : EReal)) = Finset.univ.sup T * (invLog2 : EReal) := by
  obtain ⟨s0, h0⟩ := sup_reached T
  refine sup_eq_of (fun s => ?_) s0 (by rw [h0])
  exact mul_le_mul_of_nonneg_right (Finset.le_sup (Finset.mem_univ s)) (EReal.coe_nonneg.mpr invLog2_pos.le)

/-- A row with no finite maximum comes out zero on both routes. -/
theorem row_void (T U v : Fin 8192 → EReal) (vs : EReal) (hE : ∀ s, refE T s = 0) (hU : ∀ s, U s = ⊥) : kerOut U v vs = refOut T v vs := by
  have hP : ∀ s, refP T s = ⊥ := fun s => by
    unfold refP
    rw [hE, Finset.sum_congr rfl fun s _ => hE s, Finset.sum_const_zero]
    show (if (0 : EReal) = 0 then _ else _) = _
    rw [if_pos rfl, if_neg (lt_irrefl _)]
  have hS : Finset.univ.sup (refP T) = ⊥ := sup_eq_of (fun s => (hP s).le) 0 (hP 0)
  have hx : refEx T = ⊥ := by
    unfold refEx
    rw [hS, if_neg EReal.bot_ne_zero, codeInv_eq, EReal.bot_mul_coe_of_pos (by norm_num), two_eq]
    rw [show Ideal.log (⊥ : EReal) = ⊥ from rfl, show Ideal.log ((2 : ℝ) : EReal) = ((Real.log 2 : ℝ) : EReal) from if_neg (by norm_num)]
    have h2 : 0 < Real.log 2 := Real.log_pos (by norm_num)
    rw [Ideal.div_coe h2.ne', EReal.bot_mul_coe_of_pos (by positivity)]
    show (⊥ : EReal) + 1 = ⊥
    exact EReal.bot_add _
  have hc : ∀ s, refCode T s = 0 := fun s => by
    unfold refCode
    rw [hP, hx, EReal.neg_bot, two_eq]
    rw [show Ideal.pow ((2 : ℝ) : EReal) ⊤ = ⊤ from (if_neg (by norm_num)).trans (if_pos (by norm_num))]
    rw [EReal.bot_mul_top, max_eq_left bot_le, codeMax_eq, min_eq_right (EReal.coe_nonneg.mpr (by norm_num))]
  have hk : ∀ s, kerCode U s = 0 := fun s => by
    unfold kerCode
    rw [hU, show Ideal.exp2 (⊥ : EReal) = 0 from rfl, zero_mul]
  unfold kerOut refOut
  rw [Finset.sum_congr rfl fun s _ => show kerCode U s * v s = 0 by rw [hk, zero_mul], Finset.sum_congr rfl fun s _ => show v s * refCode T s = 0 by rw [hc, mul_zero],
    Finset.sum_const_zero, zero_mul, zero_mul]

/-- A row with a finite maximum. -/
theorem row_real (T U v : Fin 8192 → EReal) (vs : EReal) (m o : ℝ) (hm : Finset.univ.sup T = (m : EReal))
    (hU : ∀ s, U s = T s * (invLog2 : EReal) + ((o * invLog2 : ℝ) : EReal)) : kerOut U v vs = refOut T v vs := by
  obtain ⟨s0, h0⟩ := sup_reached T
  have hle : ∀ s, T s ≤ (m : EReal) := fun s => hm ▸ Finset.le_sup (Finset.mem_univ s)
  have hreal : ∀ s, T s ≠ ⊥ → T s = ((T s).toReal : EReal) := fun s h =>
    (EReal.coe_toReal (fun ht => absurd (ht ▸ hle s) (by simp)) h).symm
  have hs0 : T s0 = (m : EReal) := h0.trans hm
  have hUM : kerMax U = ((Real.exp (m + o) : ℝ) : EReal) := by
    unfold kerMax
    rw [sup_eq_of (m := (((m + o) * invLog2 : ℝ) : EReal)) ?_ s0 ?_, exp2_scaled]
    · intro s
      rw [hU]
      by_cases hb : T s = ⊥
      · rw [hb, bot_scaled, EReal.bot_add]; exact bot_le
      · have hl := hle s
        rw [hreal s hb] at hl ⊢
        rw [← EReal.coe_mul, ← EReal.coe_add, EReal.coe_le_coe_iff]
        have := EReal.coe_le_coe_iff.mp hl
        have := invLog2_pos
        nlinarith
    · rw [hU, hs0, ← EReal.coe_mul, ← EReal.coe_add]; congr 1; ring
  refine row_core T U v vs (fun s => if T s = ⊥ then 0 else Real.exp ((T s).toReal - m)) (Real.exp (m + o)) s0 ?_ ?_ ?_ (Real.exp_pos _) ?_ ?_ hUM
  · intro s; try dsimp only
    split_ifs
    · exact le_rfl
    · exact (Real.exp_pos _).le
  · intro s; try dsimp only
    split_ifs with hb
    · exact zero_le_one
    · rw [Real.exp_le_one_iff]
      have hl := hle s
      rw [hreal s hb] at hl
      have := EReal.coe_le_coe_iff.mp hl
      linarith
  · try dsimp only
    rw [hs0, if_neg (EReal.coe_ne_bot m), EReal.toReal_coe, sub_self, Real.exp_zero]
  · intro s
    unfold refE
    rw [hm]
    try dsimp only
    split_ifs with hb
    · rw [hb]; rfl
    · rw [hreal s hb, ← EReal.coe_sub, EReal.toReal_coe]; rfl
  · intro s
    rw [hU]
    try dsimp only
    split_ifs with hb
    · rw [hb, bot_scaled, EReal.bot_add, zero_mul]; rfl
    · rw [hreal s hb, ← EReal.coe_mul, ← EReal.coe_add, EReal.toReal_coe, ← add_mul, exp2_scaled, ← Real.exp_add]
      congr 2; ring

/-- Scores whose scaled maximum is within 90 of zero are taken as they are. -/
theorem row_plain (T U v : Fin 8192 → EReal) (vs : EReal) (hU : ∀ s, U s = T s * (invLog2 : EReal))
    (hb : Finset.univ.sup U ≠ ⊥ ∧ Finset.univ.sup U ≠ ⊤) : kerOut U v vs = refOut T v vs := by
  have hs : Finset.univ.sup U = Finset.univ.sup T * (invLog2 : EReal) := by
    rw [show U = fun s => T s * (invLog2 : EReal) from funext hU, sup_scaled]
  obtain ⟨M, hM⟩ : ∃ M, M = Finset.univ.sup T := ⟨_, rfl⟩
  rw [hs, ← hM] at hb
  induction M using EReal.rec with
  | bot => exact absurd bot_scaled hb.1
  | top => exact absurd top_scaled hb.2
  | coe m => exact row_real T U v vs m 0 hM.symm fun s => by rw [hU, zero_mul, EReal.coe_zero, add_zero]

/-- Scores with their maximum taken off. -/
theorem row_shifted (T U v : Fin 8192 → EReal) (vs : EReal)
    (hU : ∀ s, U s = T s * (invLog2 : EReal) + (0 - Finset.univ.sup fun s => T s * (invLog2 : EReal))) : kerOut U v vs = refOut T v vs := by
  simp only [sup_scaled] at hU
  obtain ⟨M, hM⟩ : ∃ M, M = Finset.univ.sup T := ⟨_, rfl⟩
  rw [← hM] at hU
  induction M using EReal.rec with
  | bot =>
    have hT : ∀ s, T s = ⊥ := fun s => le_bot_iff.mp (hM ▸ Finset.le_sup (Finset.mem_univ s))
    refine row_void T U v vs (fun s => ?_) (fun s => ?_)
    · unfold refE; rw [← hM, hT]; rfl
    · rw [hU, hT, bot_scaled, EReal.bot_add]
  | top =>
    refine row_void T U v vs (fun s => ?_) (fun s => ?_)
    · unfold refE; rw [← hM, EReal.sub_top]; rfl
    · rw [hU, top_scaled, EReal.sub_top, EReal.add_bot]
  | coe m =>
    exact row_real T U v vs m (-m) hM.symm fun s => by
      rw [hU]
      congr 1
      rw [zero_sub, ← EReal.coe_mul, ← EReal.coe_neg, neg_mul]

/-! ## The scores -/

/-- Whether a query may look at key `s`: its bit is set, or the query's words are all zero. -/
def allowed (w : Fin 256 → BitVec 32) (s : Fin 8192) : Prop := (w ⟨s.val / 32, by omega⟩).getLsbD (s.val % 32) = true ∨ ∀ j, w j = 0#32

open Classical in
/-- One query's row of scores: the product with the keys, times the keys' scale and the reciprocal root of the head's width; minus
    infinity at the keys it may not look at. -/
def scoreRow (q : Fin 32 → EReal) (k : Fin 8192 → Fin 32 → EReal) (ks : EReal) (w : Fin 256 → BitVec 32) (s : Fin 8192) : EReal :=
  if allowed w s then (∑ x, q x * k s x) * ks * Ideal.div 1 (Ideal.sqrt (Ideal.ofBits .f32 1107296256#32)) else ⊥

theorem root32 : Ideal.div 1 (Ideal.sqrt (Ideal.ofBits .f32 1107296256#32)) = ((1 / Real.sqrt 32 : ℝ) : EReal) := by
  have e : Ideal.ofBits .f32 1107296256#32 = ((32 : ℝ) : EReal) := by simp [Ideal.ofBits, Ideal.ieee, -EReal.coe_mul]; norm_num
  have hp : 0 < Real.sqrt 32 := Real.sqrt_pos.mpr (by norm_num)
  rw [e, show Ideal.sqrt ((32 : ℝ) : EReal) = ((Real.sqrt 32 : ℝ) : EReal) from if_neg (by norm_num), Ideal.div_coe hp.ne', one_mul]

/-- A nonnegative real factor goes into and out of a finite sum. -/
theorem sum_scaled {n : ℕ} (f : Fin n → EReal) (c : ℝ) (hc : 0 ≤ c) : (∑ i, f i * (c : EReal)) = (∑ i, f i) * (c : EReal) := by
  refine Finset.induction_on (Finset.univ : Finset (Fin n)) (by simp) fun a t ha ih => ?_
  rw [Finset.sum_insert ha, Finset.sum_insert ha, ih]
  exact (EReal.right_distrib_of_nonneg_of_ne_top (EReal.coe_nonneg.mpr hc) (EReal.coe_ne_top c) _ _).symm

/-! ## The whole result -/

/-- The attention's result for batch `b`, query `r`, head `h` and column `p`, of the six arguments: queries, keys and their scale,
    values and their scale, and the mask's words. -/
def spec (A0 : (⟨4, ![16, 300, 8, 32]⟩ : Shape).Idx → EReal) (A1 : (⟨4, ![16, 8192, 8, 32]⟩ : Shape).Idx → EReal) (A2 : (⟨2, ![16, 8]⟩ : Shape).Idx → EReal)
    (A3 : (⟨4, ![16, 8192, 8, 32]⟩ : Shape).Idx → EReal) (A4 : (⟨2, ![16, 8]⟩ : Shape).Idx → EReal) (A5 : (⟨3, ![16, 300, 256]⟩ : Shape).Idx → BitVec 32)
    (b : Fin 16) (h : Fin 8) (r : Fin 300) (p : Fin 32) : EReal :=
  refOut (scoreRow (fun d => A0 (ix4 b r h d)) (fun s d => A1 (ix4 b s h d)) (A2 (ix2 b h)) (fun j => A5 (ix3 b r j)))
    (fun s => A3 (ix4 b s h p)) (A4 (ix2 b h))

end Cert.Row
-- ==== Proof.KernelIdeal.Head.lean ====
/-
  One head's slab of the result is the plain rows' results.
-/
module

public import proofs.«01_k».proof.Proof.KernelIdeal.Root
public import proofs.«01_k».proof.Proof.Row
public import proofs.«01_k».proof.Proof.KernelIdeal.Body

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-! ## The scores -/

theorem sum256 (f : Fin 256 → EReal) : (∑ j, f j) = (∑ i : Fin 32, f ⟨i.val, by omega⟩) + (∑ i : Fin 32, f ⟨32 + i.val, by omega⟩)
    + (∑ i : Fin 32, f ⟨64 + i.val, by omega⟩) + (∑ i : Fin 32, f ⟨96 + i.val, by omega⟩) + ∑ i : Fin 128, f ⟨128 + i.val, by omega⟩ := by
  refine (Fin.sum_univ_add (a := 32 + 32 + 32 + 32) (b := 128) f).trans ?_
  refine congrArg₂ (· + ·) ?_ rfl
  refine (Fin.sum_univ_add (a := 32 + 32 + 32) (b := 32) _).trans ?_
  refine congrArg₂ (· + ·) ?_ rfl
  refine (Fin.sum_univ_add (a := 32 + 32) (b := 32) _).trans ?_
  refine congrArg₂ (· + ·) ?_ rfl
  exact Fin.sum_univ_add (a := 32) (b := 32) _

/-- A left table whose first columns are a query, whose column 96 is a summand and whose second half is the diagonals, against the keys
    and the codes: the product with the query, the summand, and minus infinity where the code is not zero. -/
theorem score_form (K : S1x32x8192.Idx → EReal) (M : S320x8192.Idx → EReal) (L : S304x256.Idx → EReal) (r : Fin 304) (s : Fin 8192) (q : Fin 32 → EReal) (o : EReal)
    (h0 : ∀ i : Fin 32, L (ix2 r (⟨i.val, by omega⟩ : Fin 256)) = q i) (h1 : ∀ i : Fin 32, L (ix2 r (⟨32 + i.val, by omega⟩ : Fin 256)) = 0)
    (h2 : ∀ i : Fin 32, L (ix2 r (⟨64 + i.val, by omega⟩ : Fin 256)) = 0) (h3 : ∀ i : Fin 32, L (ix2 r (⟨96 + i.val, by omega⟩ : Fin 256)) = if i.val = 0 then o else 0)
    (h4 : ∀ p : Fin 128, L (ix2 r (⟨128 + p.val, by omega⟩ : Fin 256)) = diagAt r.val p.val) :
    score K M L r s = (∑ i, q i * K (ix3 (0 : Fin 1) i s)) + o + ⊥ * M (ix2 (⟨r.val, by omega⟩ : Fin 320) s) := by
  have hr := r.isLt
  unfold score
  rw [sum256]
  refine congrArg₂ (· + ·) ?_ ?_
  · have a0 : (∑ i : Fin 32, L (ix2 r (⟨i.val, by omega⟩ : Fin 256)) * rhsAt K M (bandOf r.val) ⟨i.val, by omega⟩ s) = ∑ i, q i * K (ix3 (0 : Fin 1) i s) :=
      Finset.sum_congr rfl fun i _ => by
        rw [h0]; unfold rhsAt; rw [dif_pos i.isLt]
    have a1 : (∑ i : Fin 32, L (ix2 r (⟨32 + i.val, by omega⟩ : Fin 256)) * rhsAt K M (bandOf r.val) ⟨32 + i.val, by omega⟩ s) = 0 :=
      Finset.sum_eq_zero fun i _ => by rw [h1, zero_mul]
    have a2 : (∑ i : Fin 32, L (ix2 r (⟨64 + i.val, by omega⟩ : Fin 256)) * rhsAt K M (bandOf r.val) ⟨64 + i.val, by omega⟩ s) = 0 :=
      Finset.sum_eq_zero fun i _ => by rw [h2, zero_mul]
    have a3 : (∑ i : Fin 32, L (ix2 r (⟨96 + i.val, by omega⟩ : Fin 256)) * rhsAt K M (bandOf r.val) ⟨96 + i.val, by omega⟩ s) = o := by
      refine (Finset.sum_eq_single (0 : Fin 32) (fun i _ hi => ?_) (fun h => absurd (Finset.mem_univ _) h)).trans ?_
      · rw [h3, if_neg (show ¬ i.val = 0 from fun h => hi (Fin.ext h)), zero_mul]
      · rw [h3]
        show o * rhsAt K M (bandOf r.val) ⟨96, _⟩ s = o
        unfold rhsAt
        show o * 1 = o
        exact mul_one o
    rw [a0, a1, a2, a3, add_zero, add_zero]
  · have hb : r.val - bandOf r.val < 128 ∧ bandOf r.val ≤ r.val := by unfold bandOf; split_ifs <;> omega
    have hd : ∀ p : ℕ, p < 128 → diagAt r.val p = if p = r.val - bandOf r.val then ⊥ else 0 := fun p hp => by
      unfold diagAt bandOf
      refine if_congr ?_ rfl rfl
      split_ifs <;> omega
    refine (Finset.sum_eq_single (⟨r.val - bandOf r.val, hb.1⟩ : Fin 128) (fun i _ hi => ?_) (fun h => absurd (Finset.mem_univ _) h)).trans ?_
    · rw [h4, hd _ i.isLt, if_neg (fun h => hi (Fin.ext h)), zero_mul]
    · rw [h4, hd _ hb.1, if_pos rfl]
      refine congrArg (⊥ * ·) ?_
      unfold rhsAt
      have hb1 := hb.1
      have hb2 := hb.2
      rw [dif_neg (by show ¬ 128 + (r.val - bandOf r.val) < 32; omega), dif_neg (by show ¬ 128 + (r.val - bandOf r.val) - 32 < 32; omega),
        dif_neg (by show ¬ 128 + (r.val - bandOf r.val) - 32 - 32 < 32; omega), if_neg (by show ¬ 128 + (r.val - bandOf r.val) - 32 - 32 - 32 < 32; omega),
        dif_pos (by show bandOf r.val + (128 + (r.val - bandOf r.val) - 32 - 32 - 32 - 32) < 320; omega)]
      refine congrArg (fun n : Fin 320 => M (ix2 n s)) (Fin.ext ?_)
      show bandOf r.val + (128 + (r.val - bandOf r.val) - 32 - 32 - 32 - 32) = r.val
      omega

/-- The named scale: the reciprocal root of the head's width over `log 2`. -/
theorem scale_val : (Named.named κ "score_scale" 1048744942#32 : Ideal .f32) = ((1 / Real.sqrt 32 * Row.invLog2 : ℝ) : EReal) := by
  refine (IdealRules.named_const.ideal_named_scalar _ _ _ _ rfl).trans ?_
  unfold Row.invLog2
  show (((Real.sqrt 32)⁻¹ * (Real.log 2)⁻¹ : ℝ) : EReal) = _
  rw [one_div, one_div]

/-- A real query and the remainders of its two roundings, which vanish. -/
theorem thirds (A : Fin 32 → EReal) (q : Fin 32 → ℝ) (hq : ∀ d, A d = (q d : EReal)) (p : ℕ) :
    (if h : p < 32 then A ⟨p, h⟩ else if h : p - 32 < 32 then A ⟨p - 32, h⟩ - A ⟨p - 32, h⟩
      else if h : p - 32 - 32 < 32 then A ⟨p - 32 - 32, h⟩ - A ⟨p - 32 - 32, h⟩ - (A ⟨p - 32 - 32, h⟩ - A ⟨p - 32 - 32, h⟩) else 0)
      = if h : p < 32 then (q ⟨p, h⟩ : EReal) else 0 := by
  have z : ∀ x : ℝ, (x : EReal) - (x : EReal) = 0 := fun x => by rw [← EReal.coe_sub, sub_self]; rfl
  split_ifs
  · exact hq _
  · rw [hq, z]
  · rw [hq, z]; exact z 0
  · rfl

/-- The left operand's first half at a query's row: the scaled query where it is a real number, then zeros. -/
theorem pay50_at (v : S1x32x300.Idx → EReal) (b : EReal) (r : Fin 304) (hr : r.val < 300) (q : Fin 32 → ℝ)
    (hq : ∀ d, v (ix3 (0 : Fin 1) d (⟨r.val, hr⟩ : Fin 300)) * (b * (Named.named κ "score_scale" 1048744942#32 : Ideal .f32)) = (q d : EReal)) (p : Fin 128) :
    k0_pay50 (F := Ideal) v b (ix2 r p) = if h : p.val < 32 then (q ⟨p.val, h⟩ : EReal) else 0 := by
  pointwise [k0_pay50]
  exact (dif_pos hr).trans (thirds _ q hq p.val)

/-! ## The marks -/

/-- A query's words: those of the lower half of the keys, then those of the upper. -/
def words (lo hi : S300x8x128.Idx → BitVec 32) (r : Fin 300) (b : Fin 8) (j : Fin 256) : BitVec 32 :=
  if h : j.val < 128 then lo (ix3 r b (⟨j.val, h⟩ : Fin 128)) else hi (ix3 r b (⟨j.val - 128, by omega⟩ : Fin 128))

theorem words_zero (lo hi : S300x8x128.Idx → BitVec 32) (r : Fin 300) (b : Fin 8) :
    (∀ j, words lo hi r b j = 0#32) ↔ ∀ l : Fin 128, lo (ix3 r b l) = 0#32 ∧ hi (ix3 r b l) = 0#32 := by
  constructor
  · intro h l
    have h0 := h ⟨l.val, by omega⟩
    have h1 := h ⟨128 + l.val, by omega⟩
    unfold words at h0 h1
    rw [dif_pos l.isLt] at h0
    rw [dif_neg (by show ¬ 128 + l.val < 128; omega)] at h1
    exact ⟨h0, (congrArg (fun n : Fin 128 => hi (ix3 r b n)) (Fin.ext (by show l.val = 128 + l.val - 128; omega))).trans h1⟩
  · intro h j
    unfold words
    split_ifs
    · exact (h _).1
    · exact (h _).2

theorem maskWords_at (lo hi : S300x8x128.Idx → BitVec 32) (b : Fin 8) (h : Fin 2) (r : Fin 300) (l : Fin 128) :
    maskWords (rowOf lo b) (rowOf hi b) (ix3 h (⟨r.val, by omega⟩ : Fin 320) l)
      = if ∀ l : Fin 128, lo (ix3 r b l) = 0#32 ∧ hi (ix3 r b l) = 0#32 then 0#32 else IntOp.xori (words lo hi r b ⟨128 * h.val + l.val, by omega⟩) 4294967295#32 := by
  unfold maskWords
  refine (dif_pos r.isLt).trans ?_
  by_cases hz : ∀ l : Fin 128, lo (ix3 r b l) = 0#32 ∧ hi (ix3 r b l) = 0#32
  · exact (if_pos hz).trans (if_pos hz).symm
  · refine (if_neg hz).trans (Eq.trans ?_ (if_neg hz).symm)
    refine congrArg (IntOp.xori · 4294967295#32) ?_
    unfold words
    by_cases h0 : h.val = 0
    · refine (congrFun (if_pos h0) _).trans (Eq.trans ?_ (dif_pos (by show 128 * h.val + l.val < 128; omega)).symm)
      exact congrArg (fun n : Fin 128 => lo (ix3 r b n)) (Fin.ext (by show l.val = 128 * h.val + l.val; omega))
    · refine (congrFun (if_neg h0) _).trans (Eq.trans ?_ (dif_neg (by show ¬ 128 * h.val + l.val < 128; omega)).symm)
      exact congrArg (fun n : Fin 128 => hi (ix3 r b n)) (Fin.ext (by show l.val = 128 * h.val + l.val - 128; omega))

open Classical in
/-- A query's code at a key: zero where it may look, the least fp8 number elsewhere. -/
theorem code_allowed (lo hi : S300x8x128.Idx → BitVec 32) (b : Fin 8) (r : Fin 300) (s : Fin 8192) :
    codeAt (maskWords (rowOf lo b) (rowOf hi b)) r.val s.val = if Row.allowed (words lo hi r b) s then 0 else (((2:ℝ)⁻¹ ^ 9 : ℝ) : EReal) := by
  have hr := r.isLt
  have hs := s.isLt
  have m := maskWords_at lo hi b ⟨s.val / 4096, by omega⟩ r ⟨s.val % 4096 / 32, by omega⟩
  rw [show (⟨128 * (⟨s.val / 4096, by omega⟩ : Fin 2).val + (⟨s.val % 4096 / 32, by omega⟩ : Fin 128).val, by show 128 * (s.val / 4096) + s.val % 4096 / 32 < 256; omega⟩ : Fin 256)
    = ⟨s.val / 32, by omega⟩ from Fin.ext (by show 128 * (s.val / 4096) + s.val % 4096 / 32 = s.val / 32; omega)] at m
  unfold codeAt wordAt Row.allowed
  rw [words_zero, dif_pos ⟨by omega, by omega, by omega⟩]
  refine (if_congr (Iff.of_eq (congrArg (fun w : BitVec 32 => w.getLsbD (s.val % 32) = true) m)) rfl rfl).trans ?_
  have hx : (IntOp.xori (words lo hi r b ⟨s.val / 32, by omega⟩) 4294967295#32).getLsbD (s.val % 32) = !(words lo hi r b ⟨s.val / 32, by omega⟩).getLsbD (s.val % 32) := by
    have h32 : s.val % 32 < 32 := by omega
    show (words lo hi r b ⟨s.val / 32, by omega⟩ ^^^ 4294967295#32).getLsbD (s.val % 32) = _
    rw [BitVec.getLsbD_xor, show (4294967295#32 : BitVec 32) = BitVec.allOnes 32 from rfl, BitVec.getLsbD_allOnes, decide_eq_true h32, Bool.xor_true]
  by_cases hz : ∀ l : Fin 128, lo (ix3 r b l) = 0#32 ∧ hi (ix3 r b l) = 0#32
  · simp [hz]
  · rw [if_neg hz, hx]
    by_cases hb : (words lo hi r b ⟨s.val / 32, by omega⟩).getLsbD (s.val % 32) = true
    · simp [hb]
    · rw [Bool.not_eq_true] at hb
      rw [hb]; simp only [hz, or_false, Bool.false_eq_true, Bool.not_false, if_true, if_false]

/-! ## The threshold -/

theorem gt_flag (a b : EReal) (h : b < a) : Scalar.cmpi .ne (Scalar.extui (Scalar.cmpf (F := Ideal) (φ := .f32) .ogt a b) : BitVec 32) 0#32 = 1#1 := by
  show Scalar.cmpi .ne (Scalar.extui (BitVec.ofBool (decide (b < a))) : BitVec 32) 0#32 = 1#1
  rw [decide_eq_true h]
  rfl

theorem pay81_at (x : S304x128.Idx → EReal) : k0_pay81 (F := Ideal) x
    = Finset.fold max (Ideal.ofBits FTy.f32 4286578688#32) (fun z : Fin 304 × Fin 128 => FloatOps.absf (F := Ideal) (φ := .f32) (x (ix2 z.1 z.2))) Finset.univ := by
  pointwise [k0_pay81]

theorem fold_le {α : Type} [Fintype α] (f : α → EReal) (a c : EReal) (h : Finset.fold max a f Finset.univ ≤ c) (z : α) : f z ≤ c :=
  ((Finset.fold_max_le c).mp h).2 z (Finset.mem_univ z)

theorem abs_finite (x : EReal) (h : max x (-x) ≤ ((90 : ℝ) : EReal)) : x ≠ ⊥ ∧ x ≠ ⊤ := by
  have hx := max_le_iff.mp h
  constructor
  · intro hb; rw [hb] at hx; exact absurd hx.2 (by simp)
  · intro hb; rw [hb] at hx; exact absurd hx.1 (by simp)

/-- Where the passes do not shift, every row's maximum is finite. -/
theorem rowMax_finite (Y : ℕ → ℕ → EReal) (h : ¬ shifts Y) (r : Fin 304) : rowMax Y r.val ≠ ⊥ ∧ rowMax Y r.val ≠ ⊤ := by
  have e := pay81_at (fun y => rowMax Y (y 0).val)
  have hle : ¬ (Ideal.ofBits .f32 0x42B40000#32 < k0_pay81 (F := Ideal) (fun y => rowMax Y (y 0).val)) := by
    intro hl
    apply h
    exact gt_flag _ _ hl
  have h90 : Ideal.ofBits .f32 0x42B40000#32 = ((90 : ℝ) : EReal) := by simp [Ideal.ofBits, Ideal.ieee, -EReal.coe_mul]; norm_num
  rw [e, not_lt, h90] at hle
  have hx := fold_le _ _ _ hle (r, 0)
  exact abs_finite (rowMax Y r.val) hx

/-! ## The quantiser -/

theorem pay103_at (sm mx : FVec Ideal S304x128 .f32) (U : Fin 8192 → EReal) (r : Fin 304) (l : Fin 128) (hs : sm (ix2 r l) = Row.kerSum U) (hm : mx (ix2 r l) = Finset.univ.sup U) :
    k0_pay103 (F := Ideal) sm (k0_pay99 (F := Ideal) (k0_pay98 (F := Ideal) sm mx)) (k0_pay100 (F := Ideal) (k0_pay98 (F := Ideal) sm mx)) mx (ix2 r l)
      = min (Ideal.div (Row.kerInv U) (Row.kerSum U)) (Ideal.div Row.codeMax (Row.kerMax U)) := by
  pointwise [k0_pay103, k0_pay101, k0_pay99, k0_pay100, k0_pay98]
  rw [hs, hm]
  rfl
theorem pay102_at (sm mx : FVec Ideal S304x128 .f32) (U : Fin 8192 → EReal) (r : Fin 304) (l : Fin 128) (hs : sm (ix2 r l) = Row.kerSum U) (hm : mx (ix2 r l) = Finset.univ.sup U) :
    k0_pay102 (k0_pay99 (F := Ideal) (k0_pay98 (F := Ideal) sm mx)) (k0_pay100 (F := Ideal) (k0_pay98 (F := Ideal) sm mx)) (ix2 r l) = Row.kerScale U := by
  pointwise [k0_pay102, k0_pay101, k0_pay99, k0_pay100, k0_pay98]
  rw [hs, hm]
  rfl
theorem pay3_at (v : FVec Ideal S304x128 .f32) (P : S320x8192.Idx → EReal) (W : S1x32x8192.Idx → EReal) (y : EReal) (r : Fin 304) (p : Fin 32) :
    k0_pay3 (F := Ideal) v P W y (ix3 (0 : Fin 1) r p) = (∑ s : Fin 8192, P (ix2 (⟨r.val, by omega⟩ : Fin 320) s) * W (ix3 (0 : Fin 1) p s)) * (v (ix2 r (⟨p.val, by omega⟩ : Fin 128)) * y) := by
  pointwise [k0_pay3]

/-! ## The row -/

/-- A left table with a real query in row `r`: the scores are the plain row's, scaled by `1 / log 2`, plus the summand of column 96. -/
theorem score_row (K : S1x32x8192.Idx → EReal) (M : S320x8192.Idx → EReal) (L L' : S304x256.Idx → EReal) (lo hi : S300x8x128.Idx → BitVec 32) (b : Fin 8)
    (x4 : S1x32x300.Idx → EReal) (ks : EReal) (r : Fin 300) (o : EReal) (hq : ∀ d, ∃ x : ℝ, x4 (ix3 (0 : Fin 1) d r) = (x : EReal)) (hk : ∃ c : ℝ, 0 ≤ c ∧ ks = (c : EReal))
    (hL : ∀ p : Fin 128, L (ix2 (⟨r.val, by omega⟩ : Fin 304) (⟨p.val, by omega⟩ : Fin 256)) = k0_pay50 (F := Ideal) x4 ks (ix2 (⟨r.val, by omega⟩ : Fin 304) p))
    (hD : ∀ p : Fin 128, L (ix2 (⟨r.val, by omega⟩ : Fin 304) (⟨128 + p.val, by omega⟩ : Fin 256)) = diagAt r.val p.val)
    (hL' : ∀ j : Fin 256, L' (ix2 (⟨r.val, by omega⟩ : Fin 304) j) = if j.val = 96 then o else L (ix2 (⟨r.val, by omega⟩ : Fin 304) j))
    (hM : ∀ y, M y = codeAt (maskWords (rowOf lo b) (rowOf hi b)) (y 0).val (y 1).val) (s : Fin 8192) :
    score K M L' (⟨r.val, by omega⟩ : Fin 304) s
      = Row.scoreRow (fun d => x4 (ix3 (0 : Fin 1) d r)) (fun s d => K (ix3 (0 : Fin 1) d s)) ks (words lo hi r b) s * (Row.invLog2 : EReal) + o := by
  obtain ⟨c, hc0, rfl⟩ := hk
  choose q hq using hq
  have hs0 : 0 ≤ 1 / Real.sqrt 32 * Row.invLog2 := mul_nonneg (by positivity) Row.invLog2_pos.le
  have hq' : ∀ d, x4 (ix3 (0 : Fin 1) d r) * ((c : EReal) * (Named.named κ "score_scale" 1048744942#32 : Ideal .f32)) = ((q d * (c * (1 / Real.sqrt 32 * Row.invLog2)) : ℝ) : EReal) := fun d => by
    rw [hq, scale_val, ← EReal.coe_mul, ← EReal.coe_mul]
  have hL0 : ∀ p : Fin 128, L (ix2 (⟨r.val, by omega⟩ : Fin 304) (⟨p.val, by omega⟩ : Fin 256)) = if h : p.val < 32 then ((q ⟨p.val, h⟩ * (c * (1 / Real.sqrt 32 * Row.invLog2)) : ℝ) : EReal) else 0 := fun p =>
    (hL p).trans (pay50_at x4 c ⟨r.val, by omega⟩ r.isLt (fun d => q d * (c * (1 / Real.sqrt 32 * Row.invLog2))) hq' p)
  refine (score_form K M L' _ s (fun d => ((q d * (c * (1 / Real.sqrt 32 * Row.invLog2)) : ℝ) : EReal)) o ?_ ?_ ?_ ?_ ?_).trans ?_
  · intro i
    refine (hL' _).trans ((if_neg (by show ¬ i.val = 96; omega)).trans ((hL0 ⟨i.val, by omega⟩).trans (dif_pos i.isLt)))
  · intro i
    refine (hL' _).trans ((if_neg (by show ¬ 32 + i.val = 96; omega)).trans ((hL0 ⟨32 + i.val, by omega⟩).trans (dif_neg (by show ¬ 32 + i.val < 32; omega))))
  · intro i
    refine (hL' _).trans ((if_neg (by show ¬ 64 + i.val = 96; omega)).trans ((hL0 ⟨64 + i.val, by omega⟩).trans (dif_neg (by show ¬ 64 + i.val < 32; omega))))
  · intro i
    refine (hL' _).trans ?_
    refine (if_congr (show 96 + i.val = 96 ↔ i.val = 0 by omega) rfl ((hL0 ⟨96 + i.val, by omega⟩).trans (dif_neg (by show ¬ 96 + i.val < 32; omega))))
  · intro p
    exact (hL' _).trans ((if_neg (by show ¬ 128 + p.val = 96; omega)).trans (hD p))
  · rw [hM]
    refine (congrArg (fun z => _ + o + ⊥ * z) (code_allowed lo hi b r s)).trans ?_
    unfold Row.scoreRow
    split_ifs with ha
    · rw [mul_zero, add_zero]
      refine congrArg (· + o) ?_
      rw [Row.root32, mul_assoc, mul_assoc, ← EReal.coe_mul, ← EReal.coe_mul, ← Row.sum_scaled _ _ (mul_nonneg hc0 hs0)]
      refine Finset.sum_congr rfl fun d _ => ?_
      show ((q d * (c * (1 / Real.sqrt 32 * Row.invLog2)) : ℝ) : EReal) * K (ix3 (0 : Fin 1) d s) = x4 (ix3 (0 : Fin 1) d r) * K (ix3 (0 : Fin 1) d s) * _
      rw [hq, EReal.coe_mul, mul_assoc, mul_assoc]
      exact congrArg (_ * ·) (mul_comm _ _)
    · rw [Row.bot_scaled, EReal.bot_mul_coe_of_pos (by positivity), EReal.add_bot, EReal.bot_add]

/-- One head's slab of the result: the plain rows. -/
theorem head_row (i : grid0.Coords) (x2 x3 : S16x8.Idx → EReal) (x4 : S1x32x300.Idx → EReal) (K W : S1x32x8192.Idx → EReal) (lo hi : S300x8x128.Idx → BitVec 32)
    (M0 : S320x8192.Idx → EReal) (L0 : S304x256.Idx → EReal) (O0 : S8x304x32.Idx → EReal) (Y0 : S1x300x256.Idx → EReal)
    (M : S320x8192.Idx → EReal) (L' : S304x256.Idx → EReal) (O : S8x304x32.Idx → EReal) (Y : S1x300x256.Idx → EReal)
    (hR : RootPost i x2 x3 x4 K W lo hi M0 L0 O0 Y0 M L' O Y)
    (hq : ∀ d r, ∃ x : ℝ, x4 (ix3 (0 : Fin 1) d r) = (x : EReal)) (hk : ∃ c : ℝ, 0 ≤ c ∧ x2 (ix2 (i 0) (i 1)) = (c : EReal))
    (hM : ∀ y, M y = codeAt (maskWords (rowOf lo ⟨(i 0).val % 8, by omega⟩) (rowOf hi ⟨(i 0).val % 8, by omega⟩)) (y 0).val (y 1).val)
    (hD : ∀ (r : Fin 304) (p : Fin 128), L' (ix2 r (⟨128 + p.val, by omega⟩ : Fin 256)) = diagAt r.val p.val) (h : Fin 8) (hh : h.val = (i 1).val) (r : Fin 300) (p : Fin 32) :
    O (ix3 h (⟨r.val, by omega⟩ : Fin 304) p) = Row.refOut (Row.scoreRow (fun d => x4 (ix3 (0 : Fin 1) d r)) (fun s d => K (ix3 (0 : Fin 1) d s)) (x2 (ix2 (i 0) (i 1)))
      (words lo hi r ⟨(i 0).val % 8, by omega⟩)) (fun s => W (ix3 (0 : Fin 1) p s)) (x3 (ix2 (i 0) (i 1))) := by
  obtain ⟨_, L, E, mx, sm, P, hL, hP11, hP, hO, _⟩ := hR
  obtain ⟨hns, hsh, hE, hmx, hsm⟩ := hP11
  have hDL : ∀ p : Fin 128, L (ix2 (⟨r.val, by omega⟩ : Fin 304) (⟨128 + p.val, by omega⟩ : Fin 256)) = diagAt r.val p.val := fun p => by
    by_cases hs : shifts (scoreN K M L)
    · exact ((if_neg (by show ¬ 128 + p.val = 96; omega)).symm.trans (hsh hs _).symm).trans (hD _ p)
    · exact (congrFun (hns hs) _).symm.trans (hD _ p)
  have hLr := fun p => hL.1 (⟨r.val, by omega⟩ : Fin 304) p
  have hU0 : ∀ s, score K M L (⟨r.val, by omega⟩ : Fin 304) s
      = Row.scoreRow (fun d => x4 (ix3 (0 : Fin 1) d r)) (fun s d => K (ix3 (0 : Fin 1) d s)) (x2 (ix2 (i 0) (i 1))) (words lo hi r ⟨(i 0).val % 8, by omega⟩) s * (Row.invLog2 : EReal) := fun s => by
    refine (score_row K M L L lo hi _ x4 _ r 0 (fun d => hq d r) hk hLr hDL (fun j => ?_) hM s).trans (add_zero _)
    split_ifs with h96
    · have hj : j = (⟨(⟨96, by omega⟩ : Fin 128).val, by omega⟩ : Fin 256) := Fin.ext h96
      obtain ⟨c, _, hc⟩ := hk
      choose q hqq using fun d => hq d r
      rw [hj]
      refine (hLr ⟨96, by omega⟩).trans ((pay50_at x4 _ ⟨r.val, by omega⟩ r.isLt (fun d => q d * (c * (1 / Real.sqrt 32 * Row.invLog2))) (fun d => ?_) _).trans (dif_neg (by show ¬ 96 < 32; omega)))
      rw [hc, hqq, scale_val, ← EReal.coe_mul, ← EReal.coe_mul]
    · rfl
  have key : ∀ v vs, Row.kerOut (fun s => score K M L' (⟨r.val, by omega⟩ : Fin 304) s) v vs = Row.refOut (Row.scoreRow (fun d => x4 (ix3 (0 : Fin 1) d r)) (fun s d => K (ix3 (0 : Fin 1) d s)) (x2 (ix2 (i 0) (i 1)))
      (words lo hi r ⟨(i 0).val % 8, by omega⟩)) v vs := fun v vs => by
    by_cases hs : shifts (scoreN K M L)
    · refine Row.row_shifted _ _ v vs fun s => ?_
      refine score_row K M L L' lo hi _ x4 _ r _ (fun d => hq d r) hk hLr hDL (fun j => ?_) hM s
      refine (hsh hs _).trans ?_
      refine if_congr Iff.rfl (congrArg (0 - ·) ?_) rfl
      unfold rowMax
      exact congrArg (Finset.sup Finset.univ) (funext fun p => (scoreN_val K M L ⟨r.val, by omega⟩ p).trans (hU0 p))
    · rw [hns hs]
      have hf := rowMax_finite _ hs ⟨r.val, by omega⟩
      refine Row.row_plain _ _ v vs hU0 ?_
      have e : rowMax (scoreN K M L) r.val = Finset.univ.sup fun s => score K M L (⟨r.val, by omega⟩ : Fin 304) s :=
        congrArg (Finset.sup Finset.univ) (funext fun p => scoreN_val K M L ⟨r.val, by omega⟩ p)
      rw [← e]; exact hf
  have hmx' : ∀ l : Fin 128, mx (ix2 (⟨r.val, by omega⟩ : Fin 304) l) = Finset.univ.sup fun s => score K M L' (⟨r.val, by omega⟩ : Fin 304) s := fun l =>
    (hmx _).trans (congrArg (Finset.sup Finset.univ) (funext fun p => scoreN_val K M L' ⟨r.val, by omega⟩ p))
  have hsm' : ∀ l : Fin 128, sm (ix2 (⟨r.val, by omega⟩ : Fin 304) l) = Row.kerSum fun s => score K M L' (⟨r.val, by omega⟩ : Fin 304) s := fun l =>
    (hsm _).trans (Finset.sum_congr rfl fun p _ => congrArg Ideal.exp2 (scoreN_val K M L' ⟨r.val, by omega⟩ p))
  refine (hO _).trans ((if_pos hh).trans ((pay3_at _ P W _ (⟨r.val, by omega⟩ : Fin 304) p).trans ?_))
  refine Eq.trans ?_ (key (fun s => W (ix3 (0 : Fin 1) p s)) (x3 (ix2 (i 0) (i 1))))
  unfold Row.kerOut
  rw [pay102_at sm mx _ _ _ (hsm' _) (hmx' _)]
  refine congrArg (· * _) (Finset.sum_congr rfl fun s _ => congrArg (· * _) ?_)
  refine (hP ⟨r.val, by omega⟩ s).trans ?_
  rw [pay103_at sm mx _ _ _ (hsm' _) (hmx' _), hE]
  exact congrArg (fun z => Ideal.exp2 z * _) (scoreN_val K M L' ⟨r.val, by omega⟩ s)

end Cert.KernelIdeal.Val
-- ==== Proof.KernelIdeal.Step.lean ====
/-
  What one grid step leaves, in terms of the six arguments: the blocks the step is handed are read off the arguments, and the
  three buffers that live from step to step keep the invariant that the launch is proved with.
-/
module

public import proofs.«01_k».proof.Proof.KernelIdeal.Head

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- A step's batch and head. -/
theorem pt : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-! Where each window's block lies, at every grid step. -/

theorem idx0 : ∀ t : Fin cfg0.N, win0_0.index t 0 = 0 ∧ win0_0.index t 1 = 0 := (by decide +kernel : ∀ t : Fin grid0.N, win0_0.index t 0 = 0 ∧ win0_0.index t 1 = 0)
theorem idx1 : ∀ t : Fin cfg0.N, win0_1.index t 0 = 0 ∧ win0_1.index t 1 = 0 := (by decide +kernel : ∀ t : Fin grid0.N, win0_1.index t 0 = 0 ∧ win0_1.index t 1 = 0)
theorem idx2 : ∀ t : Fin cfg0.N, win0_2.index t 0 = t.val / 8 ∧ win0_2.index t 1 = t.val % 8 ∧ win0_2.index t 2 = 0 := (by decide +kernel : ∀ t : Fin grid0.N, win0_2.index t 0 = t.val / 8 ∧ win0_2.index t 1 = t.val % 8 ∧ win0_2.index t 2 = 0)
theorem idx3 : ∀ t : Fin cfg0.N, win0_3.index t 0 = t.val / 8 ∧ win0_3.index t 1 = t.val % 8 ∧ win0_3.index t 2 = 0 := (by decide +kernel : ∀ t : Fin grid0.N, win0_3.index t 0 = t.val / 8 ∧ win0_3.index t 1 = t.val % 8 ∧ win0_3.index t 2 = 0)
theorem idx4 : ∀ t : Fin cfg0.N, win0_4.index t 0 = t.val / 8 ∧ win0_4.index t 1 = t.val % 8 ∧ win0_4.index t 2 = 0 := (by decide +kernel : ∀ t : Fin grid0.N, win0_4.index t 0 = t.val / 8 ∧ win0_4.index t 1 = t.val % 8 ∧ win0_4.index t 2 = 0)
theorem idx5 : ∀ t : Fin cfg0.N, win0_5.index t 0 = 0 ∧ win0_5.index t 1 = t.val / 64 ∧ win0_5.index t 2 = 0 := (by decide +kernel : ∀ t : Fin grid0.N, win0_5.index t 0 = 0 ∧ win0_5.index t 1 = t.val / 64 ∧ win0_5.index t 2 = 0)
theorem idx6 : ∀ t : Fin cfg0.N, win0_6.index t 0 = 0 ∧ win0_6.index t 1 = t.val / 64 ∧ win0_6.index t 2 = 1 := (by decide +kernel : ∀ t : Fin grid0.N, win0_6.index t 0 = 0 ∧ win0_6.index t 1 = t.val / 64 ∧ win0_6.index t 2 = 1)
theorem idx7 : ∀ t : Fin cfg0.N, win0_7.index t 0 = t.val / 8 ∧ win0_7.index t 1 = 0 ∧ win0_7.index t 2 = 0 := (by decide +kernel : ∀ t : Fin grid0.N, win0_7.index t 0 = t.val / 8 ∧ win0_7.index t 1 = 0 ∧ win0_7.index t 2 = 0)

/-- The keys' scales, whole. -/
theorem blk0 (t : Fin cfg0.N) (b : Fin 16) (h : Fin 8) : iblk (F := Ideal) m c 0 t (ix2 b h) = m ((c : Thread nD τ).loc main_arg2) (ix2 b h) := by
  obtain ⟨e0, e1⟩ := idx0 t
  blk_point [iblk, e0, e1]
/-- The values' scales, whole. -/
theorem blk1 (t : Fin cfg0.N) (b : Fin 16) (h : Fin 8) : iblk (F := Ideal) m c 1 t (ix2 b h) = m ((c : Thread nD τ).loc main_arg4) (ix2 b h) := by
  obtain ⟨e0, e1⟩ := idx1 t
  blk_point [iblk, e0, e1]
/-- A block of transposed queries. -/
theorem blk2 (t : Fin cfg0.N) (d : Fin 32) (r : Fin 300) (b : Fin 16) (h : Fin 8) (hb : b.val = t.val / 8) (hh : h.val = t.val % 8) :
    iblk (F := Ideal) m c 2 t (ix3 (0 : Fin 1) d r) = m ((c : Thread nD τ).loc main_arg0) (ix4 b r h d) := by
  obtain ⟨e0, e1, e2⟩ := idx2 t
  unfold iblk
  blk_simp
  entry_read
  pointwise
  blk_ext [e0, e1, e2]
/-- A block of transposed key codes. -/
theorem blk3 (t : Fin cfg0.N) (d : Fin 32) (r : Fin 8192) (b : Fin 16) (h : Fin 8) (hb : b.val = t.val / 8) (hh : h.val = t.val % 8) :
    iblk (F := Ideal) m c 3 t (ix3 (0 : Fin 1) d r) = m ((c : Thread nD τ).loc main_arg1) (ix4 b r h d) := by
  obtain ⟨e0, e1, e2⟩ := idx3 t
  unfold iblk
  blk_simp
  entry_read
  pointwise
  blk_ext [e0, e1, e2]
/-- A block of transposed value codes. -/
theorem blk4 (t : Fin cfg0.N) (d : Fin 32) (r : Fin 8192) (b : Fin 16) (h : Fin 8) (hb : b.val = t.val / 8) (hh : h.val = t.val % 8) :
    iblk (F := Ideal) m c 4 t (ix3 (0 : Fin 1) d r) = m ((c : Thread nD τ).loc main_arg3) (ix4 b r h d) := by
  obtain ⟨e0, e1, e2⟩ := idx4 t
  unfold iblk
  blk_simp
  entry_read
  pointwise
  blk_ext [e0, e1, e2]
/-- The first half of a batch block's mask words. -/
theorem blk5 (t : Fin cfg0.N) (r : Fin 300) (x : Fin 8) (l : Fin 128) (b : Fin 16) (hb : b.val = t.val / 64 * 8 + x.val) :
    iblk (F := Ideal) m c 5 t (ix3 r x l) = m ((c : Thread nD τ).loc main_arg5) (ix3 b r (⟨l.val, by omega⟩ : Fin 256)) := by
  obtain ⟨e0, e1, e2⟩ := idx5 t
  unfold iblk
  blk_simp
  entry_read
  pointwise
  blk_ext [e0, e1, e2]
/-- The second half of a batch block's mask words. -/
theorem blk6 (t : Fin cfg0.N) (r : Fin 300) (x : Fin 8) (l : Fin 128) (b : Fin 16) (hb : b.val = t.val / 64 * 8 + x.val) :
    iblk (F := Ideal) m c 6 t (ix3 r x l) = m ((c : Thread nD τ).loc main_arg5) (ix3 b r (⟨128 + l.val, by omega⟩ : Fin 256)) := by
  obtain ⟨e0, e1, e2⟩ := idx6 t
  unfold iblk
  blk_simp
  entry_read
  pointwise
  blk_ext [e0, e1, e2]

/-! ## The step -/

/-- The mask table's codes of batch `b`. -/
def codes (A5 : S16x300x256.Idx → BitVec 32) (b : Fin 16) (y : S320x8192.Idx) : EReal :=
  codeAt (maskWords (fun x => A5 (ix3 b (x 0) (⟨(x 2).val, (x 2).isLt.trans (by decide)⟩ : Fin 256))) (fun x => A5 (ix3 b (x 0) (⟨128 + (x 2).val, Nat.add_lt_add_left (x 2).isLt 128⟩ : Fin 256)))) (y 0).val (y 1).val

/-- What the three lasting buffers hold before step `n`: within a batch the mask table is the batch's; after the first step the
    second half of the left table is the diagonal; and the heads done hold their results. -/
def Inv (A0 : S16x300x8x32.Idx → EReal) (A1 : S16x8192x8x32.Idx → EReal) (A2 : S16x8.Idx → EReal) (A3 : S16x8192x8x32.Idx → EReal) (A4 : S16x8.Idx → EReal)
    (A5 : S16x300x256.Idx → BitVec 32) (n : ℕ) (M : S320x8192.Idx → EReal) (L : S304x256.Idx → EReal) (O : S8x304x32.Idx → EReal) : Prop :=
  (n % 8 ≠ 0 → ∀ b : Fin 16, b.val = n / 8 → ∀ y, M y = codes A5 b y)
  ∧ (n ≠ 0 → ∀ (r : Fin 304) (p : Fin 128), L (ix2 r (⟨128 + p.val, by omega⟩ : Fin 256)) = diagAt r.val p.val)
  ∧ (∀ b : Fin 16, b.val = n / 8 → ∀ h : Fin 8, h.val < n % 8 → ∀ (r : Fin 300) (p : Fin 32),
      O (ix3 h (⟨r.val, by omega⟩ : Fin 304) p) = Row.spec A0 A1 A2 A3 A4 A5 b h r p)

/-- The output block's entry of batch `b`. -/
def blockOut (A0 : S16x300x8x32.Idx → EReal) (A1 : S16x8192x8x32.Idx → EReal) (A2 : S16x8.Idx → EReal) (A3 : S16x8192x8x32.Idx → EReal) (A4 : S16x8.Idx → EReal)
    (A5 : S16x300x256.Idx → BitVec 32) (b : Fin 16) (r : Fin 300) (q : Fin 256) : EReal :=
  Row.spec A0 A1 A2 A3 A4 A5 b ⟨q.val / 32, by omega⟩ r ⟨q.val % 32, by omega⟩

/-- One step keeps the invariant; the last step of a batch leaves the batch's whole output block. -/
theorem step (A0 : S16x300x8x32.Idx → EReal) (A1 : S16x8192x8x32.Idx → EReal) (A2 : S16x8.Idx → EReal) (A3 : S16x8192x8x32.Idx → EReal) (A4 : S16x8.Idx → EReal)
    (A5 : S16x300x256.Idx → BitVec 32) (hA0 : ∀ y, ∃ x : ℝ, A0 y = (x : EReal)) (hA2 : ∀ y, ∃ c : ℝ, 0 ≤ c ∧ A2 y = (c : EReal))
    (i : grid0.Coords) (n : ℕ) (b : Fin 16) (h : Fin 8) (hb : b.val = (i 0).val) (hh : h.val = (i 1).val) (hn : n = 8 * b.val + h.val)
    (x2 x3 : S16x8.Idx → EReal) (x4 : S1x32x300.Idx → EReal) (K W : S1x32x8192.Idx → EReal) (lo hi : S300x8x128.Idx → BitVec 32)
    (h2 : ∀ b h, x2 (ix2 b h) = A2 (ix2 b h)) (h3 : ∀ b h, x3 (ix2 b h) = A4 (ix2 b h))
    (h4 : ∀ d r, x4 (ix3 (0 : Fin 1) d r) = A0 (ix4 b r h d)) (hK : ∀ d s, K (ix3 (0 : Fin 1) d s) = A1 (ix4 b s h d)) (hW : ∀ d s, W (ix3 (0 : Fin 1) d s) = A3 (ix4 b s h d))
    (hlo : ∀ (r : Fin 300) (l : Fin 128), lo (ix3 r (⟨(i 0).val % 8, by omega⟩ : Fin 8) l) = A5 (ix3 b r (⟨l.val, by omega⟩ : Fin 256)))
    (hhi : ∀ (r : Fin 300) (l : Fin 128), hi (ix3 r (⟨(i 0).val % 8, by omega⟩ : Fin 8) l) = A5 (ix3 b r (⟨128 + l.val, by omega⟩ : Fin 256)))
    (M0 : S320x8192.Idx → EReal) (L0 : S304x256.Idx → EReal) (O0 : S8x304x32.Idx → EReal) (Y0 : S1x300x256.Idx → EReal)
    (M : S320x8192.Idx → EReal) (L' : S304x256.Idx → EReal) (O : S8x304x32.Idx → EReal) (Y : S1x300x256.Idx → EReal)
    (hI : Inv A0 A1 A2 A3 A4 A5 n M0 L0 O0)
    (hR : RootPost i x2 x3 x4 K W lo hi M0 L0 O0 Y0 M L' O Y) :
    Inv A0 A1 A2 A3 A4 A5 (n + 1) M L' O ∧ (n % 8 = 7 → ∀ (r : Fin 300) (q : Fin 256), Y (ix3 (0 : Fin 1) r q) = blockOut A0 A1 A2 A3 A4 A5 b r q) := by
  obtain ⟨hIM, hIL, hIO⟩ := hI
  have hb' := b.isLt; have hh' := h.isLt
  have e0 : i 0 = b := Fin.ext hb.symm
  have e1 : i 1 = h := Fin.ext hh.symm
  have rlo : rowOf lo ⟨(i 0).val % 8, by omega⟩ = fun x => A5 (ix3 b (x 0) (⟨(x 2).val, (x 2).isLt.trans (by decide)⟩ : Fin 256)) := funext fun x => hlo (x 0) (x 2)
  have rhi : rowOf hi ⟨(i 0).val % 8, by omega⟩ = fun x => A5 (ix3 b (x 0) (⟨128 + (x 2).val, Nat.add_lt_add_left (x 2).isLt 128⟩ : Fin 256)) := funext fun x => hhi (x 0) (x 2)
  have hwords : ∀ r, words lo hi r ⟨(i 0).val % 8, by omega⟩ = fun j => A5 (ix3 b r j) := fun r => by
    funext j
    unfold words
    split_ifs with c
    · exact hlo r _
    · exact (hhi r _).trans (congrArg (fun k : Fin 256 => A5 (ix3 b r k)) (Fin.ext (by show 128 + (j.val - 128) = j.val; omega)))
  have hR' := hR
  obtain ⟨⟨hm0, hm1⟩, L, E, mx, sm, P, ⟨_, hd0, hd1⟩, ⟨hns, hsh, _⟩, _, hO, hY, _⟩ := hR'
  have hM : ∀ y, M y = codes A5 b y := fun y => by
    by_cases c : (i 1).val = 0
    · have := hm0 c y
      rw [rlo, rhi] at this
      exact this
    · rw [hm1 c]
      exact hIM (by omega) b (by omega) y
  have hDL : ∀ (r : Fin 304) (p : Fin 128), L (ix2 r (⟨128 + p.val, by omega⟩ : Fin 256)) = diagAt r.val p.val := fun r p => by
    by_cases c : (i 1).val = 0 ∧ (i 0).val = 0
    · exact hd0 c r p
    · exact (hd1 c r p).trans (hIL (by omega) r p)
  have hD : ∀ (r : Fin 304) (p : Fin 128), L' (ix2 r (⟨128 + p.val, by omega⟩ : Fin 256)) = diagAt r.val p.val := fun r p => by
    by_cases hs : shifts (scoreN K M L)
    · exact ((hsh hs _).trans (if_neg (by show ¬ 128 + p.val = 96; omega))).trans (hDL r p)
    · rw [hns hs]; exact hDL r p
  have hhead := head_row i x2 x3 x4 K W lo hi M0 L0 O0 Y0 M L' O Y hR
    (fun d r => by rw [h4]; exact hA0 _) (by rw [e0, e1, h2]; exact hA2 _) (fun y => by rw [rlo, rhi]; exact hM y) hD h hh
  have hnew : ∀ (r : Fin 300) (p : Fin 32), O (ix3 h (⟨r.val, by omega⟩ : Fin 304) p) = Row.spec A0 A1 A2 A3 A4 A5 b h r p := fun r p => by
    rw [hhead r p, hwords r]
    unfold Row.spec
    rw [show x2 (ix2 (i 0) (i 1)) = A2 (ix2 b h) by rw [e0, e1, h2], show x3 (ix2 (i 0) (i 1)) = A4 (ix2 b h) by rw [e0, e1, h3]]
    rw [show (fun d => x4 (ix3 (0 : Fin 1) d r)) = fun d => A0 (ix4 b r h d) from funext fun d => h4 d r,
      show (fun s d => K (ix3 (0 : Fin 1) d s)) = fun s d => A1 (ix4 b s h d) from funext fun s => funext fun d => hK d s,
      show (fun s => W (ix3 (0 : Fin 1) p s)) = fun s => A3 (ix4 b s h p) from funext fun s => hW p s]
  have hall : ∀ g : Fin 8, g.val ≤ h.val → ∀ (r : Fin 300) (p : Fin 32), O (ix3 g (⟨r.val, by omega⟩ : Fin 304) p) = Row.spec A0 A1 A2 A3 A4 A5 b g r p := fun g hg r p => by
    by_cases c : g = h
    · subst c; exact hnew r p
    · have hlt : g.val < h.val := Nat.lt_of_le_of_ne hg (fun e => c (Fin.ext e))
      refine (hO _).trans ((if_neg ?_).trans (hIO b (by omega) g (by omega) r p))
      show ¬ g.val = (i 1).val
      omega
  refine ⟨⟨fun c b' hb'' y => ?_, fun _ => hD, fun b' hb'' g hg r p => ?_⟩, fun c r q => ?_⟩
  · have : b' = b := Fin.ext (by omega)
    rw [this]; exact hM y
  · have : b' = b := Fin.ext (by omega)
    rw [this]; exact hall g (by omega) r p
  · rw [hY (by omega)]
    exact hall ⟨q.val / 32, by omega⟩ (by show q.val / 32 ≤ h.val; omega) r ⟨q.val % 32, by omega⟩

end Cert.KernelIdeal.Val
-- ==== Proof.KernelIdeal.Launch.lean ====
/-
  The launch of `KernelIdeal` over the reals: from a memory of finite queries and finite nonnegative key scales, the array the call
  returns ends holding the attention's result, entry by entry, and the six arguments end as they began.
-/
module

public import proofs.«01_k».proof.Proof.KernelIdeal.Step
public import proofs.«01_k».proof.Proof.KernelIdeal.Body
public import Idealize.ShloMosaic.Lib.Pipeline.DatRel
public import Idealize.ShloMosaic.Lib.Pipeline.ArrRel

@[expose] public section

set_option maxRecDepth 65536

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

local notation "𝕄" => MT nD τ sig Unit (Elt Ideal) ℕ (UR sig nD τ) ℕ

variable (m : (ℓ : Loc nD τ sig) → Buf (Elt Ideal) ℓ) (ρ : Dev nD → PrngReg)

/-- The invariant, of the arguments a memory holds. -/
def InvAt (c : Dev nD) (n : ℕ) (M : S320x8192.Idx → EReal) (L : S304x256.Idx → EReal) (O : S8x304x32.Idx → EReal) : Prop :=
  Inv (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) n M L O

/-- The result of the arguments a memory holds. -/
def resultAt (c : Dev nD) (b : Fin 16) (r : Fin 300) (q : Fin 256) : EReal :=
  blockOut (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) b r q

/-- What the body keeps between steps: the nine scratch buffers, of which three hold what the invariant says, and the generator's register. -/
def PhiS (c : Dev nD) (n : ℕ) : sProp 𝕄 :=
  iprop(∃ M : S320x8192.Idx → Elt Ideal .fp8e4m3, ∃ L : S304x256.Idx → Elt Ideal .bf16, ∃ O : S8x304x32.Idx → Elt Ideal .f32,
    ⌜InvAt m c n M L O⌝
    ∗ (∃ d, owns (c : Thread nD τ) (.whole cc0_scratch0) fullShare d) ∗ (∃ d, owns (c : Thread nD τ) (.whole cc0_scratch1) fullShare d)
    ∗ owns (c : Thread nD τ) (.whole cc0_scratch2) fullShare M ∗ owns (c : Thread nD τ) (.whole cc0_scratch3) fullShare L
    ∗ (∃ d, owns (c : Thread nD τ) (.whole cc0_scratch4) fullShare d) ∗ (∃ d, owns (c : Thread nD τ) (.whole cc0_scratch5) fullShare d)
    ∗ (∃ d, owns (c : Thread nD τ) (.whole cc0_scratch6) fullShare d) ∗ (∃ d, owns (c : Thread nD τ) (.whole cc0_scratch7) fullShare d)
    ∗ owns (c : Thread nD τ) (.whole cc0_scratch8) fullShare O ∗ (∃ r, prngReg c r))

/-- The launch's data: every input window holds its block; of the output window the exact data say nothing. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => (0 : EReal)
  Φ n := PhiS m c n.val
  q w := Pipeline.shareOf spec0 w
  owed _ := 0

/-- The output window is the one held to a relation. -/
def marked (w : Fin cfg0.W) : Bool := decide (w = 7)

/-- The last step of a batch leaves the batch's results in the output window. -/
def Left (c : Dev nD) (w : Fin cfg0.W) (t : Fin cfg0.N) (X : (cfg0.win w).block.Idx → Elt Ideal (cfg0.win w).elt) : Prop :=
  match w with
  | ⟨7, _⟩ => t.val % 8 = 7 → ∀ b : Fin 16, b.val = t.val / 8 → ∀ (r : Fin 300) (q : Fin 256), (X : S1x300x256.Idx → EReal) (ix3 (0 : Fin 1) r q) = resultAt m c b r q
  | _ => True

def rdat (c : Dev nD) : RDat τ (Elt Ideal) Unit ℕ (UR sig nD τ) ℕ cfg0 c := (dat m c).toRRel marked (Left m c)

theorem A_eq (c : Dev nD) (w : Fin cfg0.W) : (rdat m c).A w = V m c (Pipeline.arrRef spec0 w) := by dsimp only [rdat, Dat.toRRel_A, dat]

theorem find0 (c : Dev nD) (t : Fin cfg0.N) (X) (h : (rdat m c).Finds 0 t X) : X = iblk m c 0 t := by
  obtain ⟨d, rfl⟩ := (dat m c).toRRel_finds (w := 0) rfl t X h
  exact before0_0_of m (dat m c) rfl (fun _ => rfl) t d
theorem find1 (c : Dev nD) (t : Fin cfg0.N) (X) (h : (rdat m c).Finds 1 t X) : X = iblk m c 1 t := by
  obtain ⟨d, rfl⟩ := (dat m c).toRRel_finds (w := 1) rfl t X h
  exact before0_1_of m (dat m c) rfl (fun _ => rfl) t d
theorem find2 (c : Dev nD) (t : Fin cfg0.N) (X) (h : (rdat m c).Finds 2 t X) : X = iblk m c 2 t := by
  obtain ⟨d, rfl⟩ := (dat m c).toRRel_finds (w := 2) rfl t X h
  exact before0_2_of m (dat m c) rfl (fun _ => rfl) t d
theorem find3 (c : Dev nD) (t : Fin cfg0.N) (X) (h : (rdat m c).Finds 3 t X) : X = iblk m c 3 t := by
  obtain ⟨d, rfl⟩ := (dat m c).toRRel_finds (w := 3) rfl t X h
  exact before0_3_of m (dat m c) rfl (fun _ => rfl) t d
theorem find4 (c : Dev nD) (t : Fin cfg0.N) (X) (h : (rdat m c).Finds 4 t X) : X = iblk m c 4 t := by
  obtain ⟨d, rfl⟩ := (dat m c).toRRel_finds (w := 4) rfl t X h
  exact before0_4_of m (dat m c) rfl (fun _ => rfl) t d
theorem find5 (c : Dev nD) (t : Fin cfg0.N) (X) (h : (rdat m c).Finds 5 t X) : X = iblk m c 5 t := by
  obtain ⟨d, rfl⟩ := (dat m c).toRRel_finds (w := 5) rfl t X h
  exact before0_5_of m (dat m c) rfl (fun _ => rfl) t d
theorem find6 (c : Dev nD) (t : Fin cfg0.N) (X) (h : (rdat m c).Finds 6 t X) : X = iblk m c 6 t := by
  obtain ⟨d, rfl⟩ := (dat m c).toRRel_finds (w := 6) rfl t X h
  exact before0_6_of m (dat m c) rfl (fun _ => rfl) t d

/-- What the body leaves in a window that is not marked is the window's block. -/
theorem leave (c : Dev nD) (t : Fin cfg0.N) (w : Fin cfg0.W) (hw : marked w = false) (hi : cfg0.idle w (cfg0.grid.coords t) = false) (hl : cfg0.loose w = false) (Y X)
    (h : X = (dat m c).after w t) : (rdat m c).after w t Y X := by
  rw [rdat, (dat m c).toRRel_after_of_eq_false hw]
  show (dat m c).Leaves w t X
  unfold Dat.Leaves
  rw [hi, hl]
  exact h

theorem leave7 (c : Dev nD) (t : Fin cfg0.N) (Y X) (h : Left m c 7 t X) : (rdat m c).after 7 t Y X := by
  rw [rdat, (dat m c).toRRel_after_of_eq_true (w := 7) rfl]
  exact h

/-- What the launch needs of the arguments. -/
def Fine (c : Dev nD) : Prop :=
  (∀ y, ∃ x : ℝ, (m ((c : Thread nD τ).loc main_arg0) : S16x300x8x32.Idx → EReal) y = (x : EReal))
  ∧ (∀ y, ∃ x : ℝ, 0 ≤ x ∧ (m ((c : Thread nD τ).loc main_arg2) : S16x8.Idx → EReal) y = (x : EReal))

/-- One step, of the blocks the windows hold. -/
theorem step_at (c : Dev nD) (hm : Fine m c) (t : Fin cfg0.N) (M0 L0 O0 Y0 M L O Y) (hI : InvAt m c t.val M0 L0 O0)
    (hR : RootPost (grid0.coords t) (iblk m c 0 t) (iblk m c 1 t) (iblk m c 2 t) (iblk m c 3 t) (iblk m c 4 t) (iblk m c 5 t) (iblk m c 6 t) M0 L0 O0 Y0 M L O Y) :
    InvAt m c (t.val + 1) M L O ∧ Left m c 7 t Y := by
  have ht : t.val < 128 := lt_of_lt_of_eq t.isLt N_0
  obtain ⟨p0, p1⟩ := pt t
  have key := step _ _ _ _ _ _ hm.1 hm.2 (grid0.coords t) t.val ⟨t.val / 8, by omega⟩ ⟨t.val % 8, by omega⟩ p0.symm p1.symm (by show t.val = 8 * (t.val / 8) + t.val % 8; omega)
    (iblk m c 0 t) (iblk m c 1 t) (iblk m c 2 t) (iblk m c 3 t) (iblk m c 4 t) (iblk m c 5 t) (iblk m c 6 t)
    (fun b h => blk0 m c t b h) (fun b h => blk1 m c t b h) (fun d r => blk2 m c t d r _ _ rfl rfl) (fun d s => blk3 m c t d s _ _ rfl rfl) (fun d s => blk4 m c t d s _ _ rfl rfl)
    (fun r l => blk5 m c t r _ l _ (by show t.val / 8 = t.val / 64 * 8 + (grid0.coords t 0).val % 8; rw [p0]; omega))
    (fun r l => blk6 m c t r _ l _ (by show t.val / 8 = t.val / 64 * 8 + (grid0.coords t 0).val % 8; rw [p0]; omega))
    M0 L0 O0 Y0 M L O Y hI hR
  refine ⟨key.1, fun h7 b hb r q => (key.2 h7 r q).trans ?_⟩
  rw [show b = ⟨t.val / 8, by omega⟩ from Fin.ext hb]
  rfl

/-- The body at a grid point. -/
theorem sound_body (c : Dev nD) (hm : Fine m c) (t : Fin cfg0.N) (Y7 : S1x300x256.Idx → Elt Ideal .bf16) :
    iprop((rdat m c).Φ t.castSucc ∗ (rdat m c).owesAt () t.castSucc ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare Y7)
      ⊢ wp frame (wpE (defs₀ (F := Ideal)) Variants.none c none) Set.univ (bodyAt0 t) (fun _ =>
        iprop((rdat m c).Φ t.succ ∗ (rdat m c).owesAt () t.succ ∗ (∃ X, ⌜(rdat m c).after 0 t (iblk m c 0 t) X⌝ ∗ owns (c : Thread nD τ) (win0_0.stage (cfg0.slots t 0)) fullShare X) ∗ (∃ X, ⌜(rdat m c).after 1 t (iblk m c 1 t) X⌝ ∗ owns (c : Thread nD τ) (win0_1.stage (cfg0.slots t 1)) fullShare X) ∗ (∃ X, ⌜(rdat m c).after 2 t (iblk m c 2 t) X⌝ ∗ owns (c : Thread nD τ) (win0_2.stage (cfg0.slots t 2)) fullShare X) ∗ (∃ X, ⌜(rdat m c).after 3 t (iblk m c 3 t) X⌝ ∗ owns (c : Thread nD τ) (win0_3.stage (cfg0.slots t 3)) fullShare X) ∗ (∃ X, ⌜(rdat m c).after 4 t (iblk m c 4 t) X⌝ ∗ owns (c : Thread nD τ) (win0_4.stage (cfg0.slots t 4)) fullShare X) ∗ (∃ X, ⌜(rdat m c).after 5 t (iblk m c 5 t) X⌝ ∗ owns (c : Thread nD τ) (win0_5.stage (cfg0.slots t 5)) fullShare X) ∗ (∃ X, ⌜(rdat m c).after 6 t (iblk m c 6 t) X⌝ ∗ owns (c : Thread nD τ) (win0_6.stage (cfg0.slots t 6)) fullShare X) ∗ (∃ X, ⌜(rdat m c).after 7 t Y7 X⌝ ∗ owns (c : Thread nD τ) (win0_7.stage (cfg0.slots t 7)) fullShare X))) := by
  unfold bodyAt0
  rw [show (rdat m c).owesAt () t.succ = (rdat m c).owesAt () t.castSucc from rfl,
    show (rdat m c).Φ t.succ = PhiS m c (t.val + 1) from rfl,
    show (rdat m c).Φ t.castSucc = PhiS m c t.val from Dat.Φ_castSucc (fun n _ => PhiS m c n) t]
  unfold PhiS
  iintro ⟨⟨%M0, %L0, %O0, %hI, S0, S1, S2, S3, S4, S5, S6, S7, S8, Hg⟩, HO, H0, H1, H2, H3, H4, H5, H6, H7⟩
  iapply (root_run c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) M0 L0 O0 Y7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro %M %L %O %X7 ⟨H0, H1, H2, H3, H4, H5, H6, H7, S0, S1, S2, S3, S4, S5, S6, S7, S8, %hR⟩
  have hstep := step_at m c hm t M0 L0 O0 Y7 M L O X7 hI hR
  isplitl [S0 S1 S2 S3 S4 S5 S6 S7 S8 Hg]
  · iexists M; iexists L; iexists O
    isplitr; · ipureintro; exact hstep.1
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact Hg
  isplitl [HO]; · iexact HO
  isplitl [H0]
  · iexists (iblk m c 0 t); isplitr; swap; · iexact H0
    ipureintro; exact leave m c t 0 rfl rfl rfl _ _ rfl
  isplitl [H1]
  · iexists (iblk m c 1 t); isplitr; swap; · iexact H1
    ipureintro; exact leave m c t 1 rfl rfl rfl _ _ rfl
  isplitl [H2]
  · iexists (iblk m c 2 t); isplitr; swap; · iexact H2
    ipureintro; exact leave m c t 2 rfl rfl rfl _ _ rfl
  isplitl [H3]
  · iexists (iblk m c 3 t); isplitr; swap; · iexact H3
    ipureintro; exact leave m c t 3 rfl rfl rfl _ _ rfl
  isplitl [H4]
  · iexists (iblk m c 4 t); isplitr; swap; · iexact H4
    ipureintro; exact leave m c t 4 rfl rfl rfl _ _ rfl
  isplitl [H5]
  · iexists (iblk m c 5 t); isplitr; swap; · iexact H5
    ipureintro; exact leave m c t 5 rfl rfl rfl _ _ rfl
  isplitl [H6]
  · iexists (iblk m c 6 t); isplitr; swap; · iexact H6
    ipureintro; exact leave m c t 6 rfl rfl rfl _ _ rfl
  iexists X7; isplitr; swap; · iexact H7
  ipureintro; exact leave7 m c t _ _ hstep.2

/-- The library's body obligation, at every grid point. -/
theorem body_obligation (c : Dev nD) (hm : Fine m c) :
    (rdat m c).BodyObligation (defs₀ (F := Ideal)) Variants.none () Set.univ := fun t Y hY => by
  rw [bigSep_W0, bigSep_W0, Hand.defs₀_row]
  rw [find0 m c t _ (hY 0), find1 m c t _ (hY 1), find2 m c t _ (hY 2), find3 m c t _ (hY 3), find4 m c t _ (hY 4), find5 m c t _ (hY 5), find6 m c t _ (hY 6)]
  exact sound_body m c hm t (Y 7)

/-- The buffers as the region is entered meet the invariant before the first step. -/
theorem enter (c : Dev nD) : (Pipeline.ΦA spec0 c : sProp 𝕄) ⊢ PhiS m c 0 := by
  unfold Pipeline.ΦA PhiS
  rw [scopedRest0_eq]
  simp only [owns_whole]
  iintro ⟨⟨S0, S1, ⟨%M, S2⟩, ⟨%L, S3⟩, S4, S5, S6, S7, ⟨%O, S8⟩⟩, Hg⟩
  iexists M; iexists L; iexists O
  isplitr
  · ipureintro
    exact ⟨fun h => absurd rfl h, fun h => absurd rfl h, fun _ _ g hg => absurd hg (Nat.not_lt_zero _)⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact Hg

/-- The buffers after a step are the region's again. -/
theorem leaveAll (c : Dev nD) (n : ℕ) : PhiS m c n ⊢ (Pipeline.ΦA spec0 c : sProp 𝕄) := by
  unfold Pipeline.ΦA PhiS
  rw [scopedRest0_eq]
  simp only [owns_whole]
  iintro ⟨%M, %L, %O, -, S0, S1, S2, S3, S4, S5, S6, S7, S8, Hg⟩
  isplitr [Hg]; swap; · iexact Hg
  isplitl [S0]; · iexact S0
  isplitl [S1]; · iexact S1
  isplitl [S2]; · iexists M; iexact S2
  isplitl [S3]; · iexists L; iexact S3
  isplitl [S4]; · iexact S4
  isplitl [S5]; · iexact S5
  isplitl [S6]; · iexact S6
  isplitl [S7]; · iexact S7
  iexists O; iexact S8

set_option backward.isDefEq.respectTransparency.types false in
/-- Every weakly fair execution ends, each array at what the launch's data allow. -/
theorem run_main (hm : ∀ c, Fine m c) :
    θ_run defs (onTc (τ := τ) (main (F := Ideal))) (s₀ m ρ)
      (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (fun c => body_obligation m c (hm c)) (fun _ _ _ => rfl) (fun _ _ => rfl) (V m) (hmain m Variants.none) (A_eq m)
    (fun c => enter m c) (fun c => leaveAll m c _)

theorem result_congr (c : Dev nD) {b b' : Fin 16} {r r' : Fin 300} {q q' : Fin 256} (hb : b.val = b'.val) (hr : r.val = r'.val) (hq : q.val = q'.val) :
    resultAt m c b r q = resultAt m c b' r' q' := by
  obtain rfl := Fin.ext hb; obtain rfl := Fin.ext hr; obtain rfl := Fin.ext hq; rfl

/-- The array the call returns. -/
theorem final_out {r : PUnit × MemSt nD τ sig (Elt Ideal)} (h : Pipeline.RDat.FramePost (cfgs 0) (rdat m) (V m) r) (c : Dev nD) :
    r.2.mem ((c : Thread nD τ).loc main_v7) = fun y : S16x300x256.Idx => resultAt m c (y 0) (y 1) (y 2) := by
  obtain ⟨after, hL, hA⟩ := h.exists_exact c
  refine (hA 7).trans ?_
  refine ((rdat m c).withAfter after).arrAt_eq_of_covers 7 (fun y : S16x300x256.Idx => resultAt m c (y 0) (y 1) (y 2)) (by decide +kernel) fun t hf y => ?_
  have ht : t.val < 128 := lt_of_lt_of_eq t.isLt N_0
  have h7 : t.val % 8 = 7 := (flush0_7 t).mp hf
  have hX : Left m c 7 t (after 7 t) := (dat m c).toRRel_leaves (w := 7) rfl (hL 7 t hf)
  obtain ⟨e0, e1, e2⟩ := idx7 t
  have hX := hX h7 ⟨t.val / 8, by omega⟩ rfl
  blk_simp
  have y0 : ((y : S1x300x256.Idx) 0).val < 1 := ((y : S1x300x256.Idx) 0).isLt
  have ey : (y : S1x300x256.Idx) = ix3 (0 : Fin 1) ((y : S1x300x256.Idx) 1) ((y : S1x300x256.Idx) 2) := by
    funext a; fin_cases a
    · exact Fin.ext (by show ((y : S1x300x256.Idx) 0).val = 0; omega)
    · rfl
    · rfl
  show (after 7 t : S1x300x256.Idx → EReal) (y : S1x300x256.Idx) = _
  refine (congrArg (after 7 t : S1x300x256.Idx → EReal) ey).trans ((hX _ _).trans (result_congr m c ?_ ?_ ?_))
  · show t.val / 8 = win0_7.index t 0 * 1 + 1 * ((y : S1x300x256.Idx) 0).val
    rw [e0]; omega
  · show ((y : S1x300x256.Idx) 1).val = win0_7.index t 1 * 300 + 1 * ((y : S1x300x256.Idx) 1).val
    rw [e1]; omega
  · show ((y : S1x300x256.Idx) 2).val = win0_7.index t 2 * 256 + 1 * ((y : S1x300x256.Idx) 2).val
    rw [e2]; omega

/-- After the run each of @main's six arguments holds what it held at launch. -/
theorem final_args {r : PUnit × MemSt nD τ sig (Elt Ideal)} (h : Pipeline.RDat.FramePost (cfgs 0) (rdat m) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   (h.arr_in c 0 rfl).trans (V_main_arg2 m c),
   ((h c).2 main_arg3 (Pipeline.mem_restRefs_of main_arg3 (by decide) (by decide))).trans (V_main_arg3 m c),
   (h.arr_in c 1 rfl).trans (V_main_arg4 m c),
   ((h c).2 main_arg5 (Pipeline.mem_restRefs_of main_arg5 (by decide) (by decide))).trans (V_main_arg5 m c)⟩

end Cert.KernelIdeal.Val

end
-- ==== Proof.ReferenceIdeal.Read.lean ====
/-
  The reference, read entry by entry over the extended reals.
-/
module

public import proofs.«01_k».proof.Proof.Gen.ReferenceIdeal.Run
public import Idealize.ShloMosaic.Lib.Pipeline.ValueKit
public import proofs.«01_k».proof.Proof.Row

@[expose] public section

set_option maxRecDepth 65536

noncomputable section

namespace Cert.ReferenceIdeal.Read

open Cert.ReferenceIdeal Cert.ReferenceIdeal.Gen Cert.ReferenceIdeal.Value
open Idealize.ShloMosaic Idealize.ShloMosaic.TcCoe Idealize.ShloMosaic.Tactic
open Idealize.SL Idealize.SL.Sem

variable (V0 : Valuation τ sig (Elt Ideal))

/-! ## The reductions -/

theorem drop3 (i : S16x300x256.Idx) : reducesTo_S16x300x256_S16x300_d2.drop i = ix2 (i 0) (i 1) := by
  funext a; fin_cases a <;> rfl

theorem bot_bits : Ideal.ofBits .f32 4286578688#32 = (⊥ : EReal) := by
  simp [Ideal.ofBits, Ideal.ieee]

theorem andi_one (x y : BitVec 1) : IntOp.andi x y = 1#1 ↔ x = 1#1 ∧ y = 1#1 := by
  revert x y; decide

/-- The fold of a conjunction. -/
theorem fold_and {ι : Type} [DecidableEq ι] [Std.Commutative (IntOp.andi (w := 1))] [Std.Associative (IntOp.andi (w := 1))] (S : Finset ι) (f : ι → BitVec 1) :
    Finset.fold IntOp.andi (1#1) f S = 1#1 ↔ ∀ i ∈ S, f i = 1#1 := by
  induction S using Finset.induction_on with
  | empty => simp
  | insert a t ha ih => rw [Finset.fold_insert ha, andi_one, ih]; simp

theorem eq_flag (x : BitVec 32) : IntOp.cmpi .eq x 0#32 = 1#1 ↔ x = 0#32 := by
  unfold IntOp.cmpi
  by_cases h : x = 0#32
  · subst h; simp
  · have hb : (x == 0#32) = false := by simpa using h
    simp [h, hb]

/-- Whether a query's words are all zero. -/
theorem void_flag (f : S16x300x256.Idx → BitVec 32) (b : Fin 16) (r : Fin 300) (S : Finset S16x300x256.Idx)
    [Std.Commutative (IntOp.andi (w := 1))] [Std.Associative (IntOp.andi (w := 1))]
    (hS : ∀ i, i ∈ S ↔ reducesTo_S16x300x256_S16x300_d2.drop i = ix2 b r) :
    Finset.fold IntOp.andi (1#1) (fun x => IntOp.cmpi .eq (f x) 0#32) S = 1#1 ↔ ∀ j : Fin 256, f (ix3 b r j) = 0#32 := by
  rw [fold_and]
  constructor
  · intro H j
    exact (eq_flag _).mp (H _ ((hS _).mpr (drop3 _)))
  · intro H i hi
    have e := ((drop3 i).symm.trans ((hS i).mp hi))
    have e0 : i 0 = b := congrFun e 0
    have e1 : i 1 = r := congrFun e 1
    have ei : i = ix3 b r (i 2) := by
      funext a; fin_cases a
      · exact e0
      · exact e1
      · rfl
    rw [ei]
    exact (eq_flag _).mpr (H _)

/-- A query's bit at a key. -/
theorem bit_flag (w : BitVec 32) (k : ℕ) (hk : k < 32) :
    IntOp.cmpi .ne (IntOp.andi (IntOp.shrui ArithUnit.host w (BitVec.ofNat 32 k)) 1#32) 0#32 = 1#1 ↔ w.getLsbD k = true := by
  have e : IntOp.shrui ArithUnit.host w (BitVec.ofNat 32 k) = w >>> k := by
    unfold IntOp.shrui
    have : (BitVec.ofNat 32 k).toNat = k := by rw [BitVec.toNat_ofNat]; omega
    rw [if_pos (by rw [this]; exact hk), BitVec.ushiftRight_eq', this]
  rw [e]
  have e2 : IntOp.andi (w >>> k) 1#32 = if w.getLsbD k then 1#32 else 0#32 := by
    apply BitVec.eq_of_getLsbD_eq
    intro i hi
    show ((w >>> k) &&& 1#32).getLsbD i = _
    rw [BitVec.getLsbD_and, BitVec.getLsbD_ushiftRight]
    by_cases c : i = 0
    · subst c; cases hw : w.getLsbD k <;> simp [hw]
    · have : (1#32).getLsbD i = false := by rw [BitVec.getLsbD_one]; simp [c]
      rw [this]; cases hw : w.getLsbD k <;> simp [BitVec.getLsbD_one, c]
  rw [e2]
  cases hw : w.getLsbD k <;> simp [IntOp.cmpi]

open Classical in
/-- The selection of a score: by the bit, or by the words being all zero. -/
theorem select_allowed (w : Fin 256 → BitVec 32) (s : Fin 8192) (z : BitVec 1) (hz : z = 1#1 ↔ ∀ j, w j = 0#32) (x y : EReal) :
    Scalar.select (IntOp.ori (IntOp.cmpi .ne (IntOp.andi (IntOp.shrui ArithUnit.host (w ⟨s.val / 32, by omega⟩) (BitVec.ofNat 32 (s.val % 32))) 1#32) 0#32) z) x y
      = if Row.allowed w s then x else y := by
  have hb := bit_flag (w ⟨s.val / 32, by omega⟩) (s.val % 32) (Nat.mod_lt _ (by decide))
  have hor : ∀ a b : BitVec 1, IntOp.ori a b = 1#1 ↔ a = 1#1 ∨ b = 1#1 := by decide
  show (if IntOp.ori _ z = 1#1 then x else y) = _
  refine if_congr ?_ rfl rfl
  rw [hor, hb, hz]
  rfl

/-! ## The reference's rows -/

/-- The row of scores of one query and head. -/
def rowOf (b : Fin 16) (h : Fin 8) (r : Fin 300) : Fin 8192 → EReal :=
  Row.scoreRow (fun d => (V0 (Proc.devRef .tc main_arg0) : S16x300x8x32.Idx → EReal) (ix4 b r h d)) (fun s d => (V0 (Proc.devRef .tc main_v0_0) : S16x8192x8x32.Idx → EReal) (ix4 b s h d))
    ((V0 (Proc.devRef .tc main_arg2) : S16x8.Idx → EReal) (ix2 b h)) (fun j => (V0 (Proc.devRef .tc main_arg5) : S16x300x256.Idx → BitVec 32) (ix3 b r j))

open Classical in
theorem v28_at (b : Fin 16) (h : Fin 8) (r : Fin 300) (s : Fin 8192) : (res_main_v28 V0 : S16x8x300x8192.Idx → EReal) (ix4 b h r s) = rowOf V0 b h r s := by
  pointwise [res_main_v28, res_main_v1]
  refine (select_allowed (fun j => (V0 (Proc.devRef .tc main_arg5) : S16x300x256.Idx → BitVec 32) (ix3 b r j)) s _ (void_flag _ b r _ fun i => by simp) _ _).trans ?_
  unfold rowOf Row.scoreRow
  refine if_congr Iff.rfl rfl ?_
  exact bot_bits

/-! ## The composed terms, read entry by entry -/

/-- The exponentials, of a row of scores and a maximum. -/
theorem v35_raw (X : FVec Ideal S16x8x300x8192 .f32) (Z : FVec Ideal S16x8x300 .f32) (b : Fin 16) (h : Fin 8) (r : Fin 300) (s : Fin 8192) : (Host.exp (subf X (broadcastInDim S16x8x300x8192 ![0, 1, 2, 3] bcast_S16x8x300x1_S16x8x300x8192_0_1_2_3 (broadcastInDim S16x8x300x1 ![0, 1, 2] bcast_S16x8x300_S16x8x300x1_0_1_2 (maximumf (broadcastInDim S16x8x300 ![] bcast_S_S16x8x300 (constant S_ .f32 0xFF800000#32)) Z)))) : FVec Ideal S16x8x300x8192 .f32) (ix4 b h r s) = Ideal.exp ((X (ix4 b h r s) : EReal) - Z (ix3 b h r)) := by
  pointwise
  rw [bot_bits, max_eq_right bot_le]

/-- A fold of the maximum over every key is the supremum. -/
theorem fold_univ (f : Fin 8192 → EReal) : Finset.fold max (⊥ : EReal) f Finset.univ = Finset.univ.sup f :=
  le_antisymm ((Finset.fold_max_le _).mpr ⟨bot_le, fun i hi => Finset.le_sup hi⟩) (Finset.sup_le fun s hs => (Finset.le_fold_max _).mpr (.inr ⟨s, hs, le_rfl⟩))

/-- A row's largest entry. -/
theorem v40_raw (X : FVec Ideal S16x8x300x8192 .f32) (b : Fin 16) (h : Fin 8) (r : Fin 300) : (Host.reduce FloatOps.maximumf X (constant S_ .f32 0xFF800000#32) reducesTo_S16x8x300x8192_S16x8x300_d3 h_S_ : FVec Ideal S16x8x300 .f32) (ix3 b h r) = Finset.univ.sup fun s : Fin 8192 => (X (ix4 b h r s) : EReal) := by
  pointwise
  rw [bot_bits, fold_univ]

/-- The quotient by the sum. -/
theorem v39_raw (X : FVec Ideal S16x8x300x8192 .f32) (b : Fin 16) (h : Fin 8) (r : Fin 300) (s : Fin 8192) : (Host.divf X (broadcastInDim S16x8x300x8192 ![0, 1, 2, 3] bcast_S16x8x300x1_S16x8x300x8192_0_1_2_3 (broadcastInDim S16x8x300x1 ![0, 1, 2] bcast_S16x8x300_S16x8x300x1_0_1_2 (Host.reduceAdd X (constant S_ .f32 0x00000000#32) reducesTo_S16x8x300x8192_S16x8x300_d3 h_S_))) : FVec Ideal S16x8x300x8192 .f32) (ix4 b h r s) = Ideal.div (X (ix4 b h r s)) (∑ s : Fin 8192, (X (ix4 b h r s) : EReal)) := by
  pointwise

theorem zero_bits : Ideal.ofBits .f32 0#32 = (0 : EReal) := by
  simp [Ideal.ofBits, Ideal.ieee]

/-- The exponent of a largest probability. -/
theorem v52_raw (X : FVec Ideal S16x8x300 .f32) (b : Fin 16) (h : Fin 8) (r : Fin 300) : (select (cmpf .oeq X (broadcastInDim S16x8x300 ![] bcast_S_S16x8x300 (constant S_ .f32 0x00000000#32))) (broadcastInDim S16x8x300 ![] bcast_S_S16x8x300 (id (constant S_ .f32 0x00000000#32))) (addf (Host.floor (Host.divf (Host.log (mulf X (broadcastInDim S16x8x300 ![] bcast_S_S16x8x300 (constant S_ .f32 0x3B124925#32)))) (broadcastInDim S16x8x300 ![] bcast_S_S16x8x300 (Host.log (constant S_ .f32 0x40000000#32))))) (broadcastInDim S16x8x300 ![] bcast_S_S16x8x300 (constant S_ .f32 0x3F800000#32))) : FVec Ideal S16x8x300 .f32) (ix3 b h r) = (if (X (ix3 b h r) : EReal) = 0 then (0 : EReal) else Ideal.liftRound Int.floor
          (Ideal.div (Ideal.log (X (ix3 b h r) * Row.codeInv)) (Ideal.log Row.two)) + 1 : EReal) := by
  pointwise
  exact if_congr Iff.rfl zero_bits rfl

/-- The result, of the probabilities, the exponents, the values and their scale. -/
theorem v72_raw (P : FVec Ideal S16x8x300x8192 .f32) (X : FVec Ideal S16x8x300 .f32) (W : FVec Ideal S16x8192x8x32 .f32) (A4 : FVec Ideal S16x8 .f32) (b : Fin 16) (r : Fin 300) (q : Fin 256) : (truncf (F := Ideal) .bf16 (shapeCast _ (mulf (transpose S16x300x8x32 [0, 3, 1, 2] (Host.dotGeneral (φ₁ := .f32) (φ₂ := .f32) dot_S16x8192x8x32_S16x8x300x8192_S16x8x32x300_1_3_3_2_02_01 none W (minimumf (broadcastInDim S16x8x300x8192 ![] bcast_S_S16x8x300x8192 (id (constant S_ .f32 0x43E00000#32))) (maximumf (broadcastInDim S16x8x300x8192 ![] bcast_S_S16x8x300x8192 (id (constant S_ .f32 0x00000000#32))) (mulf P (broadcastInDim S16x8x300x8192 ![0, 1, 2, 3] bcast_S16x8x300x1_S16x8x300x8192_0_1_2_3 (broadcastInDim S16x8x300x1 ![0, 1, 2] bcast_S16x8x300_S16x8x300x1_0_1_2 (Host.powf (broadcastInDim S16x8x300 ![] bcast_S_S16x8x300 (constant S_ .f32 0x40000000#32)) (Host.negf X)))))))) transposes_S16x8x32x300_S16x300x8x32_0_3_1_2) (broadcastInDim S16x300x8x32 ![0, 1, 2, 3] bcast_S16x300x8x1_S16x300x8x32_0_1_2_3 (broadcastInDim S16x300x8x1 ![0, 1, 2] bcast_S16x300x8_S16x300x8x1_0_1_2 (mulf (transpose S16x300x8 [0, 2, 1] (Host.powf (broadcastInDim S16x8x300 ![] bcast_S_S16x8x300 (constant S_ .f32 0x40000000#32)) X) transposes_S16x8x300_S16x300x8_0_2_1) (broadcastInDim S16x300x8 ![0, 1, 2] bcast_S16x1x8_S16x300x8_0_1_2 (broadcastInDim S16x1x8 ![0, 2] bcast_S16x8_S16x1x8_0_2 A4)))))) shapeCasts_S16x300x8x32_S16x300x256) bitsLt_bf16_f32 (ix3 b r q)  : EReal) =
    (∑ s : Fin 8192, W (ix4 b s (⟨q.val / 32, by omega⟩ : Fin 8) (⟨q.val % 32, by omega⟩ : Fin 32)) * min Row.codeMax (max 0 (P (ix4 b (⟨q.val / 32, by omega⟩ : Fin 8) r s) * Ideal.pow Row.two (-X (ix3 b (⟨q.val / 32, by omega⟩ : Fin 8) r)))))
      * (Ideal.pow Row.two (X (ix3 b (⟨q.val / 32, by omega⟩ : Fin 8) r)) * A4 (ix2 b (⟨q.val / 32, by omega⟩ : Fin 8))) := by
  pointwise
  show (∑ s : Fin 8192, W (ix4 b s (⟨q.val / 32, by omega⟩ : Fin 8) (⟨q.val % 32, by omega⟩ : Fin 32)) * min Row.codeMax (max (Ideal.ofBits .f32 0#32) (P (ix4 b (⟨q.val / 32, by omega⟩ : Fin 8) r s) * Ideal.pow Row.two (-X (ix3 b (⟨q.val / 32, by omega⟩ : Fin 8) r))))) * (Ideal.pow Row.two (X (ix3 b (⟨q.val / 32, by omega⟩ : Fin 8) r)) * A4 (ix2 b (⟨q.val / 32, by omega⟩ : Fin 8))) = _
  rw [zero_bits]

theorem v35_at (b : Fin 16) (h : Fin 8) (r : Fin 300) (s : Fin 8192) : (res_main_v35 V0 : S16x8x300x8192.Idx → EReal) (ix4 b h r s) = Row.refE (rowOf V0 b h r) s := by
  unfold res_main_v35
  exact (v35_raw (res_main_v28 V0) _ b h r s).trans (congrArg Ideal.exp (congrArg₂ (fun x y : EReal => x - y) (v28_at V0 b h r s)
    ((v40_raw (res_main_v28 V0) b h r).trans (congrArg Finset.univ.sup (funext fun s => v28_at V0 b h r s)))))
theorem v39_at (b : Fin 16) (h : Fin 8) (r : Fin 300) (s : Fin 8192) : (res_main_v39 V0 : S16x8x300x8192.Idx → EReal) (ix4 b h r s) = Row.refP (rowOf V0 b h r) s := by
  unfold res_main_v39
  exact (v39_raw (res_main_v35 V0) b h r s).trans (congrArg₂ Ideal.div (v35_at V0 b h r s) (Finset.sum_congr rfl fun s _ => v35_at V0 b h r s))
theorem v40_at (b : Fin 16) (h : Fin 8) (r : Fin 300) : (res_main_v40 V0 : S16x8x300.Idx → EReal) (ix3 b h r) = Finset.univ.sup (Row.refP (rowOf V0 b h r)) := by
  unfold res_main_v40
  exact (v40_raw (res_main_v39 V0) b h r).trans (congrArg Finset.univ.sup (funext fun s => v39_at V0 b h r s))
theorem v52_at (b : Fin 16) (h : Fin 8) (r : Fin 300) : (res_main_v52 V0 : S16x8x300.Idx → EReal) (ix3 b h r) = Row.refEx (rowOf V0 b h r) := by
  unfold res_main_v52
  refine (v52_raw (res_main_v40 V0) b h r).trans ?_
  unfold Row.refEx
  have e := v40_at V0 b h r
  generalize (res_main_v40 V0 : S16x8x300.Idx → EReal) (ix3 b h r) = x at e ⊢
  rw [e]

/-- The result at one entry is the quantised softmax's product with the values. -/
theorem v72_at (b : Fin 16) (r : Fin 300) (q : Fin 256) : (truncf (F := Ideal) .bf16 (shapeCast _ (mulf (transpose S16x300x8x32 [0, 3, 1, 2] (Host.dotGeneral (φ₁ := .f32) (φ₂ := .f32) dot_S16x8192x8x32_S16x8x300x8192_S16x8x32x300_1_3_3_2_02_01 none (V0 (Proc.devRef .tc main_v0_1)) (minimumf (broadcastInDim S16x8x300x8192 ![] bcast_S_S16x8x300x8192 (id (constant S_ .f32 0x43E00000#32))) (maximumf (broadcastInDim S16x8x300x8192 ![] bcast_S_S16x8x300x8192 (id (constant S_ .f32 0x00000000#32))) (mulf (res_main_v39 V0) (broadcastInDim S16x8x300x8192 ![0, 1, 2, 3] bcast_S16x8x300x1_S16x8x300x8192_0_1_2_3 (broadcastInDim S16x8x300x1 ![0, 1, 2] bcast_S16x8x300_S16x8x300x1_0_1_2 (Host.powf (broadcastInDim S16x8x300 ![] bcast_S_S16x8x300 (constant S_ .f32 0x40000000#32)) (Host.negf (res_main_v52 V0))))))))) transposes_S16x8x32x300_S16x300x8x32_0_3_1_2) (broadcastInDim S16x300x8x32 ![0, 1, 2, 3] bcast_S16x300x8x1_S16x300x8x32_0_1_2_3 (broadcastInDim S16x300x8x1 ![0, 1, 2] bcast_S16x300x8_S16x300x8x1_0_1_2 (mulf (transpose S16x300x8 [0, 2, 1] (Host.powf (broadcastInDim S16x8x300 ![] bcast_S_S16x8x300 (constant S_ .f32 0x40000000#32)) (res_main_v52 V0)) transposes_S16x8x300_S16x300x8_0_2_1) (broadcastInDim S16x300x8 ![0, 1, 2] bcast_S16x1x8_S16x300x8_0_1_2 (broadcastInDim S16x1x8 ![0, 2] bcast_S16x8_S16x1x8_0_2 (V0 (Proc.devRef .tc main_arg4)))))))) shapeCasts_S16x300x8x32_S16x300x256) bitsLt_bf16_f32 (ix3 b r q) : EReal)
    = Row.refOut (rowOf V0 b (⟨q.val / 32, by omega⟩ : Fin 8) r) (fun s => (V0 (Proc.devRef .tc main_v0_1) : S16x8192x8x32.Idx → EReal) (ix4 b s (⟨q.val / 32, by omega⟩ : Fin 8) (⟨q.val % 32, by omega⟩ : Fin 32)))
      ((V0 (Proc.devRef .tc main_arg4) : S16x8.Idx → EReal) (ix2 b (⟨q.val / 32, by omega⟩ : Fin 8))) := by
  refine (v72_raw (res_main_v39 V0) (res_main_v52 V0) (V0 (Proc.devRef .tc main_v0_1)) (V0 (Proc.devRef .tc main_arg4)) b r q).trans ?_
  unfold Row.refOut Row.refScale Row.refCode
  rw [v52_at]
  exact congrArg (· * _) (Finset.sum_congr rfl fun s _ => by rw [v39_at])

end Cert.ReferenceIdeal.Read

end
-- ==== Proof.ReferenceIdeal.Result.lean ====
/-
  The reference's result over the extended reals: the widened codes are the codes, and each entry of the array the reference
  returns is the row's result.
-/
module

public import proofs.«01_k».proof.Proof.ReferenceIdeal.Read

@[expose] public section

set_option maxRecDepth 65536

noncomputable section

namespace Cert.ReferenceIdeal.Read

open Cert.ReferenceIdeal Cert.ReferenceIdeal.Gen Cert.ReferenceIdeal.Value
open Idealize.ShloMosaic Idealize.ShloMosaic.TcCoe Idealize.ShloMosaic.Tactic
open Idealize.SL Idealize.SL.Sem

variable (m : (ℓ : Loc nD τ sig) → Buf (Elt Ideal) ℓ) (c : Dev nD)

theorem out2_eq (x0 x1 : Vec Ideal S16x8192x8x32 .fp8e4m3) : (out0_2 x0 x1 : S16x8192x8x32.Idx → EReal) = x0 := by
  unfold out0_2
  rw [View.canon_cons_unit_lit (by decide) _ _ (by decide), View.ld_unit_lit (by decide) _ (by decide)]
  rfl
theorem out3_eq (x0 x1 : Vec Ideal S16x8192x8x32 .fp8e4m3) : (out0_3 x0 x1 : S16x8192x8x32.Idx → EReal) = x1 := by
  unfold out0_3
  rw [View.canon_cons_unit_lit (by decide) _ _ (by decide), View.ld_unit_lit (by decide) _ (by decide)]
  rfl

/-- The keys' widened codes are their codes. -/
theorem key_codes : (reg_main_v0_0 m c : S16x8192x8x32.Idx → EReal) = m ((c.tc : Thread nD τ).loc main_arg1) := by
  unfold reg_main_v0_0
  refine (Gen.dats m 0 c).arrAt_eq_of_covers 2 (m ((c.tc : Thread nD τ).loc main_arg1) : S16x8192x8x32.Idx → EReal) (by decide +kernel) fun t hf y => ?_
  blk_simp
  rw [Gen.after0_2]
  rw [out2_eq]
  show Gen.V m c main_arg1 ((win0_0.blk t).view.emb y) = _
  exact congrFun (Gen.V_main_arg1 m c) _

/-- The values' widened codes are their codes. -/
theorem value_codes : (reg_main_v0_1 m c : S16x8192x8x32.Idx → EReal) = m ((c.tc : Thread nD τ).loc main_arg3) := by
  unfold reg_main_v0_1
  refine (Gen.dats m 0 c).arrAt_eq_of_covers 3 (m ((c.tc : Thread nD τ).loc main_arg3) : S16x8192x8x32.Idx → EReal) (by decide +kernel) fun t hf y => ?_
  blk_simp
  rw [Gen.after0_3]
  rw [out3_eq]
  show Gen.V m c main_arg3 ((win0_1.blk t).view.emb y) = _
  exact congrFun (Gen.V_main_arg3 m c) _

/-- A row's scores, read at the arguments. -/
theorem rowOf_exit (b : Fin 16) (h : Fin 8) (r : Fin 300) :
    rowOf (exitV m c) b h r = Row.scoreRow (fun d => (m ((c.tc : Thread nD τ).loc main_arg0) : S16x300x8x32.Idx → EReal) (ix4 b r h d))
      (fun s d => (m ((c.tc : Thread nD τ).loc main_arg1) : S16x8192x8x32.Idx → EReal) (ix4 b s h d))
      ((m ((c.tc : Thread nD τ).loc main_arg2) : S16x8.Idx → EReal) (ix2 b h))
      (fun j => (m ((c.tc : Thread nD τ).loc main_arg5) : S16x300x256.Idx → BitVec 32) (ix3 b r j)) := by
  unfold rowOf
  rw [exit_main_arg0, exit_main_arg2, exit_main_arg5, exit_main_v0_0, key_codes]

/-- The reference's result as a function of its arguments: each row's result. -/
def resultAt (b : Fin 16) (r : Fin 300) (q : Fin 256) : EReal :=
  Row.spec (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    b (⟨q.val / 32, by omega⟩ : Fin 8) r (⟨q.val % 32, by omega⟩ : Fin 32)

/-- The row formula over the launch's arrays is the one over the arguments. -/
theorem exit_at (b : Fin 16) (r : Fin 300) (q : Fin 256) :
    Row.refOut (rowOf (exitV m c) b (⟨q.val / 32, by omega⟩ : Fin 8) r) (fun s => (exitV m c (Proc.devRef .tc main_v0_1) : S16x8192x8x32.Idx → EReal) (ix4 b s (⟨q.val / 32, by omega⟩ : Fin 8) (⟨q.val % 32, by omega⟩ : Fin 32)))
      ((exitV m c (Proc.devRef .tc main_arg4) : S16x8.Idx → EReal) (ix2 b (⟨q.val / 32, by omega⟩ : Fin 8))) = resultAt m c b r q := by
  rw [rowOf_exit, exit_main_arg4, exit_main_v0_1, value_codes]
  rfl

/-- The reference runs; the array it returns holds each row's result, and its arguments end as they were. -/
theorem run_result (ρ : Dev nD → PrngReg) :
    θ_run defs (onTc (τ := τ) (main (F := Ideal))) ⟨m, fun _ => 0, ρ⟩ fun r => ∀ c : Dev nD,
      r.2.mem ((c.tc : Thread nD τ).loc main_v72) = (fun y : S16x300x256.Idx => resultAt m c (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans (funext fun y => ?_), (h c).2⟩) (Value.run m ρ)
  have e : y = ix3 (y 0) (y 1) (y 2) := by funext a; fin_cases a <;> rfl
  rw [e]
  exact (v72_at (exitV m c) (y 0) (y 1) (y 2)).trans (exit_at m c (y 0) (y 1) (y 2))

end Cert.ReferenceIdeal.Read

end
-- ==== Proof.Pre.lean ====
/-
  What the precondition says: every query entry is a real number, every key scale a real number that is not negative.
-/
module

public import proofs.«01_k».proof.Defs
public import proofs.«01_k».proof.Proof.ReferenceIdeal.Read
public import proofs.«01_k».proof.Proof.KernelIdeal.Launch

@[expose] public section

set_option maxRecDepth 65536

noncomputable section

namespace Cert.Proof

open Idealize.ShloMosaic Idealize.ShloMosaic.TcCoe Idealize.ShloMosaic.Tactic
open Idealize.SL Idealize.SL.Sem

/-- The side conditions of the precondition's operations. -/
theorem preFacts : Cert.Pre_finite_queries.Facts where
  bcast_S_S16x300x8x32 := by decide
  reducesTo_S16x300x8x32_S_d0_1_2_3 := by decide
  h_S_ := by decide
  bcast_S_S16x8 := by decide
  reducesTo_S16x8_S_d0_1 := by decide

/-- The largest bit patterns of the two formats read as infinity. -/
theorem top_bits_bf16 : Ideal.ofBits .bf16 32640#16 = (⊤ : EReal) := by
  simp [Ideal.ofBits, Ideal.ieee]
theorem top_bits_f32 : Ideal.ofBits .f32 2139095040#32 = (⊤ : EReal) := by
  simp [Ideal.ofBits, Ideal.ieee]

/-- A flag is set exactly when its condition holds. -/
theorem flag_iff (p : Prop) [Decidable p] : BitVec.ofBool (decide p) = 1#1 ↔ p := by
  by_cases h : p <;> simp [h]

/-- A value whose magnitude is not infinite is a real number. -/
theorem real_of_abs (x : EReal) (h : (FloatOps.absf (F := Ideal) (φ := .bf16) x : EReal) < ⊤) : ∃ r : ℝ, x = r := by
  induction x with
  | bot => exact absurd h (by simp [FloatOps.absf])
  | coe r => exact ⟨r, rfl⟩
  | top => exact absurd h (by simp [FloatOps.absf])

/-- A value from zero up that is not infinite is a real number that is not negative. -/
theorem real_of_range (x : EReal) (h0 : 0 ≤ x) (h1 : x < ⊤) : ∃ r : ℝ, 0 ≤ r ∧ x = r := by
  induction x with
  | bot => exact absurd h0 (by simp)
  | coe r => exact ⟨r, by exact_mod_cast h0, rfl⟩
  | top => exact absurd h1 (by simp)

open Cert.Pre_finite_queries Cert.ReferenceIdeal.Read in
/-- The precondition at its one entry. -/
theorem fn_true [Cert.Pre_finite_queries.Facts] (q : FVec Ideal S16x300x8x32 .bf16) (k : FVec Ideal S16x8192x8x32 .fp8e4m3) (ks : FVec Ideal S16x8 .f32) (v : FVec Ideal S16x8192x8x32 .fp8e4m3)
    (vs : FVec Ideal S16x8 .f32) (mb : IVec S16x300x256 32) (h : ∀ i, fn (F := Ideal) q k ks v vs mb i = 1#1) :
    (∀ y, ∃ x : ℝ, (q : S16x300x8x32.Idx → EReal) y = x) ∧ (∀ y, ∃ x : ℝ, 0 ≤ x ∧ (ks : S16x8.Idx → EReal) y = x) := by
  have h0 := h (fun a => a.elim0)
  unfold fn at h0
  pointwise [] at h0
  rw [andi_one, fold_and, fold_and, top_bits_bf16, top_bits_f32] at h0
  refine ⟨fun y => ?_, fun y => ?_⟩
  · have h1 := h0.1 y (Finset.mem_filter.mpr ⟨Finset.mem_univ _, funext fun a => a.elim0⟩)
    exact real_of_abs _ ((flag_iff _).mp h1)
  · have h2 : ∀ (a : Fin 16) (b : Fin 8), ∃ x : ℝ, 0 ≤ x ∧ (ks : S16x8.Idx → EReal) (ix2 a b) = x := fun a b => by
      have h1 := (andi_one _ _).mp (h0.2 (a, b) (Finset.mem_univ _))
      exact real_of_range _ ((flag_iff _).mp h1.1) ((flag_iff _).mp h1.2)
    have e : y = ix2 (y 0 : Fin 16) (y 1 : Fin 8) := by funext a; fin_cases a <;> rfl
    rw [e]
    exact h2 _ _

/-- Under the precondition the kernel's queries are real numbers and its key scales are real numbers that are not negative. -/
theorem fine [Cert.Pre_finite_queries.Facts] (m : (ℓ : Loc Cert.KernelIdeal.nD Cert.KernelIdeal.τ Cert.KernelIdeal.sig) → Buf (Elt Ideal) ℓ)
    (h : Cert.Pre_KernelIdeal_finite_queries m) (c : Dev Cert.KernelIdeal.nD) : Cert.KernelIdeal.Val.Fine m c :=
  fn_true _ _ _ _ _ _ fun i => congrFun (h c) i

end Cert.Proof

end
-- ==== Proof.lean ====
module

public import proofs.«01_k».proof.Defs
public import proofs.«01_k».proof.Proof.Kernel.Body
public import proofs.«01_k».proof.Proof.KernelIdeal.Body
public import proofs.«01_k».proof.Proof.KernelIdeal.Launch
public import proofs.«01_k».proof.Proof.ReferenceIdeal.Result
public import proofs.«01_k».proof.Proof.Pre
public import proofs.«01_k».proof.Proof.Gen.ReferenceIdeal
public import proofs.«01_k».proof.Proof.Gen.ReferenceIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel runs, leaves its arguments as they were, and ends with every counter at zero. -/
theorem frame_kernel : quiescent_Kernel (hKernel := Cert.Kernel.Gen.facts) := fun m g _ =>
  (θ_run _ _ _).mono (fun _ h => ⟨fun c => Cert.Kernel.Hand.final_args h.1 c, h.2⟩) (Cert.Kernel.Hand.run_main (F := Bits) m g)

/-- The idealized kernel runs, leaves its arguments as they were, and ends with every counter at zero. -/
theorem frame_kernelIdeal : quiescent_KernelIdeal (hKernelIdeal := Cert.KernelIdeal.Gen.facts) := fun m g _ =>
  (θ_run _ _ _).mono (fun _ h => ⟨fun c => Cert.KernelIdeal.Hand.final_args h.1 c, h.2⟩) (Cert.KernelIdeal.Hand.run_main (F := Ideal) m g)

/-- The idealized reference runs, leaves its arguments as they were, and ends with every counter at zero. -/
theorem frame_referenceIdeal : quiescent_ReferenceIdeal (hReferenceIdeal := Cert.ReferenceIdeal.Gen.facts) := fun m g _ =>
  Cert.ReferenceIdeal.Gen.frame (F := Ideal) m g

/-- The two named constants stand for the values written in the kernel. -/
theorem preserves : preserves_Kernel_KernelIdeal :=
  ⟨IdealRules.named_const.statement Cert.KernelIdeal.κ "masked" .f32 0xFF000000#32 ⊥ rfl,
   IdealRules.named_const.statement Cert.KernelIdeal.κ "score_scale" .f32 0x3E8293EE#32
    (((Real.sqrt 32)⁻¹ * (Real.log 2)⁻¹ : ℝ) : EReal) rfl⟩

/-- With equal arguments the two specifications are the same number. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (b : Fin 16) (r : Fin 300) (q : Fin 256) : Cert.ReferenceIdeal.Read.resultAt m' c b r q = Cert.KernelIdeal.Val.resultAt m c b r q := by
  unfold Cert.ReferenceIdeal.Read.resultAt Cert.KernelIdeal.Val.resultAt Cert.KernelIdeal.Val.blockOut
  rw [h0, h1, h2, h3, h4, h5]

/-- Over the reals, from equal arguments and under the precondition, the kernel and the reference return the same array. -/
theorem algebraic : algebraic_KernelIdeal_ReferenceIdeal_pre_finite_queries (hKernelIdeal := Cert.KernelIdeal.Gen.facts)
    (hReferenceIdeal := Cert.ReferenceIdeal.Gen.facts) (hPre_finite_queries := preFacts) := by
  intro m g m' g' hp he
  letI := preFacts
  refine ⟨fun c => (fun y : Cert.KernelIdeal.S16x300x256.Idx => Cert.KernelIdeal.Val.resultAt m c (y 0) (y 1) (y 2)), ?_, ?_⟩
  · exact (θ_run _ _ _).mono (fun r h c => ⟨Cert.KernelIdeal.Val.final_out m h.1 c, Cert.KernelIdeal.Val.final_args m h.1 c⟩)
      (Cert.KernelIdeal.Val.run_main m g (fun c => fine m hp c))
  · refine (θ_run _ _ _).mono (fun r h c => ⟨(h c).1.trans (funext fun y => ?_), (h c).2⟩) (Cert.ReferenceIdeal.Read.run_result m' g')
    obtain ⟨h0, h1, h2, h3, h4, h5⟩ := he c
    exact result_eq m m' c h0 h1 h2 h3 h4 h5 (y 0) (y 1) (y 2)

theorem claim : Cert.Claim :=
  ⟨Cert.Kernel.Gen.facts, Cert.KernelIdeal.Gen.facts, Cert.ReferenceIdeal.Gen.facts, preFacts,
    frame_kernel, frame_kernelIdeal, fun m g _ => frame_kernelIdeal m g trivial, frame_referenceIdeal,
    fun m g _ => frame_referenceIdeal m g trivial, preserves, algebraic⟩

end Cert.Proof

end
